-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "rope_step" .f32 0xBE135D8E#32 (((-(Real.log 10000)) * 64⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![1, 8192, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.block ⟨3, ![1, 2048, 1024]⟩ ⟨3, ![1, 8192, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_ReferenceIdeal.lean ====
abbrev S1x8192x1024 : Shape := ⟨3, ![1, 8192, 1024]⟩
abbrev S1024x1024 : Shape := ⟨2, ![1024, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x8192x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S2048x1024 : Shape := ⟨2, ![2048, 1024]⟩
abbrev S8x2048x128 : Shape := ⟨3, ![8, 2048, 128]⟩
abbrev S1024x512 : Shape := ⟨2, ![1024, 512]⟩
abbrev S4x2048x128 : Shape := ⟨3, ![4, 2048, 128]⟩
abbrev S2048x128 : Shape := ⟨2, ![2048, 128]⟩
abbrev S128x128 : Shape := ⟨2, ![128, 128]⟩
abbrev S2048x512 : Shape := ⟨2, ![2048, 512]⟩
abbrev S1x2048x128 : Shape := ⟨3, ![1, 2048, 128]⟩
abbrev S8 : Shape := ⟨1, ![8]⟩
abbrev S_ : Shape := ⟨0, ![]⟩
abbrev S1 : Shape := ⟨1, ![1]⟩
abbrev S1x512x128 : Shape := ⟨3, ![1, 512, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S128x1024 : Shape := ⟨2, ![128, 1024]⟩

abbrev nBuf : Space → Nat
  | .hbm => 12
  | .vmem => 31
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .hbm, ⟨6, _⟩ => ⟨S8x2048x128, .bf16⟩
  | .hbm, ⟨7, _⟩ => ⟨S8x2048x128, .bf16⟩
  | .hbm, ⟨8, _⟩ => ⟨S8x2048x128, .bf16⟩
  | .hbm, ⟨9, _⟩ => ⟨S8x2048x128, .f32⟩
  | .hbm, ⟨10, _⟩ => ⟨S2048x1024, .f32⟩
  | .hbm, ⟨11, _⟩ => ⟨S1x2048x1024, .f32⟩
  | .local _ .vmem, ⟨0, _⟩ => ⟨S2048x1024, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S4x2048x128, .bf16⟩
  | .local _ .vmem, ⟨8, _⟩ => ⟨S4x2048x128, .bf16⟩
  | .local _ .vmem, ⟨9, _⟩ => ⟨S4x2048x128, .bf16⟩
  | .local _ .vmem, ⟨10, _⟩ => ⟨S4x2048x128, .bf16⟩
  | .local _ .vmem, ⟨11, _⟩ => ⟨S4x2048x128, .bf16⟩
  | .local _ .vmem, ⟨12, _⟩ => ⟨S4x2048x128, .bf16⟩
  | .local _ .vmem, ⟨13, _⟩ => ⟨S2048x128, .f32⟩
  | .local _ .vmem, ⟨14, _⟩ => ⟨S2048x128, .f32⟩
  | .local _ .vmem, ⟨15, _⟩ => ⟨S8x2048x128, .bf16⟩
  | .local _ .vmem, ⟨16, _⟩ => ⟨S8x2048x128, .bf16⟩
  | .local _ .vmem, ⟨17, _⟩ => ⟨S8x2048x128, .bf16⟩
  | .local _ .vmem, ⟨18, _⟩ => ⟨S8x2048x128, .f32⟩
  | .local _ .vmem, ⟨19, _⟩ => ⟨S8x2048x128, .bf16⟩
  | .local _ .vmem, ⟨20, _⟩ => ⟨S8x2048x128, .bf16⟩
  | .local _ .vmem, ⟨21, _⟩ => ⟨S8x2048x128, .bf16⟩
  | .local _ .vmem, ⟨22, _⟩ => ⟨S8x2048x128, .bf16⟩
  | .local _ .vmem, ⟨23, _⟩ => ⟨S8x2048x128, .bf16⟩
  | .local _ .vmem, ⟨24, _⟩ => ⟨S8x2048x128, .bf16⟩
  | .local _ .vmem, ⟨25, _⟩ => ⟨S8x2048x128, .f32⟩
  | .local _ .vmem, ⟨26, _⟩ => ⟨S1x2048x128, .f32⟩
  | .local _ .vmem, ⟨27, _⟩ => ⟨S1x2048x128, .f32⟩
  | .local _ .vmem, ⟨28, _⟩ => ⟨S128x1024, .f32⟩
  | .local _ .vmem, ⟨29, _⟩ => ⟨S128x1024, .f32⟩
  | .local _ .vmem, ⟨30, _⟩ => ⟨S2048x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch3 : Ref sig .tc := ⟨.vmem, 22, rfl⟩
abbrev cc1_scratch4 : Ref sig .tc := ⟨.vmem, 23, rfl⟩
abbrev cc1_scratch5 : Ref sig .tc := ⟨.vmem, 24, rfl⟩
abbrev cc1_scratch6 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev barrier0 : Sem sig := 0

abbrev nD : Nat := 4
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k1_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k1_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_12 : BitVec 32 := 1#32
  let v13 : BitVec 32 := Scalar.muli v7 c1_i32_12
  let v14 : BitVec 32 := Scalar.addi c0_i32_13 v13
  v14.toNat
def k1_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_16 : BitVec 32 := 1#32
  let v19 : BitVec 32 := Scalar.muli v7 c1_i32_16
  let v20 : BitVec 32 := Scalar.addi c0_i32_17 v19
  v20.toNat
def k1_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_20 : BitVec 32 := 1#32
  let v25 : BitVec 32 := Scalar.muli v5 c1_i32_20
  let v26 : BitVec 32 := Scalar.addi c0_i32_21 v25
  v26.toNat
def k1_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_23 : BitVec 32 := 1#32
  let v31 : BitVec 32 := Scalar.muli v5 c1_i32_23
  let v32 : BitVec 32 := Scalar.addi c0_i32_24 v31
  v32.toNat
@[reducible] def k1_t1_loop : Scf.Loop 32 :=
  let c0_i32_25 : BitVec 32 := 0#32
  let c8_i32 : BitVec 32 := 8#32
  let v37 : BitVec 32 := Scalar.addi c0_i32_25 c8_i32
  let c1_i32_26 : BitVec 32 := 1#32
  ⟨c0_i32_25, v37, c1_i32_26⟩
def k1_off1 (k1_t1 : Fin k1_t1_loop.trips) : Fin 3 → Nat :=
  let c0_i32_25 : BitVec 32 := 0#32
  let c1_i32_26 : BitVec 32 := 1#32
  let arg13 : BitVec 32 := Scf.iv c0_i32_25 c1_i32_26 k1_t1
  let v138 : Index := Scalar.indexCast arg13
  let c0 : Index := 0#32
  let c0_185 : Index := 0#32
  ![v138.toNat, 0, 0]
def k1_off2 (k1_t1 : Fin k1_t1_loop.trips) : Fin 3 → Nat :=
  let c0_i32_25 : BitVec 32 := 0#32
  let c1_i32_26 : BitVec 32 := 1#32
  let arg13 : BitVec 32 := Scf.iv c0_i32_25 c1_i32_26 k1_t1
  let v144 : Index := Scalar.indexCast arg13
  let c0_188 : Index := 0#32
  let c0_189 : Index := 0#32
  ![v144.toNat, 0, 0]
def k1_off3 (k1_t1 : Fin k1_t1_loop.trips) : Fin 3 → Nat :=
  let c0_i32_25 : BitVec 32 := 0#32
  let c1_i32_26 : BitVec 32 := 1#32
  let arg13 : BitVec 32 := Scf.iv c0_i32_25 c1_i32_26 k1_t1
  let v164 : Index := Scalar.indexCast arg13
  let c512 : Index := 512#32
  let c0_196 : Index := 0#32
  ![v164.toNat, 512, 0]
def k1_off4 (k1_t1 : Fin k1_t1_loop.trips) : Fin 3 → Nat :=
  let c0_i32_25 : BitVec 32 := 0#32
  let c1_i32_26 : BitVec 32 := 1#32
  let arg13 : BitVec 32 := Scf.iv c0_i32_25 c1_i32_26 k1_t1
  let v184 : Index := Scalar.indexCast arg13
  let c1024 : Index := 1024#32
  let c0_204 : Index := 0#32
  ![v184.toNat, 1024, 0]
def k1_off5 (k1_t1 : Fin k1_t1_loop.trips) : Fin 3 → Nat :=
  let c0_i32_25 : BitVec 32 := 0#32
  let c1_i32_26 : BitVec 32 := 1#32
  let arg13 : BitVec 32 := Scf.iv c0_i32_25 c1_i32_26 k1_t1
  let v204 : Index := Scalar.indexCast arg13
  let c1536 : Index := 1536#32
  let c0_212 : Index := 0#32
  ![v204.toNat, 1536, 0]
def k1_dev7 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_44 : BitVec 32 := 1#32
  let v50 : BitVec 32 := Scalar.muli v7 c1_i32_44
  let v51 : BitVec 32 := Scalar.addi c0_i32_45 v50
  v51.toNat
def k1_dev8 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_53 : BitVec 32 := 1#32
  let v58 : BitVec 32 := Scalar.muli v7 c1_i32_53
  let v59 : BitVec 32 := Scalar.addi c0_i32_54 v58
  v59.toNat
def k1_dev9 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_76 : BitVec 32 := 1#32
  let v78 : BitVec 32 := Scalar.muli v5 c1_i32_76
  let v79 : BitVec 32 := Scalar.addi c0_i32_77 v78
  v79.toNat
def k1_dev10 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_85 : BitVec 32 := 1#32
  let v86 : BitVec 32 := Scalar.muli v5 c1_i32_85
  let v87 : BitVec 32 := Scalar.addi c0_i32_86 v86
  v87.toNat
@[reducible] def k1_t2_loop : Scf.Loop 32 :=
  let c0_i32_93 : BitVec 32 := 0#32
  let c8_i32_94 : BitVec 32 := 8#32
  let v94 : BitVec 32 := Scalar.addi c0_i32_93 c8_i32_94
  let c1_i32_95 : BitVec 32 := 1#32
  ⟨c0_i32_93, v94, c1_i32_95⟩
def k1_off6 (k1_t2 : Fin k1_t2_loop.trips) : Fin 3 → Nat :=
  let c0_i32_93 : BitVec 32 := 0#32
  let c1_i32_95 : BitVec 32 := 1#32
  let arg13 : BitVec 32 := Scf.iv c0_i32_93 c1_i32_95 k1_t2
  let v138 : Index := Scalar.indexCast arg13
  let c0 : Index := 0#32
  let c0_185 : Index := 0#32
  ![v138.toNat, 0, 0]
def k1_off7 (k1_t2 : Fin k1_t2_loop.trips) : Fin 3 → Nat :=
  let c0_i32_93 : BitVec 32 := 0#32
  let c1_i32_95 : BitVec 32 := 1#32
  let arg13 : BitVec 32 := Scf.iv c0_i32_93 c1_i32_95 k1_t2
  let v144 : Index := Scalar.indexCast arg13
  let c0_188 : Index := 0#32
  let c0_189 : Index := 0#32
  ![v144.toNat, 0, 0]
def k1_off8 (k1_t2 : Fin k1_t2_loop.trips) : Fin 3 → Nat :=
  let c0_i32_93 : BitVec 32 := 0#32
  let c1_i32_95 : BitVec 32 := 1#32
  let arg13 : BitVec 32 := Scf.iv c0_i32_93 c1_i32_95 k1_t2
  let v172 : Index := Scalar.indexCast arg13
  let c512 : Index := 512#32
  let c0_200 : Index := 0#32
  ![v172.toNat, 512, 0]
def k1_off9 (k1_t2 : Fin k1_t2_loop.trips) : Fin 3 → Nat :=
  let c0_i32_93 : BitVec 32 := 0#32
  let c1_i32_95 : BitVec 32 := 1#32
  let arg13 : BitVec 32 := Scf.iv c0_i32_93 c1_i32_95 k1_t2
  let v200 : Index := Scalar.indexCast arg13
  let c1024 : Index := 1024#32
  let c0_212 : Index := 0#32
  ![v200.toNat, 1024, 0]
def k1_off10 (k1_t2 : Fin k1_t2_loop.trips) : Fin 3 → Nat :=
  let c0_i32_93 : BitVec 32 := 0#32
  let c1_i32_95 : BitVec 32 := 1#32
  let arg13 : BitVec 32 := Scf.iv c0_i32_93 c1_i32_95 k1_t2
  let v228 : Index := Scalar.indexCast arg13
  let c1536 : Index := 1536#32
  let c0_224 : Index := 0#32
  ![v228.toNat, 1536, 0]
@[reducible] def k1_t3_loop : Scf.Loop 32 :=
  let c0_i32_97 : BitVec 32 := 0#32
  let c8_i32_98 : BitVec 32 := 8#32
  let v95 : BitVec 32 := Scalar.addi c0_i32_97 c8_i32_98
  let c1_i32_99 : BitVec 32 := 1#32
  ⟨c0_i32_97, v95, c1_i32_99⟩
def k1_off11 (k1_t3 : Fin k1_t3_loop.trips) : Fin 3 → Nat :=
  let c0_i32_97 : BitVec 32 := 0#32
  let c1_i32_99 : BitVec 32 := 1#32
  let arg13 : BitVec 32 := Scf.iv c0_i32_97 c1_i32_99 k1_t3
  let v138 : Index := Scalar.indexCast arg13
  let c0 : Index := 0#32
  let c0_185 : Index := 0#32
  ![v138.toNat, 0, 0]
def k1_off12 (k1_t3 : Fin k1_t3_loop.trips) : Fin 3 → Nat :=
  let c0_i32_97 : BitVec 32 := 0#32
  let c1_i32_99 : BitVec 32 := 1#32
  let arg13 : BitVec 32 := Scf.iv c0_i32_97 c1_i32_99 k1_t3
  let v144 : Index := Scalar.indexCast arg13
  let c0_188 : Index := 0#32
  let c0_189 : Index := 0#32
  ![v144.toNat, 0, 0]
def k1_off13 (k1_t3 : Fin k1_t3_loop.trips) : Fin 3 → Nat :=
  let c0_i32_97 : BitVec 32 := 0#32
  let c1_i32_99 : BitVec 32 := 1#32
  let arg13 : BitVec 32 := Scf.iv c0_i32_97 c1_i32_99 k1_t3
  let v172 : Index := Scalar.indexCast arg13
  let c512 : Index := 512#32
  let c0_200 : Index := 0#32
  ![v172.toNat, 512, 0]
def k1_off14 (k1_t3 : Fin k1_t3_loop.trips) : Fin 3 → Nat :=
  let c0_i32_97 : BitVec 32 := 0#32
  let c1_i32_99 : BitVec 32 := 1#32
  let arg13 : BitVec 32 := Scf.iv c0_i32_97 c1_i32_99 k1_t3
  let v200 : Index := Scalar.indexCast arg13
  let c1024 : Index := 1024#32
  let c0_212 : Index := 0#32
  ![v200.toNat, 1024, 0]
def k1_off15 (k1_t3 : Fin k1_t3_loop.trips) : Fin 3 → Nat :=
  let c0_i32_97 : BitVec 32 := 0#32
  let c1_i32_99 : BitVec 32 := 1#32
  let arg13 : BitVec 32 := Scf.iv c0_i32_97 c1_i32_99 k1_t3
  let v228 : Index := Scalar.indexCast arg13
  let c1536 : Index := 1536#32
  let c0_224 : Index := 0#32
  ![v228.toNat, 1536, 0]
@[reducible] def k1_t4_loop : Scf.Loop 32 :=
  let c0_i32_177 : BitVec 32 := 0#32
  let c8_i32_178 : BitVec 32 := 8#32
  let v136 : BitVec 32 := Scalar.addi c0_i32_177 c8_i32_178
  let c1_i32_179 : BitVec 32 := 1#32
  ⟨c0_i32_177, v136, c1_i32_179⟩
def k1_off16 (k1_t4 : Fin k1_t4_loop.trips) : Fin 3 → Nat :=
  let c0_i32_177 : BitVec 32 := 0#32
  let c1_i32_179 : BitVec 32 := 1#32
  let arg13 : BitVec 32 := Scf.iv c0_i32_177 c1_i32_179 k1_t4
  let v138 : Index := Scalar.indexCast arg13
  let c0 : Index := 0#32
  let c0_185 : Index := 0#32
  ![v138.toNat, 0, 0]
def k1_off17 (k1_t4 : Fin k1_t4_loop.trips) : Fin 3 → Nat :=
  let c0_i32_177 : BitVec 32 := 0#32
  let c1_i32_179 : BitVec 32 := 1#32
  let arg13 : BitVec 32 := Scf.iv c0_i32_177 c1_i32_179 k1_t4
  let v144 : Index := Scalar.indexCast arg13
  let c0_188 : Index := 0#32
  let c0_189 : Index := 0#32
  ![v144.toNat, 0, 0]
def k1_off18 (k1_t4 : Fin k1_t4_loop.trips) : Fin 3 → Nat :=
  let c0_i32_177 : BitVec 32 := 0#32
  let c1_i32_179 : BitVec 32 := 1#32
  let arg13 : BitVec 32 := Scf.iv c0_i32_177 c1_i32_179 k1_t4
  let v172 : Index := Scalar.indexCast arg13
  let c512 : Index := 512#32
  let c0_200 : Index := 0#32
  ![v172.toNat, 512, 0]
def k1_off19 (k1_t4 : Fin k1_t4_loop.trips) : Fin 3 → Nat :=
  let c0_i32_177 : BitVec 32 := 0#32
  let c1_i32_179 : BitVec 32 := 1#32
  let arg13 : BitVec 32 := Scf.iv c0_i32_177 c1_i32_179 k1_t4
  let v200 : Index := Scalar.indexCast arg13
  let c1024 : Index := 1024#32
  let c0_212 : Index := 0#32
  ![v200.toNat, 1024, 0]
def k1_off20 (k1_t4 : Fin k1_t4_loop.trips) : Fin 3 → Nat :=
  let c0_i32_177 : BitVec 32 := 0#32
  let c1_i32_179 : BitVec 32 := 1#32
  let arg13 : BitVec 32 := Scf.iv c0_i32_177 c1_i32_179 k1_t4
  let v228 : Index := Scalar.indexCast arg13
  let c1536 : Index := 1536#32
  let c0_224 : Index := 0#32
  ![v228.toNat, 1536, 0]
@[reducible] def k1_t5_loop : Scf.Loop 32 :=
  let c0_i32_181 : BitVec 32 := 0#32
  let c8_i32_182 : BitVec 32 := 8#32
  let v137 : BitVec 32 := Scalar.addi c0_i32_181 c8_i32_182
  let c1_i32_183 : BitVec 32 := 1#32
  ⟨c0_i32_181, v137, c1_i32_183⟩
def k1_off21 (k1_t5 : Fin k1_t5_loop.trips) : Fin 3 → Nat :=
  let c0_i32_181 : BitVec 32 := 0#32
  let c1_i32_183 : BitVec 32 := 1#32
  let arg13 : BitVec 32 := Scf.iv c0_i32_181 c1_i32_183 k1_t5
  let v138 : Index := Scalar.indexCast arg13
  let c0 : Index := 0#32
  let c0_185 : Index := 0#32
  ![v138.toNat, 0, 0]
def k1_off22 (k1_t5 : Fin k1_t5_loop.trips) : Fin 3 → Nat :=
  let c0_i32_181 : BitVec 32 := 0#32
  let c1_i32_183 : BitVec 32 := 1#32
  let arg13 : BitVec 32 := Scf.iv c0_i32_181 c1_i32_183 k1_t5
  let v149 : Index := Scalar.indexCast arg13
  let c512 : Index := 512#32
  let c0_190 : Index := 0#32
  ![v149.toNat, 512, 0]
def k1_off23 (k1_t5 : Fin k1_t5_loop.trips) : Fin 3 → Nat :=
  let c0_i32_181 : BitVec 32 := 0#32
  let c1_i32_183 : BitVec 32 := 1#32
  let arg13 : BitVec 32 := Scf.iv c0_i32_181 c1_i32_183 k1_t5
  let v160 : Index := Scalar.indexCast arg13
  let c1024 : Index := 1024#32
  let c0_195 : Index := 0#32
  ![v160.toNat, 1024, 0]
def k1_off24 (k1_t5 : Fin k1_t5_loop.trips) : Fin 3 → Nat :=
  let c0_i32_181 : BitVec 32 := 0#32
  let c1_i32_183 : BitVec 32 := 1#32
  let arg13 : BitVec 32 := Scf.iv c0_i32_181 c1_i32_183 k1_t5
  let v171 : Index := Scalar.indexCast arg13
  let c1536 : Index := 1536#32
  let c0_200 : Index := 0#32
  ![v171.toNat, 1536, 0]
abbrev stage1_0 : Fin 1 → Memref sig .tc .vmem S8x2048x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x2048x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x2048x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_4 : BitVec 32 := 0#32
  let v9 : BitVec 1 := Scalar.cmpi .ne v8 c0_i32_4
  v9

def k2_cond2 (i : grid2.Coords) : BitVec 1 :=
  let arg0 : BitVec 32 := BitVec.ofNat 32 (i 0).val
  let c0_i32_5 : BitVec 32 := 0#32
  let v10 : BitVec 1 := Scalar.cmpi .sgt arg0 c0_i32_5
  let v11 : BitVec 32 := Scalar.extui v10
  let c0_i32_6 : BitVec 32 := 0#32
  let v12 : BitVec 1 := Scalar.cmpi .ne v11 c0_i32_6
  v12

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]
-- ==== KernelIdeal.lean ====
variable {F : FTy → Type} [FloatOps F] [Named F]
def κ : String → Option EReal := fun
  | "rope_step" => some (((-(Real.log 10000)) * 64⁻¹ : ℝ) : EReal)
  | _ => none
-- ==== ReferenceIdeal.lean ====
abbrev S1x8192x1024 : Shape := ⟨3, ![1, 8192, 1024]⟩
abbrev S1024x1024 : Shape := ⟨2, ![1024, 1024]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x64x2 : Shape := ⟨3, ![8192, 64, 2]⟩
abbrev S8192x128 : Shape := ⟨2, ![8192, 128]⟩
abbrev S1x8192x8x128 : Shape := ⟨4, ![1, 8192, 8, 128]⟩
abbrev S1x8192x8x64x2 : Shape := ⟨5, ![1, 8192, 8, 64, 2]⟩
abbrev S1x8192x8x64x1 : Shape := ⟨5, ![1, 8192, 8, 64, 1]⟩
abbrev S1x8192x8x64 : Shape := ⟨4, ![1, 8192, 8, 64]⟩
abbrev S1x8192x1x128 : Shape := ⟨4, ![1, 8192, 1, 128]⟩
abbrev S1x8x8192x8192 : Shape := ⟨4, ![1, 8, 8192, 8192]⟩
abbrev S1x8x8192 : Shape := ⟨3, ![1, 8, 8192]⟩
abbrev S1x8x8192x1 : Shape := ⟨4, ![1, 8, 8192, 1]⟩
abbrev S1x8x128x8192 : Shape := ⟨4, ![1, 8, 128, 8192]⟩

abbrev nBuf : Space → Nat
  | .hbm => 94
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S8192, .i32⟩
  | .hbm, ⟨23, _⟩ => ⟨S8192x1, .i32⟩
  | .hbm, ⟨24, _⟩ => ⟨S1x64, .f32⟩
  | .hbm, ⟨25, _⟩ => ⟨S8192x1, .f32⟩
  | .hbm, ⟨26, _⟩ => ⟨S8192x64, .f32⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S8192x64x2, .f32⟩
  | .hbm, ⟨31, _⟩ => ⟨S8192x128, .f32⟩
  | .hbm, ⟨32, _⟩ => ⟨S8192x64, .f32⟩
  | .hbm, ⟨33, _⟩ => ⟨S8192x64x2, .f32⟩
  | .hbm, ⟨34, _⟩ => ⟨S8192x128, .f32⟩
  | .hbm, ⟨35, _⟩ => ⟨S1x8192x1024, .f32⟩
  | .hbm, ⟨36, _⟩ => ⟨S1x8192x8x128, .f32⟩
  | .hbm, ⟨37, _⟩ => ⟨S1x8192x8x64x2, .f32⟩
  | .hbm, ⟨38, _⟩ => ⟨S1x8192x8x64x1, .f32⟩
  | .hbm, ⟨39, _⟩ => ⟨S1x8192x8x64, .f32⟩
  | .hbm, ⟨40, _⟩ => ⟨S1x8192x8x64, .f32⟩
  | .hbm, ⟨41, _⟩ => ⟨S1x8192x8x64x1, .f32⟩
  | .hbm, ⟨42, _⟩ => ⟨S1x8192x8x64, .f32⟩
  | .hbm, ⟨43, _⟩ => ⟨S1x8192x8x64x1, .f32⟩
  | .hbm, ⟨44, _⟩ => ⟨S1x8192x8x64x1, .f32⟩
  | .hbm, ⟨45, _⟩ => ⟨S1x8192x8x64x2, .f32⟩
  | .hbm, ⟨46, _⟩ => ⟨S1x8192x8x128, .f32⟩
  | .hbm, ⟨47, _⟩ => ⟨S1x8192x1x128, .f32⟩
  | .hbm, ⟨48, _⟩ => ⟨S1x8192x8x128, .f32⟩
  | .hbm, ⟨49, _⟩ => ⟨S1x8192x8x128, .f32⟩
  | .hbm, ⟨50, _⟩ => ⟨S1x8192x1x128, .f32⟩
  | .hbm, ⟨51, _⟩ => ⟨S1x8192x8x128, .f32⟩
  | .hbm, ⟨52, _⟩ => ⟨S1x8192x8x128, .f32⟩
  | .hbm, ⟨53, _⟩ => ⟨S1x8192x8x128, .f32⟩
  | .hbm, ⟨54, _⟩ => ⟨S1x8192x1024, .f32⟩
  | .hbm, ⟨55, _⟩ => ⟨S1x8192x8x128, .f32⟩
  | .hbm, ⟨56, _⟩ => ⟨S1x8192x8x64x2, .f32⟩
  | .hbm, ⟨57, _⟩ => ⟨S1x8192x8x64x1, .f32⟩
  | .hbm, ⟨58, _⟩ => ⟨S1x8192x8x64, .f32⟩
  | .hbm, ⟨59, _⟩ => ⟨S1x8192x8x64, .f32⟩
  | .hbm, ⟨60, _⟩ => ⟨S1x8192x8x64x1, .f32⟩
  | .hbm, ⟨61, _⟩ => ⟨S1x8192x8x64, .f32⟩
  | .hbm, ⟨62, _⟩ => ⟨S1x8192x8x64x1, .f32⟩
  | .hbm, ⟨63, _⟩ => ⟨S1x8192x8x64x1, .f32⟩
  | .hbm, ⟨64, _⟩ => ⟨S1x8192x8x64x2, .f32⟩
  | .hbm, ⟨65, _⟩ => ⟨S1x8192x8x128, .f32⟩
  | .hbm, ⟨66, _⟩ => ⟨S1x8192x1x128, .f32⟩
  | .hbm, ⟨67, _⟩ => ⟨S1x8192x8x128, .f32⟩
  | .hbm, ⟨68, _⟩ => ⟨S1x8192x8x128, .f32⟩
  | .hbm, ⟨69, _⟩ => ⟨S1x8192x1x128, .f32⟩
  | .hbm, ⟨70, _⟩ => ⟨S1x8192x8x128, .f32⟩
  | .hbm, ⟨71, _⟩ => ⟨S1x8192x8x128, .f32⟩
  | .hbm, ⟨72, _⟩ => ⟨S1x8192x8x128, .f32⟩
  | .hbm, ⟨73, _⟩ => ⟨S1x8192x1024, .f32⟩
  | .hbm, ⟨74, _⟩ => ⟨S1x8192x8x128, .f32⟩
  | .hbm, ⟨75, _⟩ => ⟨S1x8x8192x8192, .f32⟩
  | .hbm, ⟨76, _⟩ => ⟨S_, .f32⟩
  | .hbm, ⟨77, _⟩ => ⟨S1x8x8192x8192, .f32⟩
  | .hbm, ⟨78, _⟩ => ⟨S1x8x8192x8192, .f32⟩
  | .hbm, ⟨79, _⟩ => ⟨S_, .f32⟩
  | .hbm, ⟨80, _⟩ => ⟨S1x8x8192, .f32⟩
  | .hbm, ⟨81, _⟩ => ⟨S1x8x8192x1, .f32⟩
  | .hbm, ⟨82, _⟩ => ⟨S1x8x8192x8192, .f32⟩
  | .hbm, ⟨83, _⟩ => ⟨S1x8x8192x8192, .f32⟩
  | .hbm, ⟨84, _⟩ => ⟨S1x8x8192x8192, .f32⟩
  | .hbm, ⟨85, _⟩ => ⟨S_, .f32⟩
  | .hbm, ⟨86, _⟩ => ⟨S1x8x8192, .f32⟩
  | .hbm, ⟨87, _⟩ => ⟨S1x8x8192x1, .f32⟩
  | .hbm, ⟨88, _⟩ => ⟨S1x8x8192x8192, .f32⟩
  | .hbm, ⟨89, _⟩ => ⟨S1x8x8192x8192, .f32⟩
  | .hbm, ⟨90, _⟩ => ⟨S1x8x128x8192, .f32⟩
  | .hbm, ⟨91, _⟩ => ⟨S1x8192x8x128, .f32⟩
  | .hbm, ⟨92, _⟩ => ⟨S1x8192x1024, .f32⟩
  | .hbm, ⟨93, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.KernelIdeal.Tiles.lean ====
/- The buffers of the fused call, the blocks its loops work on, and what a loop over heads has written
   after some of its trips: plain functions of the contents, with no program in them. -/
module

public import proofs.«01_k».proof.Proof.Gen.KernelIdeal.Skeleton
public import proofs.«01_k».proof.Proof.Gen.KernelIdeal.Loops
public import proofs.«01_k».proof.Proof.Gen.KernelIdeal.Launch
public import Idealize.ShloMosaic.Lib.Exec
public import Idealize.ShloMosaic.Lib.Tactic
public import Idealize.ShloMosaic.Lib.Rounds
public import Idealize.ShloMosaic.Lib.Pipeline.Kit
public import Idealize.ShloMosaic.Lib.Pointwise.Index

@[expose] public section

set_option maxRecDepth 8192

noncomputable section

namespace Cert.KernelIdeal.Fused

open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The ghost state of the exchange: two duties on a barrier cell, one on every other. -/
abbrev UB : Type := URounds (GSem nD τ sig) (Fin 2)
/-- The ghost state of the whole proof: the frame's own, beside the exchange's. -/
abbrev UU : Type := UR sig nD τ × UB
local notation "𝕄" => MT nD τ sig Unit (Elt F) ℕ UU ℕ

/-! ### The buffers -/

abbrev qM : Memref sig .tc .vmem S8x2048x128 .bf16 := Memref.whole cc1_stg0_0
abbrev kM : Memref sig .tc .vmem S8x2048x128 .bf16 := Memref.whole cc1_stg1_0
abbrev vM : Memref sig .tc .vmem S8x2048x128 .bf16 := Memref.whole cc1_stg2_0
abbrev oM : Memref sig .tc .vmem S8x2048x128 .f32 := Memref.whole cc1_stg3_0
abbrev klM : Memref sig .tc .vmem S8x2048x128 .bf16 := Memref.whole cc1_scratch0
abbrev vlM : Memref sig .tc .vmem S8x2048x128 .bf16 := Memref.whole cc1_scratch1
abbrev krM : Memref sig .tc .vmem S8x2048x128 .bf16 := Memref.whole cc1_scratch2
abbrev vrM : Memref sig .tc .vmem S8x2048x128 .bf16 := Memref.whole cc1_scratch3
abbrev koM : Memref sig .tc .vmem S8x2048x128 .bf16 := Memref.whole cc1_scratch4
abbrev voM : Memref sig .tc .vmem S8x2048x128 .bf16 := Memref.whole cc1_scratch5
abbrev lM : Memref sig .tc .vmem S8x2048x128 .f32 := Memref.whole cc1_scratch6

/-- The buffer `m` of device `c`, held whole with share `q` at contents `f`. -/
abbrev held (c : Dev nD) {s : Shape} {e : EltTy} (m : Memref sig .tc .vmem s e) (q : PosShare TreeShare) (f : BufTy.Contents (Elt F) m.view.ty) : sProp 𝕄 :=
  iprop(m.view.loc (c : Thread nD τ) ↦[m.view.set]{q} f)

/-! ### Blocks -/

/-- A whole buffer's index by its three coordinates. -/
def at3 (h : Fin 8) (r : Fin 2048) (d : Fin 128) : S8x2048x128.Idx := ix3 h r d

/-- A block of 512 rows: its index by its coordinates. -/
def blk3 (r : Fin 512) (d : Fin 128) : S1x512x128.Idx := ix3 0 r d

/-- Row `r` of block `b`. -/
def row (b : Fin 4) (r : Fin 512) : Fin 2048 := ⟨512 * b.val + r.val, by omega⟩

/-- Head `h` of a buffer, as the loops load it. -/
def headOf {e : EltTy} (X : S8x2048x128.Idx → Elt F e) (h : Fin 8) : Vec F S1x2048x128 e := fun j => X (at3 h (j 1) (j 2))

/-- Block `b` of 512 rows of head `h` of a buffer, as the loops load it. -/
def rowsOf {e : EltTy} (X : S8x2048x128.Idx → Elt F e) (h : Fin 8) (b : Fin 4) : Vec F S1x512x128 e := fun j => X (at3 h (row b (j 1)) (j 2))

/-- The whole buffer whose blocks are `w`. -/
def tile {e : EltTy} (w : Fin 8 → Fin 4 → Vec F S1x512x128 e) : S8x2048x128.Idx → Elt F e := fun i =>
  w (i 0) ⟨(i 1).val / 512, Nat.div_lt_of_lt_mul (i 1).isLt⟩ (blk3 ⟨(i 1).val % 512, Nat.mod_lt _ (by decide)⟩ (i 2))

/-- Contents after `k` heads have been rewritten: `G` below head `k`, `f` from there on. -/
def mix {e : EltTy} (k : ℕ) (f G : S8x2048x128.Idx → Elt F e) : S8x2048x128.Idx → Elt F e := fun i => if (i 0).val < k then G i else f i

theorem mix_zero {e : EltTy} (f G : S8x2048x128.Idx → Elt F e) : mix 0 f G = f := by
  funext i; exact if_neg (Nat.not_lt_zero _)

theorem mix_all {e : EltTy} (f G : S8x2048x128.Idx → Elt F e) (k : ℕ) (hk : 8 ≤ k) : mix k f G = G := by
  funext i; exact if_pos (lt_of_lt_of_le (i 0).isLt hk)

/-- The rows of the head about to be rewritten are still the old ones. -/
theorem rowsOf_mix {e : EltTy} (f G : S8x2048x128.Idx → Elt F e) (k : ℕ) (h : Fin 8) (hk : k ≤ h.val) (b : Fin 4) : rowsOf (mix k f G) h b = rowsOf f h b := by
  funext j
  have e : (at3 h (row b (j 1)) (j 2) 0).val = h.val := rfl
  exact if_neg (by rw [e]; exact Nat.not_lt.mpr hk)

/-- The block of a tiled buffer at its own place. -/
theorem tile_at {e : EltTy} (w : Fin 8 → Fin 4 → Vec F S1x512x128 e) (h : Fin 8) (b : Fin 4) (x : S1x512x128.Idx) :
    tile w (at3 h (row b (x 1)) (x 2)) = w h b x := by
  have h1 : (x 1).val < 512 := (x 1).isLt
  have hb : (⟨(512 * b.val + (x 1).val) / 512, by omega⟩ : Fin 4) = b := Fin.ext (by show (512 * b.val + (x 1).val) / 512 = b.val; omega)
  have hx : blk3 ⟨(512 * b.val + (x 1).val) % 512, Nat.mod_lt _ (by decide)⟩ (x 2) = x := by
    funext a
    match a with
    | ⟨0, _⟩ => exact Subsingleton.elim (α := Fin 1) _ _
    | ⟨1, _⟩ => exact Fin.ext (by show (512 * b.val + (x 1).val) % 512 = (x 1).val; omega)
    | ⟨2, _⟩ => rfl
  show w h ⟨(512 * b.val + (x 1).val) / 512, _⟩ (blk3 ⟨(512 * b.val + (x 1).val) % 512, _⟩ (x 2)) = w h b x
  rw [hb, hx]

/-- A load of one head. -/
theorem readAt_head {e : EltTy} (v : View sig .tc .vmem S8x2048x128 e) (f : v.ty.Contents (Elt F)) (h : Fin 8) (off : Fin 3 → ℕ) (ho : off = ![h.val, 0, 0])
    (inb : ∀ a, off a + S1x2048x128.size a ≤ S8x2048x128.size a) :
    v.readAt (Elt F) (Rect.unit (s := S8x2048x128) off S1x2048x128.size inb) f = headOf (v.read (Elt F) f) h := by
  subst ho
  funext x
  refine congrArg (v.read (Elt F) f) (funext fun a => ?_)
  match a with
  | ⟨0, _⟩ => exact Fin.ext (by show h.val + 1 * (x 0).val = h.val; have : (x 0).val < 1 := (x 0).isLt; omega)
  | ⟨1, _⟩ => exact Fin.ext (by show 0 + 1 * (x 1).val = (x 1).val; omega)
  | ⟨2, _⟩ => exact Fin.ext (by show 0 + 1 * (x 2).val = (x 2).val; omega)

/-- Where a block of rows lies in the buffer. -/
theorem emb_rows (h : Fin 8) (b : Fin 4) (off : Fin 3 → ℕ) (ho : off = ![h.val, 512 * b.val, 0])
    (inb : ∀ a, off a + S1x512x128.size a ≤ S8x2048x128.size a) (x : S1x512x128.Idx) :
    (Rect.unit (s := S8x2048x128) off S1x512x128.size inb).emb x = at3 h (row b (x 1)) (x 2) := by
  subst ho
  funext a
  match a with
  | ⟨0, _⟩ => exact Fin.ext (by show h.val + 1 * (x 0).val = h.val; have : (x 0).val < 1 := (x 0).isLt; omega)
  | ⟨1, _⟩ => exact Fin.ext (by show 512 * b.val + 1 * (x 1).val = 512 * b.val + (x 1).val; omega)
  | ⟨2, _⟩ => exact Fin.ext (by show 0 + 1 * (x 2).val = (x 2).val; omega)

/-- A load of one block of rows. -/
theorem readAt_rows {e : EltTy} (v : View sig .tc .vmem S8x2048x128 e) (f : v.ty.Contents (Elt F)) (h : Fin 8) (b : Fin 4) (off : Fin 3 → ℕ) (ho : off = ![h.val, 512 * b.val, 0])
    (inb : ∀ a, off a + S1x512x128.size a ≤ S8x2048x128.size a) :
    v.readAt (Elt F) (Rect.unit (s := S8x2048x128) off S1x512x128.size inb) f = rowsOf (v.read (Elt F) f) h b := by
  funext x
  exact congrArg (v.read (Elt F) f) (emb_rows h b off ho inb x)

/-- One trip's four stores, block after block of one head, take the contents one head further. -/
theorem read_writes_tiles {e : EltTy} (v : View sig .tc .vmem S8x2048x128 e) (f : v.ty.Contents (Elt F)) (f' : S8x2048x128.Idx → Elt F e)
    (w : Fin 8 → Fin 4 → Vec F S1x512x128 e) (h : Fin 8) (hf : v.read (Elt F) f = mix h.val f' (tile w))
    (o0 o1 o2 o3 : Fin 3 → ℕ) (h0 : o0 = ![h.val, 0, 0]) (h1 : o1 = ![h.val, 512, 0]) (h2 : o2 = ![h.val, 1024, 0]) (h3 : o3 = ![h.val, 1536, 0])
    (i0 : ∀ a, o0 a + S1x512x128.size a ≤ S8x2048x128.size a) (i1 : ∀ a, o1 a + S1x512x128.size a ≤ S8x2048x128.size a)
    (i2 : ∀ a, o2 a + S1x512x128.size a ≤ S8x2048x128.size a) (i3 : ∀ a, o3 a + S1x512x128.size a ≤ S8x2048x128.size a)
    (p0 p1 p2 p3 : Vec F S1x512x128 e) (e0 : p0 = w h 0) (e1 : p1 = w h 1) (e2 : p2 = w h 2) (e3 : p3 = w h 3) :
    v.read (Elt F) (v.writes (Elt F) f [⟨Rect.unit (s := S8x2048x128) o3 S1x512x128.size i3, p3⟩, ⟨Rect.unit (s := S8x2048x128) o2 S1x512x128.size i2, p2⟩,
      ⟨Rect.unit (s := S8x2048x128) o1 S1x512x128.size i1, p1⟩, ⟨Rect.unit (s := S8x2048x128) o0 S1x512x128.size i0, p0⟩]) = mix (h.val + 1) f' (tile w) := by
  have emb : ∀ (b : Fin 4) (o : Fin 3 → ℕ) (ho : o = ![h.val, 512 * b.val, 0]) (i : ∀ a, o a + S1x512x128.size a ≤ S8x2048x128.size a) (p : Vec F S1x512x128 e),
      p = w h b → ∀ x : S1x512x128.Idx, p x = tile w ((Rect.unit (s := S8x2048x128) o S1x512x128.size i).emb x) := by
    intro b o ho i p hp x
    rw [emb_rows h b o ho i x, tile_at, hp]
  have mem : ∀ (b : Fin 4) (o : Fin 3 → ℕ) (ho : o = ![h.val, 512 * b.val, 0]) (i : ∀ a, o a + S1x512x128.size a ≤ S8x2048x128.size a) (y : S8x2048x128.Idx),
      y ∈ (Rect.unit (s := S8x2048x128) o S1x512x128.size i).set ↔ (y 0).val = h.val ∧ (y 1).val / 512 = b.val := by
    intro b o ho i y
    rw [Rect.mem_set_unit]
    subst ho
    have y2 : (y 2).val < 128 := (y 2).isLt
    constructor
    · intro hy
      have a0 : h.val ≤ (y 0).val ∧ (y 0).val < h.val + 1 := hy 0
      have a1 : 512 * b.val ≤ (y 1).val ∧ (y 1).val < 512 * b.val + 512 := hy 1
      omega
    · rintro ⟨y0, y1⟩ a
      match a with
      | ⟨0, _⟩ => show h.val ≤ (y 0).val ∧ (y 0).val < h.val + 1; omega
      | ⟨1, _⟩ => show 512 * b.val ≤ (y 1).val ∧ (y 1).val < 512 * b.val + 512; omega
      | ⟨2, _⟩ => show 0 ≤ (y 2).val ∧ (y 2).val < 0 + 128; omega
  funext y
  by_cases hy : (y 0).val = h.val
  · rw [View.read_writes_apply_of_pieces v f (tile w)]
    · exact (if_pos (by omega)).symm
    · intro p hp
      simp only [List.mem_cons, List.not_mem_nil, or_false] at hp
      rcases hp with rfl | rfl | rfl | rfl
      · exact emb 3 o3 h3 i3 p3 e3
      · exact emb 2 o2 h2 i2 p2 e2
      · exact emb 1 o1 h1 i1 p1 e1
      · exact emb 0 o0 h0 i0 p0 e0
    · have y1 : (y 1).val < 2048 := (y 1).isLt
      have hb : (y 1).val / 512 = 0 ∨ (y 1).val / 512 = 1 ∨ (y 1).val / 512 = 2 ∨ (y 1).val / 512 = 3 := by omega
      rcases hb with hb | hb | hb | hb
      · exact ⟨_, .tail _ (.tail _ (.tail _ (.head _))), (mem 0 o0 h0 i0 y).mpr ⟨hy, hb⟩⟩
      · exact ⟨_, .tail _ (.tail _ (.head _)), (mem 1 o1 h1 i1 y).mpr ⟨hy, hb⟩⟩
      · exact ⟨_, .tail _ (.head _), (mem 2 o2 h2 i2 y).mpr ⟨hy, hb⟩⟩
      · exact ⟨_, .head _, (mem 3 o3 h3 i3 y).mpr ⟨hy, hb⟩⟩
  · rw [View.read_writes_apply_of_forall_not_mem, hf]
    · unfold mix
      by_cases hl : (y 0).val < h.val
      · rw [if_pos hl, if_pos (by omega)]
      · rw [if_neg hl, if_neg (by omega)]
    · intro p hp
      simp only [List.mem_cons, List.not_mem_nil, or_false] at hp
      rcases hp with rfl | rfl | rfl | rfl
      · exact fun hm => hy ((mem 3 o3 h3 i3 y).mp hm).1
      · exact fun hm => hy ((mem 2 o2 h2 i2 y).mp hm).1
      · exact fun hm => hy ((mem 1 o1 h1 i1 y).mp hm).1
      · exact fun hm => hy ((mem 0 o0 h0 i0 y).mp hm).1

end Cert.KernelIdeal.Fused
-- ==== Proof.KernelIdeal.Loops.lean ====
/- The five loops of the fused call, each by its invariant: after `k` trips the first `k` heads of the
   result and of the row sums are rewritten, block by block, and all else is as before. -/
module

public import proofs.«01_k».proof.Proof.KernelIdeal.Tiles

@[expose] public section

set_option maxRecDepth 8192
set_option maxHeartbeats 4000000

noncomputable section

namespace Cert.KernelIdeal.Fused

open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ UU ℕ

/-- A whole buffer's contents. -/
abbrev Arr (F : FTy → Type) (e : EltTy) : Type := S8x2048x128.Idx → Elt F e
/-- A result given head by head and block by block. -/
abbrev Blocks (F : FTy → Type) : Type := Fin 8 → Fin 4 → Vec F S1x512x128 .f32

/-! ### What each loop leaves -/

/-- The weighted values of a block of queries against a head's keys: the first loop's result block. -/
def firstO (X Y Z : Arr F .bf16) : Blocks F := fun h b => k1_pay5 (headOf Y h) (headOf Z h) (rowsOf X h b)
/-- Its row sums. -/
def firstL (X Y : Arr F .bf16) : Blocks F := fun h b => k1_pay6 (headOf Y h) (rowsOf X h b)
/-- The weighted values added to what the result held. -/
def moreO (X Y Z : Arr F .bf16) (o : Arr F .f32) : Blocks F := fun h b => k1_pay20 (headOf Y h) (headOf Z h) (rowsOf X h b) (rowsOf o h b)
/-- The row sums added to what they were. -/
def moreL (X Y : Arr F .bf16) (l : Arr F .f32) : Blocks F := fun h b => k1_pay21 (headOf Y h) (rowsOf X h b) (rowsOf l h b)
/-- The result divided by the row sums. -/
def quot (o l : Arr F .f32) : Blocks F := fun h b => k1_pay68 (rowsOf o h b) (rowsOf l h b)

/-- Contents restated along an equation. -/
theorem held_of_eq (c : Dev nD) {s : Shape} {e : EltTy} (m : Memref sig .tc .vmem s e) (q : PosShare TreeShare) (f g : BufTy.Contents (Elt F) m.view.ty) (h : f = g) :
    held c m q f ⊢ held c m q g := by subst h; exact .rfl

/-- The receive and send semaphores of the call. -/
abbrev ssem : DmaSems sig S8 := cc1_scratch7
abbrev rsem : DmaSems sig S8 := cc1_scratch8

/-- The first loop, over the device's own keys. -/
@[sl_loop, instance_reducible] def loop1 (𝒱 : Variants) (c : Dev nD) (bd : Option 𝒱.V) (E : Set ℕ) (d0 : Dev nD) (v5 : BitVec 32) (v7 : BitVec 32) (qq qk qv : PosShare TreeShare) (X Y Z : Arr F .bf16) (o l : Arr F .f32) :
    LoopInvTy_k1_t1 (F := F) Unit ℕ UU ℕ 𝒱 c bd E qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem d0 v5 v7 where
  inv := fun k _ => iprop(held c qM qq X ∗ held c kM qk Y ∗ held c vM qv Z ∗ held c oM fullShare (mix k o (tile (firstO X Y Z))) ∗ held c lM fullShare (mix k l (tile (firstL X Y))))
  step k acc := by
    have hk : k.val < 8 := Nat.lt_of_lt_of_le k.isLt k1_t1_abs.2.1
    let h : Fin 8 := ⟨k.val, hk⟩
    have R0 := readAt_head kM.view Y h (k1_off1 k) (k1_off1_eq k) (k1_off1_inb k)
    have R1 := readAt_head vM.view Z h (k1_off1 k) (k1_off1_eq k) (k1_off1_inb k)
    have R2 := readAt_rows qM.view X h 0 (k1_off2 k) (k1_off2_eq k) (k1_off2_inb k)
    have R3 := readAt_rows qM.view X h 1 (k1_off3 k) (k1_off3_eq k) (k1_off3_inb k)
    have R4 := readAt_rows qM.view X h 2 (k1_off4 k) (k1_off4_eq k) (k1_off4_inb k)
    have R5 := readAt_rows qM.view X h 3 (k1_off5 k) (k1_off5_eq k) (k1_off5_inb k)
    unfold k1_t1_body held
    iintro ⟨H0, H1, H2, H3, H4⟩
    sl_exec
    sl_step
    isplitl [H0]; · iexact H0
    isplitl [H1]; · iexact H1
    isplitl [H2]; · iexact H2
    isplitl [H3]
    · iapply (held_of_eq c oM fullShare _ _ ?_)
      rotate_left
      iexact H3
      refine (View.read_whole _ _).symm.trans (read_writes_tiles oM.view (mix k.val o (tile (firstO X Y Z))) o (firstO X Y Z) h (View.read_whole _ _) (k1_off2 k) (k1_off3 k) (k1_off4 k) (k1_off5 k) (k1_off2_eq k) (k1_off3_eq k) (k1_off4_eq k) (k1_off5_eq k) (k1_off2_inb k) (k1_off3_inb k) (k1_off4_inb k) (k1_off5_inb k) _ _ _ _ ?_ ?_ ?_ ?_) <;> rfl
    · iapply (held_of_eq c lM fullShare _ _ ?_)
      rotate_left
      iexact H4
      refine (View.read_whole _ _).symm.trans (read_writes_tiles lM.view (mix k.val l (tile (firstL X Y))) l (firstL X Y) h (View.read_whole _ _) (k1_off2 k) (k1_off3 k) (k1_off4 k) (k1_off5 k) (k1_off2_eq k) (k1_off3_eq k) (k1_off4_eq k) (k1_off5_eq k) (k1_off2_inb k) (k1_off3_inb k) (k1_off4_inb k) (k1_off5_inb k) _ _ _ _ ?_ ?_ ?_ ?_) <;> rfl

/-- The second loop, over the left neighbour's keys. -/
@[sl_loop, instance_reducible] def loop2 (𝒱 : Variants) (c : Dev nD) (bd : Option 𝒱.V) (E : Set ℕ) (d0 : Dev nD) (v5 : BitVec 32) (qq qk qv : PosShare TreeShare) (X Y Z : Arr F .bf16) (o l : Arr F .f32) :
    LoopInvTy_k1_t2 (F := F) Unit ℕ UU ℕ 𝒱 c bd E qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem d0 v5 where
  inv := fun k _ => iprop(held c qM qq X ∗ held c klM qk Y ∗ held c vlM qv Z ∗ held c oM fullShare (mix k o (tile (moreO X Y Z o))) ∗ held c lM fullShare (mix k l (tile (moreL X Y l))))
  step k acc := by
    have hk : k.val < 8 := Nat.lt_of_lt_of_le k.isLt k1_t2_abs.2.1
    let h : Fin 8 := ⟨k.val, hk⟩
    have R0 := readAt_head klM.view Y h (k1_off6 k) (k1_off6_eq k) (k1_off6_inb k)
    have R1 := readAt_head vlM.view Z h (k1_off6 k) (k1_off6_eq k) (k1_off6_inb k)
    have R2 := readAt_rows qM.view X h 0 (k1_off7 k) (k1_off7_eq k) (k1_off7_inb k)
    have R3 := (readAt_rows oM.view (mix k.val o (tile (moreO X Y Z o))) h 0 (k1_off7 k) (k1_off7_eq k) (k1_off7_inb k)).trans (rowsOf_mix o (tile (moreO X Y Z o)) k.val h le_rfl 0)
    have R4 := (readAt_rows lM.view (mix k.val l (tile (moreL X Y l))) h 0 (k1_off7 k) (k1_off7_eq k) (k1_off7_inb k)).trans (rowsOf_mix l (tile (moreL X Y l)) k.val h le_rfl 0)
    have R5 := readAt_rows qM.view X h 1 (k1_off8 k) (k1_off8_eq k) (k1_off8_inb k)
    have R6 := (readAt_rows oM.view (mix k.val o (tile (moreO X Y Z o))) h 1 (k1_off8 k) (k1_off8_eq k) (k1_off8_inb k)).trans (rowsOf_mix o (tile (moreO X Y Z o)) k.val h le_rfl 1)
    have R7 := (readAt_rows lM.view (mix k.val l (tile (moreL X Y l))) h 1 (k1_off8 k) (k1_off8_eq k) (k1_off8_inb k)).trans (rowsOf_mix l (tile (moreL X Y l)) k.val h le_rfl 1)
    have R8 := readAt_rows qM.view X h 2 (k1_off9 k) (k1_off9_eq k) (k1_off9_inb k)
    have R9 := (readAt_rows oM.view (mix k.val o (tile (moreO X Y Z o))) h 2 (k1_off9 k) (k1_off9_eq k) (k1_off9_inb k)).trans (rowsOf_mix o (tile (moreO X Y Z o)) k.val h le_rfl 2)
    have R10 := (readAt_rows lM.view (mix k.val l (tile (moreL X Y l))) h 2 (k1_off9 k) (k1_off9_eq k) (k1_off9_inb k)).trans (rowsOf_mix l (tile (moreL X Y l)) k.val h le_rfl 2)
    have R11 := readAt_rows qM.view X h 3 (k1_off10 k) (k1_off10_eq k) (k1_off10_inb k)
    have R12 := (readAt_rows oM.view (mix k.val o (tile (moreO X Y Z o))) h 3 (k1_off10 k) (k1_off10_eq k) (k1_off10_inb k)).trans (rowsOf_mix o (tile (moreO X Y Z o)) k.val h le_rfl 3)
    have R13 := (readAt_rows lM.view (mix k.val l (tile (moreL X Y l))) h 3 (k1_off10 k) (k1_off10_eq k) (k1_off10_inb k)).trans (rowsOf_mix l (tile (moreL X Y l)) k.val h le_rfl 3)
    unfold k1_t2_body held
    iintro ⟨H0, H1, H2, H3, H4⟩
    sl_exec
    sl_step
    isplitl [H0]; · iexact H0
    isplitl [H1]; · iexact H1
    isplitl [H2]; · iexact H2
    isplitl [H3]
    · iapply (held_of_eq c oM fullShare _ _ ?_)
      rotate_left
      iexact H3
      refine (View.read_whole _ _).symm.trans (read_writes_tiles oM.view (mix k.val o (tile (moreO X Y Z o))) o (moreO X Y Z o) h (View.read_whole _ _) (k1_off7 k) (k1_off8 k) (k1_off9 k) (k1_off10 k) (k1_off7_eq k) (k1_off8_eq k) (k1_off9_eq k) (k1_off10_eq k) (k1_off7_inb k) (k1_off8_inb k) (k1_off9_inb k) (k1_off10_inb k) _ _ _ _ ?_ ?_ ?_ ?_) <;> rfl
    · iapply (held_of_eq c lM fullShare _ _ ?_)
      rotate_left
      iexact H4
      refine (View.read_whole _ _).symm.trans (read_writes_tiles lM.view (mix k.val l (tile (moreL X Y l))) l (moreL X Y l) h (View.read_whole _ _) (k1_off7 k) (k1_off8 k) (k1_off9 k) (k1_off10 k) (k1_off7_eq k) (k1_off8_eq k) (k1_off9_eq k) (k1_off10_eq k) (k1_off7_inb k) (k1_off8_inb k) (k1_off9_inb k) (k1_off10_inb k) _ _ _ _ ?_ ?_ ?_ ?_) <;> rfl

/-- The third loop, over the right neighbour's keys. -/
@[sl_loop, instance_reducible] def loop3 (𝒱 : Variants) (c : Dev nD) (bd : Option 𝒱.V) (E : Set ℕ) (d0 : Dev nD) (v5 : BitVec 32) (qq qk qv : PosShare TreeShare) (X Y Z : Arr F .bf16) (o l : Arr F .f32) :
    LoopInvTy_k1_t3 (F := F) Unit ℕ UU ℕ 𝒱 c bd E qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem d0 v5 where
  inv := fun k _ => iprop(held c qM qq X ∗ held c krM qk Y ∗ held c vrM qv Z ∗ held c oM fullShare (mix k o (tile (moreO X Y Z o))) ∗ held c lM fullShare (mix k l (tile (moreL X Y l))))
  step k acc := by
    have hk : k.val < 8 := Nat.lt_of_lt_of_le k.isLt k1_t3_abs.2.1
    let h : Fin 8 := ⟨k.val, hk⟩
    have R0 := readAt_head krM.view Y h (k1_off11 k) (k1_off11_eq k) (k1_off11_inb k)
    have R1 := readAt_head vrM.view Z h (k1_off11 k) (k1_off11_eq k) (k1_off11_inb k)
    have R2 := readAt_rows qM.view X h 0 (k1_off12 k) (k1_off12_eq k) (k1_off12_inb k)
    have R3 := (readAt_rows oM.view (mix k.val o (tile (moreO X Y Z o))) h 0 (k1_off12 k) (k1_off12_eq k) (k1_off12_inb k)).trans (rowsOf_mix o (tile (moreO X Y Z o)) k.val h le_rfl 0)
    have R4 := (readAt_rows lM.view (mix k.val l (tile (moreL X Y l))) h 0 (k1_off12 k) (k1_off12_eq k) (k1_off12_inb k)).trans (rowsOf_mix l (tile (moreL X Y l)) k.val h le_rfl 0)
    have R5 := readAt_rows qM.view X h 1 (k1_off13 k) (k1_off13_eq k) (k1_off13_inb k)
    have R6 := (readAt_rows oM.view (mix k.val o (tile (moreO X Y Z o))) h 1 (k1_off13 k) (k1_off13_eq k) (k1_off13_inb k)).trans (rowsOf_mix o (tile (moreO X Y Z o)) k.val h le_rfl 1)
    have R7 := (readAt_rows lM.view (mix k.val l (tile (moreL X Y l))) h 1 (k1_off13 k) (k1_off13_eq k) (k1_off13_inb k)).trans (rowsOf_mix l (tile (moreL X Y l)) k.val h le_rfl 1)
    have R8 := readAt_rows qM.view X h 2 (k1_off14 k) (k1_off14_eq k) (k1_off14_inb k)
    have R9 := (readAt_rows oM.view (mix k.val o (tile (moreO X Y Z o))) h 2 (k1_off14 k) (k1_off14_eq k) (k1_off14_inb k)).trans (rowsOf_mix o (tile (moreO X Y Z o)) k.val h le_rfl 2)
    have R10 := (readAt_rows lM.view (mix k.val l (tile (moreL X Y l))) h 2 (k1_off14 k) (k1_off14_eq k) (k1_off14_inb k)).trans (rowsOf_mix l (tile (moreL X Y l)) k.val h le_rfl 2)
    have R11 := readAt_rows qM.view X h 3 (k1_off15 k) (k1_off15_eq k) (k1_off15_inb k)
    have R12 := (readAt_rows oM.view (mix k.val o (tile (moreO X Y Z o))) h 3 (k1_off15 k) (k1_off15_eq k) (k1_off15_inb k)).trans (rowsOf_mix o (tile (moreO X Y Z o)) k.val h le_rfl 3)
    have R13 := (readAt_rows lM.view (mix k.val l (tile (moreL X Y l))) h 3 (k1_off15 k) (k1_off15_eq k) (k1_off15_inb k)).trans (rowsOf_mix l (tile (moreL X Y l)) k.val h le_rfl 3)
    unfold k1_t3_body held
    iintro ⟨H0, H1, H2, H3, H4⟩
    sl_exec
    sl_step
    isplitl [H0]; · iexact H0
    isplitl [H1]; · iexact H1
    isplitl [H2]; · iexact H2
    isplitl [H3]
    · iapply (held_of_eq c oM fullShare _ _ ?_)
      rotate_left
      iexact H3
      refine (View.read_whole _ _).symm.trans (read_writes_tiles oM.view (mix k.val o (tile (moreO X Y Z o))) o (moreO X Y Z o) h (View.read_whole _ _) (k1_off12 k) (k1_off13 k) (k1_off14 k) (k1_off15 k) (k1_off12_eq k) (k1_off13_eq k) (k1_off14_eq k) (k1_off15_eq k) (k1_off12_inb k) (k1_off13_inb k) (k1_off14_inb k) (k1_off15_inb k) _ _ _ _ ?_ ?_ ?_ ?_) <;> rfl
    · iapply (held_of_eq c lM fullShare _ _ ?_)
      rotate_left
      iexact H4
      refine (View.read_whole _ _).symm.trans (read_writes_tiles lM.view (mix k.val l (tile (moreL X Y l))) l (moreL X Y l) h (View.read_whole _ _) (k1_off12 k) (k1_off13 k) (k1_off14 k) (k1_off15 k) (k1_off12_eq k) (k1_off13_eq k) (k1_off14_eq k) (k1_off15_eq k) (k1_off12_inb k) (k1_off13_inb k) (k1_off14_inb k) (k1_off15_inb k) _ _ _ _ ?_ ?_ ?_ ?_) <;> rfl

/-- The fourth loop, over the opposite device's keys. -/
@[sl_loop, instance_reducible] def loop4 (𝒱 : Variants) (c : Dev nD) (bd : Option 𝒱.V) (E : Set ℕ) (v5 : BitVec 32) (qq qk qv : PosShare TreeShare) (X Y Z : Arr F .bf16) (o l : Arr F .f32) :
    LoopInvTy_k1_t4 (F := F) Unit ℕ UU ℕ 𝒱 c bd E qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem v5 where
  inv := fun k _ => iprop(held c qM qq X ∗ held c koM qk Y ∗ held c voM qv Z ∗ held c oM fullShare (mix k o (tile (moreO X Y Z o))) ∗ held c lM fullShare (mix k l (tile (moreL X Y l))))
  step k acc := by
    have hk : k.val < 8 := Nat.lt_of_lt_of_le k.isLt k1_t4_abs.2.1
    let h : Fin 8 := ⟨k.val, hk⟩
    have R0 := readAt_head koM.view Y h (k1_off16 k) (k1_off16_eq k) (k1_off16_inb k)
    have R1 := readAt_head voM.view Z h (k1_off16 k) (k1_off16_eq k) (k1_off16_inb k)
    have R2 := readAt_rows qM.view X h 0 (k1_off17 k) (k1_off17_eq k) (k1_off17_inb k)
    have R3 := (readAt_rows oM.view (mix k.val o (tile (moreO X Y Z o))) h 0 (k1_off17 k) (k1_off17_eq k) (k1_off17_inb k)).trans (rowsOf_mix o (tile (moreO X Y Z o)) k.val h le_rfl 0)
    have R4 := (readAt_rows lM.view (mix k.val l (tile (moreL X Y l))) h 0 (k1_off17 k) (k1_off17_eq k) (k1_off17_inb k)).trans (rowsOf_mix l (tile (moreL X Y l)) k.val h le_rfl 0)
    have R5 := readAt_rows qM.view X h 1 (k1_off18 k) (k1_off18_eq k) (k1_off18_inb k)
    have R6 := (readAt_rows oM.view (mix k.val o (tile (moreO X Y Z o))) h 1 (k1_off18 k) (k1_off18_eq k) (k1_off18_inb k)).trans (rowsOf_mix o (tile (moreO X Y Z o)) k.val h le_rfl 1)
    have R7 := (readAt_rows lM.view (mix k.val l (tile (moreL X Y l))) h 1 (k1_off18 k) (k1_off18_eq k) (k1_off18_inb k)).trans (rowsOf_mix l (tile (moreL X Y l)) k.val h le_rfl 1)
    have R8 := readAt_rows qM.view X h 2 (k1_off19 k) (k1_off19_eq k) (k1_off19_inb k)
    have R9 := (readAt_rows oM.view (mix k.val o (tile (moreO X Y Z o))) h 2 (k1_off19 k) (k1_off19_eq k) (k1_off19_inb k)).trans (rowsOf_mix o (tile (moreO X Y Z o)) k.val h le_rfl 2)
    have R10 := (readAt_rows lM.view (mix k.val l (tile (moreL X Y l))) h 2 (k1_off19 k) (k1_off19_eq k) (k1_off19_inb k)).trans (rowsOf_mix l (tile (moreL X Y l)) k.val h le_rfl 2)
    have R11 := readAt_rows qM.view X h 3 (k1_off20 k) (k1_off20_eq k) (k1_off20_inb k)
    have R12 := (readAt_rows oM.view (mix k.val o (tile (moreO X Y Z o))) h 3 (k1_off20 k) (k1_off20_eq k) (k1_off20_inb k)).trans (rowsOf_mix o (tile (moreO X Y Z o)) k.val h le_rfl 3)
    have R13 := (readAt_rows lM.view (mix k.val l (tile (moreL X Y l))) h 3 (k1_off20 k) (k1_off20_eq k) (k1_off20_inb k)).trans (rowsOf_mix l (tile (moreL X Y l)) k.val h le_rfl 3)
    unfold k1_t4_body held
    iintro ⟨H0, H1, H2, H3, H4⟩
    sl_exec
    sl_step
    isplitl [H0]; · iexact H0
    isplitl [H1]; · iexact H1
    isplitl [H2]; · iexact H2
    isplitl [H3]
    · iapply (held_of_eq c oM fullShare _ _ ?_)
      rotate_left
      iexact H3
      refine (View.read_whole _ _).symm.trans (read_writes_tiles oM.view (mix k.val o (tile (moreO X Y Z o))) o (moreO X Y Z o) h (View.read_whole _ _) (k1_off17 k) (k1_off18 k) (k1_off19 k) (k1_off20 k) (k1_off17_eq k) (k1_off18_eq k) (k1_off19_eq k) (k1_off20_eq k) (k1_off17_inb k) (k1_off18_inb k) (k1_off19_inb k) (k1_off20_inb k) _ _ _ _ ?_ ?_ ?_ ?_) <;> rfl
    · iapply (held_of_eq c lM fullShare _ _ ?_)
      rotate_left
      iexact H4
      refine (View.read_whole _ _).symm.trans (read_writes_tiles lM.view (mix k.val l (tile (moreL X Y l))) l (moreL X Y l) h (View.read_whole _ _) (k1_off17 k) (k1_off18 k) (k1_off19 k) (k1_off20 k) (k1_off17_eq k) (k1_off18_eq k) (k1_off19_eq k) (k1_off20_eq k) (k1_off17_inb k) (k1_off18_inb k) (k1_off19_inb k) (k1_off20_inb k) _ _ _ _ ?_ ?_ ?_ ?_) <;> rfl

/-- The last loop: the division. -/
@[sl_loop, instance_reducible] def loop5 (𝒱 : Variants) (c : Dev nD) (bd : Option 𝒱.V) (E : Set ℕ)  (o l : Arr F .f32) :
    LoopInvTy_k1_t5 (F := F) Unit ℕ UU ℕ 𝒱 c bd E qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem  where
  inv := fun k _ => iprop(held c oM fullShare (mix k o (tile (quot o l))) ∗ held c lM fullShare l)
  step k acc := by
    have hk : k.val < 8 := Nat.lt_of_lt_of_le k.isLt k1_t5_abs.2.1
    let h : Fin 8 := ⟨k.val, hk⟩
    have R0 := readAt_rows lM.view l h 0 (k1_off21 k) (k1_off21_eq k) (k1_off21_inb k)
    have R1 := (readAt_rows oM.view (mix k.val o (tile (quot o l))) h 0 (k1_off21 k) (k1_off21_eq k) (k1_off21_inb k)).trans (rowsOf_mix o (tile (quot o l)) k.val h le_rfl 0)
    have R2 := readAt_rows lM.view l h 1 (k1_off22 k) (k1_off22_eq k) (k1_off22_inb k)
    have R3 := (readAt_rows oM.view (mix k.val o (tile (quot o l))) h 1 (k1_off22 k) (k1_off22_eq k) (k1_off22_inb k)).trans (rowsOf_mix o (tile (quot o l)) k.val h le_rfl 1)
    have R4 := readAt_rows lM.view l h 2 (k1_off23 k) (k1_off23_eq k) (k1_off23_inb k)
    have R5 := (readAt_rows oM.view (mix k.val o (tile (quot o l))) h 2 (k1_off23 k) (k1_off23_eq k) (k1_off23_inb k)).trans (rowsOf_mix o (tile (quot o l)) k.val h le_rfl 2)
    have R6 := readAt_rows lM.view l h 3 (k1_off24 k) (k1_off24_eq k) (k1_off24_inb k)
    have R7 := (readAt_rows oM.view (mix k.val o (tile (quot o l))) h 3 (k1_off24 k) (k1_off24_eq k) (k1_off24_inb k)).trans (rowsOf_mix o (tile (quot o l)) k.val h le_rfl 3)
    unfold k1_t5_body held
    iintro ⟨H3, H4⟩
    sl_exec
    sl_step
    isplitl [H3]
    · iapply (held_of_eq c oM fullShare _ _ ?_)
      rotate_left
      iexact H3
      refine (View.read_whole _ _).symm.trans (read_writes_tiles oM.view (mix k.val o (tile (quot o l))) o (quot o l) h (View.read_whole _ _) (k1_off21 k) (k1_off22 k) (k1_off23 k) (k1_off24 k) (k1_off21_eq k) (k1_off22_eq k) (k1_off23_eq k) (k1_off24_eq k) (k1_off21_inb k) (k1_off22_inb k) (k1_off23_inb k) (k1_off24_inb k) _ _ _ _ ?_ ?_ ?_ ?_) <;> rfl
    · iexact H4

end Cert.KernelIdeal.Fused
-- ==== Proof.KernelIdeal.Protocol.lean ====
/- The exchange between the four devices, written down before anything is proved of the body. Device `c` sends its
   keys and values to both neighbours (transfers 0, 1 to the next device, 2, 3 to the previous one); what arrives from
   the previous device is passed on, heads 0 to 3, to the next one (4, 5), and what arrives from the next device,
   heads 4 to 7, to the previous one (6, 7). So each device gets the two neighbours' keys and values whole and the
   opposite device's in two halves. A barrier cell has two duties of one unit, one per neighbour: with it the
   neighbour lends the four landing areas this device writes. Each transfer has a send cell, which gives the
   source share back, and a receive cell at the addressed device, which hands over what has landed. -/
module

public import proofs.«01_k».proof.Proof.KernelIdeal.Loops

@[expose] public section

set_option maxRecDepth 8192

noncomputable section

namespace Cert.KernelIdeal.Fused

open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ### The ring -/

set_option backward.proofsInPublic true in
/-- The next device. -/
def nxt (c : Dev nD) : Dev nD := ⟨(c.val + 1) % 4, Nat.mod_lt _ (by decide)⟩
set_option backward.proofsInPublic true in
/-- The previous device. -/
def prv (c : Dev nD) : Dev nD := ⟨(c.val + 3) % 4, Nat.mod_lt _ (by decide)⟩
set_option backward.proofsInPublic true in
/-- The opposite device. -/
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem opp_nxt (c : Dev nD) : opp (nxt c) = prv c := by revert c; decide
theorem opp_prv (c : Dev nD) : opp (prv c) = nxt c := by revert c; decide

def ring : Dev nD ≃ Dev nD := ⟨nxt, prv, prv_nxt, nxt_prv⟩

/-- Whom transfer `i` of device `c` addresses, -/
def peer (c : Dev nD) (i : Fin 8) : Dev nD := if i.val % 4 < 2 then nxt c else prv c
/-- and who addresses device `c` with transfer `i`. -/
def from_ (c : Dev nD) (i : Fin 8) : Dev nD := if i.val % 4 < 2 then prv c else nxt c
theorem peer_from (c : Dev nD) (i : Fin 8) : peer (from_ c i) i = c := by revert c i; decide
theorem from_peer (c : Dev nD) (i : Fin 8) : from_ (peer c i) i = c := by revert c i; decide

/-- The device names the program computes. -/
theorem dev1_eq (c : Dev nD) : (⟨k1_dev1 c, k1_dev1_lt c⟩ : Dev nD) = prv c := by revert c; decide
theorem dev2_eq (c : Dev nD) : (⟨k1_dev2 c, k1_dev2_lt c⟩ : Dev nD) = nxt c := by revert c; decide
theorem dev3_eq (c : Dev nD) : (⟨k1_dev3 c, k1_dev3_lt c⟩ : Dev nD) = peer c 0 := by revert c; decide
theorem dev4_eq (c : Dev nD) : (⟨k1_dev4 c, k1_dev4_lt c⟩ : Dev nD) = peer c 1 := by revert c; decide
theorem dev5_eq (c : Dev nD) : (⟨k1_dev5 c, k1_dev5_lt c⟩ : Dev nD) = peer c 2 := by revert c; decide
theorem dev6_eq (c : Dev nD) : (⟨k1_dev6 c, k1_dev6_lt c⟩ : Dev nD) = peer c 3 := by revert c; decide
theorem dev7_eq (c : Dev nD) : (⟨k1_dev7 c, k1_dev7_lt c⟩ : Dev nD) = peer c 4 := by revert c; decide
theorem dev8_eq (c : Dev nD) : (⟨k1_dev8 c, k1_dev8_lt c⟩ : Dev nD) = peer c 5 := by revert c; decide
theorem dev9_eq (c : Dev nD) : (⟨k1_dev9 c, k1_dev9_lt c⟩ : Dev nD) = peer c 6 := by revert c; decide
theorem dev10_eq (c : Dev nD) : (⟨k1_dev10 c, k1_dev10_lt c⟩ : Dev nD) = peer c 7 := by revert c; decide

/-! ### The halves of the landing buffers -/

/-- Heads 0 to 3 of a buffer, and heads 4 to 7. -/
abbrev lo (m : Memref sig .tc .vmem S8x2048x128 .bf16) : Memref sig .tc .vmem S4x2048x128 .bf16 :=
  m.slice (Rect.unit (s := S8x2048x128) ![0, 0, 0] S4x2048x128.size inb_S8x2048x128_S4x2048x128_0_0_0) (fun _ => rfl)
abbrev hi (m : Memref sig .tc .vmem S8x2048x128 .bf16) : Memref sig .tc .vmem S4x2048x128 .bf16 :=
  m.slice (Rect.unit (s := S8x2048x128) ![4, 0, 0] S4x2048x128.size inb_S8x2048x128_S4x2048x128_4_0_0) (fun _ => rfl)

/-! ### The cells -/

abbrev barS : Sem sig := (SemArray.scalar (sig.barrier 0 rfl) : Sems sig S_).sem
/-- The send and receive semaphore of transfer `i`. -/
abbrev sS (i : Fin 8) : DmaSem sig := ⟨17 + i.val, Nat.lt_of_lt_of_le (Nat.add_lt_add_left i.isLt 17) (by decide)⟩
abbrev rS (i : Fin 8) : DmaSem sig := ⟨25 + i.val, Nat.lt_of_lt_of_le (Nat.add_lt_add_left i.isLt 25) (by decide)⟩

theorem ss0 : ((ssem.slice (Rect.unit (s := S8) ![0] ![1] inb_S8_S1_0)).squeeze S_ squeezes_S1_S_).sem = sS 0 := rfl
theorem ss1 : ((ssem.slice (Rect.unit (s := S8) ![1] ![1] inb_S8_S1_1)).squeeze S_ squeezes_S1_S_).sem = sS 1 := rfl
theorem ss2 : ((ssem.slice (Rect.unit (s := S8) ![2] ![1] inb_S8_S1_2)).squeeze S_ squeezes_S1_S_).sem = sS 2 := rfl
theorem ss3 : ((ssem.slice (Rect.unit (s := S8) ![3] ![1] inb_S8_S1_3)).squeeze S_ squeezes_S1_S_).sem = sS 3 := rfl
theorem ss4 : ((ssem.slice (Rect.unit (s := S8) ![4] ![1] inb_S8_S1_4)).squeeze S_ squeezes_S1_S_).sem = sS 4 := rfl
theorem ss5 : ((ssem.slice (Rect.unit (s := S8) ![5] ![1] inb_S8_S1_5)).squeeze S_ squeezes_S1_S_).sem = sS 5 := rfl
theorem ss6 : ((ssem.slice (Rect.unit (s := S8) ![6] ![1] inb_S8_S1_6)).squeeze S_ squeezes_S1_S_).sem = sS 6 := rfl
theorem ss7 : ((ssem.slice (Rect.unit (s := S8) ![7] ![1] inb_S8_S1_7)).squeeze S_ squeezes_S1_S_).sem = sS 7 := rfl
theorem rs0 : ((rsem.slice (Rect.unit (s := S8) ![0] ![1] inb_S8_S1_0)).squeeze S_ squeezes_S1_S_).sem = rS 0 := rfl
theorem rs1 : ((rsem.slice (Rect.unit (s := S8) ![1] ![1] inb_S8_S1_1)).squeeze S_ squeezes_S1_S_).sem = rS 1 := rfl
theorem rs2 : ((rsem.slice (Rect.unit (s := S8) ![2] ![1] inb_S8_S1_2)).squeeze S_ squeezes_S1_S_).sem = rS 2 := rfl
theorem rs3 : ((rsem.slice (Rect.unit (s := S8) ![3] ![1] inb_S8_S1_3)).squeeze S_ squeezes_S1_S_).sem = rS 3 := rfl
theorem rs4 : ((rsem.slice (Rect.unit (s := S8) ![4] ![1] inb_S8_S1_4)).squeeze S_ squeezes_S1_S_).sem = rS 4 := rfl
theorem rs5 : ((rsem.slice (Rect.unit (s := S8) ![5] ![1] inb_S8_S1_5)).squeeze S_ squeezes_S1_S_).sem = rS 5 := rfl
theorem rs6 : ((rsem.slice (Rect.unit (s := S8) ![6] ![1] inb_S8_S1_6)).squeeze S_ squeezes_S1_S_).sem = rS 6 := rfl
theorem rs7 : ((rsem.slice (Rect.unit (s := S8) ![7] ![1] inb_S8_S1_7)).squeeze S_ squeezes_S1_S_).sem = rS 7 := rfl

abbrev barCell (c : Dev nD) : GSem nD τ sig := ((c : Thread nD τ), .reg barS)
abbrev sCell (c : Dev nD) (i : Fin 8) : GSem nD τ sig := ((c : Thread nD τ), .dma (sS i))
abbrev rCell (c : Dev nD) (i : Fin 8) : GSem nD τ sig := ((c : Thread nD τ), .dma (rS i))

/-- The credit of a transfer of a whole buffer, and of a half. -/
abbrev N8 : ℕ := (klM : Memref sig .tc .vmem S8x2048x128 .bf16).view.dmaCredit
abbrev N4 : ℕ := (lo klM : Memref sig .tc .vmem S4x2048x128 .bf16).view.dmaCredit
theorem N8_pos : 0 < N8 := View.dmaCredit_pos _ (by decide)
theorem N4_pos : 0 < N4 := View.dmaCredit_pos _ (by decide)

/-- The credit of transfer `i`. -/
def amt (i : Fin 8) : ℕ := if i.val < 4 then N8 else N4
theorem amt_pos (i : Fin 8) : 0 < amt i := by unfold amt; split; exacts [N8_pos, N4_pos]

/-! ### What the cells hand over -/

/-- The shares the two sends of the own keys and values take, and what the loops keep to read. -/
abbrev qR : PosShare TreeShare := fullShare.left
abbrev qL : PosShare TreeShare := fullShare.right.left
abbrev qK : PosShare TreeShare := fullShare.right.right

section Sched
variable (Kx Vx : Dev nD → Arr F .bf16)

/-- The source share transfer `i` gives back when it is done. -/
def sendPay (c : Dev nD) (i : Fin 8) : sProp 𝕄 := match i with
  | 0 => held c kM qR (Kx c)
  | 1 => held c vM qR (Vx c)
  | 2 => held c kM qL (Kx c)
  | 3 => held c vM qL (Vx c)
  | 4 => held c (lo klM) fullShare.left (Kx (prv c))
  | 5 => held c (lo vlM) fullShare.left (Vx (prv c))
  | 6 => held c (hi krM) fullShare.left (Kx (nxt c))
  | 7 => held c (hi vrM) fullShare.left (Vx (nxt c))

/-- What transfer `i` has left on the device `c` it addresses. -/
def recvPay (c : Dev nD) (i : Fin 8) : sProp 𝕄 := match i with
  | 0 => held c klM fullShare (Kx (prv c))
  | 1 => held c vlM fullShare (Vx (prv c))
  | 2 => held c krM fullShare (Kx (nxt c))
  | 3 => held c vrM fullShare (Vx (nxt c))
  | 4 => held c (lo koM) fullShare (Kx (opp c))
  | 5 => held c (lo voM) fullShare (Vx (opp c))
  | 6 => held c (hi koM) fullShare (Kx (opp c))
  | 7 => held c (hi voM) fullShare (Vx (opp c))

/-- A landing area with any contents. -/
def lent {s : Shape} {e : EltTy} (c : Dev nD) (m : Memref sig .tc .vmem s e) : sProp 𝕄 := iprop(∃ f, held (F := F) c m fullShare f)

/-- A landing area lent for transfer `i`, with the word that its receive cell at device `c` is open. -/
def slot {s : Shape} {e : EltTy} (c : Dev nD) (i : Fin 8) (m : Memref sig .tc .vmem s e) : sProp 𝕄 := iprop(reached ER (rCell c i) 0 ∗ lent (F := F) c m)

/-- What device `c` lends the next device (duty 1 of whose barrier cell it pays), -/
def lendNxt (c : Dev nD) : sProp 𝕄 :=
  iprop(slot c 2 krM ∗ slot c 3 vrM ∗ slot c 6 (hi koM) ∗ slot c 7 (hi voM))
/-- and the previous one (duty 0). -/
def lendPrv (c : Dev nD) : sProp 𝕄 :=
  iprop(slot c 0 klM ∗ slot c 1 vlM ∗ slot c 4 (lo koM) ∗ slot c 5 (lo voM))

/-- What device `c` gets from its barrier cell: from the next device by duty 0, from the previous one by duty 1. -/
def barPay (c : Dev nD) (d : Fin 2) : sProp 𝕄 := if d = 0 then lendPrv (nxt c) else lendNxt (prv c)

/-- One round: two duties on the barrier cell, one on every transfer cell. -/
def sched : Rounds.Schedule (GSem nD τ sig) (Fin 2) 𝕄 where
  duties g r := if r = 0 then (match g.2 with | .reg _ => Finset.univ | .dma _ => {0}) else ∅
  unitless _ := False
  amount g _ _ := match g.2 with | .reg _ => 1 | .dma q => amt ⟨(q.val + 7) % 8, Nat.mod_lt _ (by decide)⟩
  payload g _ d := match g.2 with
    | .reg _ => barPay g.1.1 d
    | .dma q => if q.val < 25 then sendPay Kx Vx g.1.1 ⟨(q.val + 7) % 8, Nat.mod_lt _ (by decide)⟩ else recvPay Kx Vx g.1.1 ⟨(q.val + 7) % 8, Nat.mod_lt _ (by decide)⟩
  amount_pos g _ _ _ := by
    cases g.2 with
    | reg _ => exact Nat.one_pos
    | dma q => exact amt_pos _

instance sendPay_storable (c : Dev nD) (i : Fin 8) : BI.Storable (upEmb : UEmb _ 𝕄) (sendPay Kx Vx c i) := by
  unfold sendPay held; split <;> infer_instance
instance recvPay_storable (c : Dev nD) (i : Fin 8) : BI.Storable (upEmb : UEmb _ 𝕄) (recvPay Kx Vx c i) := by
  unfold recvPay held; split <;> infer_instance
instance held_storable {s : Shape} {e : EltTy} (c : Dev nD) (m : Memref sig .tc .vmem s e) (q) (f) : BI.Storable (upEmb : UEmb _ 𝕄) (held (F := F) c m q f) := by
  unfold held; infer_instance
instance lent_storable {s : Shape} {e : EltTy} (c : Dev nD) (m : Memref sig .tc .vmem s e) : BI.Storable (upEmb : UEmb _ 𝕄) (lent (F := F) c m) := by
  unfold lent; infer_instance
instance slot_storable {s : Shape} {e : EltTy} (c : Dev nD) (i : Fin 8) (m : Memref sig .tc .vmem s e) : BI.Storable (upEmb : UEmb _ 𝕄) (slot (F := F) c i m) := by
  unfold slot; infer_instance
instance barPay_storable (c : Dev nD) (d : Fin 2) : BI.Storable (upEmb : UEmb _ 𝕄) (barPay (F := F) c d) := by
  unfold barPay lendPrv lendNxt; split <;> infer_instance

instance sched_payload_storable (g : GSem nD τ sig) (r : ℕ) (d : Fin 2) : BI.Storable (upEmb : UEmb _ 𝕄) ((sched Kx Vx).payload g r d) := by
  obtain ⟨t, s⟩ := g
  cases s with
  | reg _ => exact barPay_storable t.1 d
  | dma q =>
    show BI.Storable upEmb (if q.val < 25 then sendPay Kx Vx t.1 _ else recvPay Kx Vx t.1 _)
    split <;> infer_instance

theorem sidx (i : Fin 8) : (⟨((sS i).val + 7) % 8, Nat.mod_lt _ (by decide)⟩ : Fin 8) = i := by revert i; decide
theorem ridx (i : Fin 8) : (⟨((rS i).val + 7) % 8, Nat.mod_lt _ (by decide)⟩ : Fin 8) = i := by revert i; decide

omit [FloatOps F] [Named F] in
theorem duties_bar (c : Dev nD) : (sched Kx Vx).duties (barCell c) 0 = Finset.univ := rfl
omit [FloatOps F] [Named F] in
theorem duties_dma (c : Dev nD) (q : DmaSem sig) : (sched Kx Vx).duties ((c : Thread nD τ), .dma q) 0 = {0} := rfl
omit [FloatOps F] [Named F] in
theorem duties_later (g : GSem nD τ sig) : ∀ r, 1 ≤ r → (sched Kx Vx).duties g r = ∅ := fun r hr => if_neg (by omega)
omit [FloatOps F] [Named F] in
theorem amount_s (c : Dev nD) (i : Fin 8) (d : Fin 2) : (sched Kx Vx).amount (sCell c i) 0 d = amt i := congrArg amt (sidx i)
omit [FloatOps F] [Named F] in
theorem amount_r (c : Dev nD) (i : Fin 8) (d : Fin 2) : (sched Kx Vx).amount (rCell c i) 0 d = amt i := congrArg amt (ridx i)
omit [FloatOps F] [Named F] in
theorem amount_bar (c : Dev nD) (d : Fin 2) : (sched Kx Vx).amount (barCell c) 0 d = 1 := rfl
omit [FloatOps F] [Named F] in
theorem expect_bar (c : Dev nD) : (sched Kx Vx).expect (barCell c) 0 = 2 := by
  unfold Schedule.expect Schedule.amountOf; rw [duties_bar, Finset.sum_congr rfl fun d _ => amount_bar Kx Vx c d]; rfl
omit [FloatOps F] [Named F] in
theorem expect_s (c : Dev nD) (i : Fin 8) : (sched Kx Vx).expect (sCell c i) 0 = amt i := by
  unfold Schedule.expect Schedule.amountOf; rw [duties_dma, Finset.sum_singleton, amount_s]
omit [FloatOps F] [Named F] in
theorem expect_r (c : Dev nD) (i : Fin 8) : (sched Kx Vx).expect (rCell c i) 0 = amt i := by
  unfold Schedule.expect Schedule.amountOf; rw [duties_dma, Finset.sum_singleton, amount_r]
omit [FloatOps F] [Named F] in
theorem payload_s (c : Dev nD) (i : Fin 8) (d : Fin 2) : (sched Kx Vx).payload (sCell c i) 0 d = sendPay Kx Vx c i :=
  (if_pos (show 17 + i.val < 25 by omega)).trans (congrArg (sendPay Kx Vx c) (sidx i))
omit [FloatOps F] [Named F] in
theorem payload_r (c : Dev nD) (i : Fin 8) (d : Fin 2) : (sched Kx Vx).payload (rCell c i) 0 d = recvPay Kx Vx c i :=
  (if_neg (show ¬ 25 + i.val < 25 by omega)).trans (congrArg (recvPay Kx Vx c) (ridx i))
omit [FloatOps F] [Named F] in
theorem payload_bar (c : Dev nD) (d : Fin 2) : (sched Kx Vx).payload (barCell c) 0 d = barPay c d := rfl

omit [FloatOps F] [Named F] in
/-- All a device gets from its barrier cell. -/
theorem rest_bar (c : Dev nD) : bigSep ((sched Kx Vx).duties (barCell c) 0 \ ∅) (fun d => (sched Kx Vx).payload (barCell c) 0 d) = iprop(lendPrv (nxt c) ∗ lendNxt (prv c)) := by
  rw [Finset.sdiff_empty, duties_bar, bigSep_univ_eq_bigSepL [0, 1] (by decide) (by decide), bigSepL_cons_cons, bigSepL_singleton]
  rfl
omit [FloatOps F] [Named F] in
theorem rest_s (c : Dev nD) (i : Fin 8) : bigSep ((sched Kx Vx).duties (sCell c i) 0 \ ∅) (fun d => (sched Kx Vx).payload (sCell c i) 0 d) = sendPay Kx Vx c i := by
  rw [Finset.sdiff_empty, duties_dma, bigSep_singleton, payload_s]
omit [FloatOps F] [Named F] in
theorem rest_r (c : Dev nD) (i : Fin 8) : bigSep ((sched Kx Vx).duties (rCell c i) 0 \ ∅) (fun d => (sched Kx Vx).payload (rCell c i) 0 d) = recvPay Kx Vx c i := by
  rw [Finset.sdiff_empty, duties_dma, bigSep_singleton, payload_r]

end Sched

/-! ### What a device owes, and the levels -/

/-- The receive credits still owed when `n` transfers are yet to start: the last `n` ones', the next to start last. -/
def owedX (c : Dev nD) : ℕ → CellTallies nD τ sig Unit
  | 0 => 0
  | n + 1 => owedX c n + tallyAt (rCell (peer c (Fin.ofNat 8 (7 - n))) (Fin.ofNat 8 (7 - n))) () (amt (Fin.ofNat 8 (7 - n)))
/-- With the second signal still owed, -/
def owed1 (c : Dev nD) : CellTallies nD τ sig Unit := owedX c 8 + tallyAt (barCell (nxt c)) () 1
/-- and with both: what a device starts with. -/
def owed0 (c : Dev nD) : CellTallies nD τ sig Unit := owed1 c + tallyAt (barCell (prv c)) () 1

def L (g : GSem nD τ sig) : Finset Unit := if g.1.2 = .tc then {()} else ∅
/-- Staging and send cells at 0, barrier cells at 1, the receive cells of the first four transfers at 2, of the last four at 3. -/
def lv (g : GSem nD τ sig) (_ : Unit) : ℕ := match g.2 with
  | .reg _ => 1
  | .dma q => if q.val < 25 ∨ 33 ≤ q.val then 0 else if q.val < 29 then 2 else 3

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem owedX_pos (c : Dev nD) : ∀ n, n ≤ 8 → ∀ (g : GSem nD τ sig) (u : Unit), 0 < owedX c n g u → ∃ i : Fin 8, 8 - n ≤ i.val ∧ g = rCell (peer c i) i
  | 0, _, g, u, h => absurd h (Nat.lt_irrefl 0)
  | n + 1, hn, g, u, h => by
    have h' : 0 < owedX c n g u + (tallyAt (rCell (peer c (Fin.ofNat 8 (7 - n))) (Fin.ofNat 8 (7 - n))) () (amt (Fin.ofNat 8 (7 - n))) : CellTallies nD τ sig Unit) g u := h
    rcases Nat.lt_or_ge 0 (owedX c n g u) with h1 | h1
    · obtain ⟨i, hi, hg⟩ := owedX_pos c n (by omega) g u h1
      exact ⟨i, by omega, hg⟩
    · refine ⟨Fin.ofNat 8 (7 - n), ?_, tallyAt_pos (u := u) (n := amt (Fin.ofNat 8 (7 - n))) ?_⟩
      rotate_left
      · omega
      show 8 - (n + 1) ≤ (7 - n) % 8
      omega

theorem owed0_pos (c : Dev nD) (g : GSem nD τ sig) (u : Unit) (h : 0 < owed0 c g u) :
    (∃ i : Fin 8, g = rCell (peer c i) i) ∨ g = barCell (nxt c) ∨ g = barCell (prv c) := by
  have h' : 0 < owedX c 8 g u + (tallyAt (barCell (nxt c)) () 1 : CellTallies nD τ sig Unit) g u + (tallyAt (barCell (prv c)) () 1 : CellTallies nD τ sig Unit) g u := h
  rcases Nat.lt_or_ge 0 (owedX c 8 g u) with h1 | h1
  · obtain ⟨i, -, hg⟩ := owedX_pos c 8 le_rfl g u h1
    exact .inl ⟨i, hg⟩
  rcases Nat.lt_or_ge 0 ((tallyAt (barCell (nxt c)) () 1 : CellTallies nD τ sig Unit) g u) with h2 | h2
  · exact .inr (.inl (tallyAt_pos h2))
  · refine .inr (.inr (tallyAt_pos (u := u) (n := 1) ?_)); omega

/-- A wait below every cell in what is owed is allowed. -/
theorem mayWait_of_lt (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

theorem lv_r (c : Dev nD) (i : Fin 8) : lv (rCell c i) () = if i.val < 4 then 2 else 3 := by revert i; intro i; fin_cases i <;> rfl
theorem lv_s (c : Dev nD) (i : Fin 8) : lv (sCell c i) () = 0 := by fin_cases i <;> rfl

/-- The barrier wait, all transfers still owed. -/
theorem mayWait_bar (c : Dev nD) : (levAts L lv : sProp 𝕄) ⊢ MayWait (c : Thread nD τ) (.reg barS) () (owedX c 8) :=
  mayWait_of_lt c _ _ fun g u hg => by
    obtain ⟨i, -, rfl⟩ := owedX_pos c 8 le_rfl g u hg
    refine ⟨rfl, ?_⟩
    rw [lv_r]; show 1 < _; split <;> decide

/-- A send wait, whatever transfers are still owed, -/
theorem mayWait_s (c : Dev nD) (i : Fin 8) (n : ℕ) (hn : n ≤ 8) : (levAts L lv : sProp 𝕄) ⊢ MayWait (c : Thread nD τ) (.dma (sS i)) () (owedX c n) :=
  mayWait_of_lt c _ _ fun g u hg => by
    obtain ⟨j, -, rfl⟩ := owedX_pos c n hn g u hg
    refine ⟨rfl, ?_⟩
    rw [lv_r, show lv ((c : Thread nD τ), SemLoc.dma (sS i)) () = 0 from lv_s c i]; split <;> decide

/-- and a wait for one of the first four transfers to land, the last four at most still owed. -/
theorem mayWait_r (c : Dev nD) (i : Fin 8) (hi : i.val < 4) (n : ℕ) (hn : n ≤ 4) : (levAts L lv : sProp 𝕄) ⊢ MayWait (c : Thread nD τ) (.dma (rS i)) () (owedX c n) :=
  mayWait_of_lt c _ _ fun g u hg => by
    obtain ⟨j, hj, rfl⟩ := owedX_pos c n (by omega) g u hg
    refine ⟨rfl, ?_⟩
    have hj4 : ¬ j.val < 4 := by omega
    cases u
    rw [lv_r (peer c j) j, if_neg hj4, show lv ((c : Thread nD τ), SemLoc.dma (rS i)) () = 2 from (lv_r c i).trans (if_pos hi)]
    decide

/-- The waits of the staging transfers. -/
theorem mayWait_stage (c : Dev nD) (q : DmaSem sig) (hq : q.val < 25 ∨ 33 ≤ q.val) (O : CellTallies nD τ sig Unit) (hO : O = owed0 c ∨ O = 0) :
    (levAts L lv : sProp 𝕄) ⊢ MayWait (c : Thread nD τ) (.dma q) () O := by
  have hl : lv ((c : Thread nD τ), SemLoc.dma q) () = 0 := if_pos hq
  rcases hO with rfl | rfl
  · refine mayWait_of_lt c _ _ fun g u hg => ?_
    rw [hl]
    rcases owed0_pos c g u hg with ⟨i, rfl⟩ | rfl | rfl
    · refine ⟨rfl, ?_⟩; rw [lv_r]; split <;> decide
    · exact ⟨rfl, Nat.one_pos⟩
    · exact ⟨rfl, Nat.one_pos⟩
  · exact mayWait_of_lt c _ _ fun g u hg => absurd hg (Nat.lt_irrefl 0)

end Cert.KernelIdeal.Fused
-- ==== Proof.KernelIdeal.Steps.lean ====
/- The steps of the exchange, each proved once: a transfer sent, its send wait, its receive wait; a landing buffer
   as its two halves of heads, and what a transfer leaves in one. -/
module

public import proofs.«01_k».proof.Proof.KernelIdeal.Protocol

@[expose] public section

set_option maxRecDepth 8192

noncomputable section

namespace Cert.KernelIdeal.Fused

open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ UU ℕ

abbrev 𝒱₀ : Variants := Variants.none

/-! ### Halves and shares -/

/-- The two halves' rectangles. -/
abbrev rLo : Rect S8x2048x128 := Rect.unit (s := S8x2048x128) ![0, 0, 0] S4x2048x128.size inb_S8x2048x128_S4x2048x128_0_0_0
abbrev rHi : Rect S8x2048x128 := Rect.unit (s := S8x2048x128) ![4, 0, 0] S4x2048x128.size inb_S8x2048x128_S4x2048x128_4_0_0

theorem mem_rLo (i : S8x2048x128.Idx) : i ∈ rLo.set ↔ (i 0).val < 4 := by
  rw [Rect.mem_set_unit]
  constructor
  · intro h; exact (h 0).2
  · intro h a
    have := (i a).isLt
    fin_cases a
    · exact ⟨Nat.zero_le _, h⟩
    · exact ⟨Nat.zero_le _, this⟩
    · exact ⟨Nat.zero_le _, this⟩

theorem mem_rHi (i : S8x2048x128.Idx) : i ∈ rHi.set ↔ 4 ≤ (i 0).val := by
  rw [Rect.mem_set_unit]
  constructor
  · intro h; exact (h 0).1
  · intro h a
    have := (i a).isLt
    fin_cases a
    · exact ⟨h, this⟩
    · exact ⟨Nat.zero_le _, this⟩
    · exact ⟨Nat.zero_le _, this⟩

theorem halves_disjoint : Disjoint rLo.set rHi.set :=
  Finset.disjoint_left.mpr fun i h1 h2 => by rw [mem_rLo] at h1; rw [mem_rHi] at h2; omega
theorem halves_union : rLo.set ∪ rHi.set = Finset.univ := by
  ext i; rw [Finset.mem_union, mem_rLo, mem_rHi]; simp only [Finset.mem_univ, iff_true]; omega

/-- A buffer held is its two halves held. -/
theorem held_halves (c : Dev nD) (m : Memref sig .tc .vmem S8x2048x128 .bf16) (q : PosShare TreeShare) (f : BufTy.Contents (Elt F) m.view.ty) :
    (held c m q f : sProp 𝕄) ⊣⊢ iprop(held c (lo m) q f ∗ held c (hi m) q f) := by
  have hd : Disjoint (lo m).view.set (hi m).view.set := by
    show Disjoint (m.view.slice rLo).set (m.view.slice rHi).set
    rw [View.set_slice, View.set_slice]
    exact (Finset.disjoint_map _).mpr halves_disjoint
  have hu : m.view.set = (lo m).view.set ∪ (hi m).view.set := by
    show m.view.set = (m.view.slice rLo).set ∪ (m.view.slice rHi).set
    rw [View.set_slice, View.set_slice, ← Finset.map_union, halves_union]; rfl
  unfold held
  rw [hu]
  exact pointsTo_union hd

/-- A buffer held at a share is held at the share's two halves. -/
theorem held_share (c : Dev nD) {s : Shape} {e : EltTy} (m : Memref sig .tc .vmem s e) (q : PosShare TreeShare) (f : BufTy.Contents (Elt F) m.view.ty) :
    (held c m q f : sProp 𝕄) ⊣⊢ iprop(held c m q.left f ∗ held c m q.right f) :=
  pointsTo_share (PosShare.mem_left_op_right q)

/-! ### What a transfer leaves is what its source held -/

theorem landed_kM_klM (f fd : Arr F .bf16) : (klM : Memref sig .tc .vmem S8x2048x128 .bf16).view.write (Elt F) fd (kM.view.read (Elt F) f) Finset.univ = f :=
  View.write_whole_univ cc1_scratch0 fd f
theorem landed_vM_vlM (f fd : Arr F .bf16) : (vlM : Memref sig .tc .vmem S8x2048x128 .bf16).view.write (Elt F) fd (vM.view.read (Elt F) f) Finset.univ = f :=
  View.write_whole_univ cc1_scratch1 fd f
theorem landed_kM_krM (f fd : Arr F .bf16) : (krM : Memref sig .tc .vmem S8x2048x128 .bf16).view.write (Elt F) fd (kM.view.read (Elt F) f) Finset.univ = f :=
  View.write_whole_univ cc1_scratch2 fd f
theorem landed_vM_vrM (f fd : Arr F .bf16) : (vrM : Memref sig .tc .vmem S8x2048x128 .bf16).view.write (Elt F) fd (vM.view.read (Elt F) f) Finset.univ = f :=
  View.write_whole_univ cc1_scratch3 fd f

theorem landed_lo_klM (c : Dev nD) (f fd : Arr F .bf16) :
    (held c (lo koM) fullShare ((lo koM).view.write (Elt F) fd ((lo klM).view.read (Elt F) f) Finset.univ) : sProp 𝕄) ⊢ held c (lo koM) fullShare f :=
  Entails.of_eq (pointsTo_congr fun i hi => by
    obtain ⟨j, -, rfl⟩ := Finset.mem_map.mp hi
    exact View.write_emb_of_mem _ _ (Finset.mem_univ j))
theorem landed_lo_vlM (c : Dev nD) (f fd : Arr F .bf16) :
    (held c (lo voM) fullShare ((lo voM).view.write (Elt F) fd ((lo vlM).view.read (Elt F) f) Finset.univ) : sProp 𝕄) ⊢ held c (lo voM) fullShare f :=
  Entails.of_eq (pointsTo_congr fun i hi => by
    obtain ⟨j, -, rfl⟩ := Finset.mem_map.mp hi
    exact View.write_emb_of_mem _ _ (Finset.mem_univ j))
theorem landed_hi_krM (c : Dev nD) (f fd : Arr F .bf16) :
    (held c (hi koM) fullShare ((hi koM).view.write (Elt F) fd ((hi krM).view.read (Elt F) f) Finset.univ) : sProp 𝕄) ⊢ held c (hi koM) fullShare f :=
  Entails.of_eq (pointsTo_congr fun i hi => by
    obtain ⟨j, -, rfl⟩ := Finset.mem_map.mp hi
    exact View.write_emb_of_mem _ _ (Finset.mem_univ j))
theorem landed_hi_vrM (c : Dev nD) (f fd : Arr F .bf16) :
    (held c (hi voM) fullShare ((hi voM).view.write (Elt F) fd ((hi vrM).view.read (Elt F) f) Finset.univ) : sProp 𝕄) ⊢ held c (hi voM) fullShare f :=
  Entails.of_eq (pointsTo_congr fun i hi => by
    obtain ⟨j, -, rfl⟩ := Finset.mem_map.mp hi
    exact View.write_emb_of_mem _ _ (Finset.mem_univ j))

/-! ### The exchange's state -/

/-- A cell's semaphore by its number: the barrier's, the eight send semaphores, the eight receive semaphores. -/
def csem (j : Fin 17) : SemLoc sig := if j.val = 0 then .reg barS else .dma ⟨16 + j.val, Nat.lt_of_lt_of_le (Nat.add_lt_add_left j.isLt 16) (by decide)⟩
abbrev kcell (p : Dev nD × Fin 17) : GSem nD τ sig := ((p.1 : Thread nD τ), csem p.2)
abbrev jS (i : Fin 8) : Fin 17 := ⟨1 + i.val, by omega⟩
abbrev jR (i : Fin 8) : Fin 17 := ⟨9 + i.val, by omega⟩
theorem csem_0 : csem 0 = .reg barS := rfl
theorem csem_s (i : Fin 8) : csem (jS i) = .dma (sS i) := by revert i; decide
theorem csem_r (i : Fin 8) : csem (jR i) = .dma (rS i) := by revert i; decide

section State
variable (Kx Vx : Dev nD → Arr F .bf16) (K : Dev nD × Fin 17 → ℕ)

/-- What every device knows throughout: every cell's invariant, under the names `K`, that the barrier cells are open, and the levels. -/
def known : sProp 𝕄 :=
  iprop(bigSep Finset.univ (fun p => cellInv ER (sched Kx Vx) (K p) (kcell p)) ∗ bigSep Finset.univ (fun d : Dev nD => reached ER (barCell d) 0) ∗ levAts L lv)

instance known_persistent : BI.Persistent (known Kx Vx K) := by unfold known; infer_instance

theorem known_inv (p : Dev nD × Fin 17) : known Kx Vx K ⊢ cellInv ER (sched Kx Vx) (K p) (kcell p) := by
  unfold known
  exact sep_elim_left.trans (bigSep_elim (Φ := fun p => cellInv ER (sched Kx Vx) (K p) (kcell p)) (Finset.mem_univ p))
theorem known_lev : known Kx Vx K ⊢ levAts L lv := by
  unfold known
  iintro ⟨-, -, H⟩
  iexact H

theorem inv_s (c : Dev nD) (i : Fin 8) : known Kx Vx K ⊢ cellInv ER (sched Kx Vx) (K (c, jS i)) (sCell c i) := by
  have := known_inv Kx Vx K (c, jS i); unfold kcell at this; rw [csem_s] at this; exact this
theorem inv_r (c : Dev nD) (i : Fin 8) : known Kx Vx K ⊢ cellInv ER (sched Kx Vx) (K (c, jR i)) (rCell c i) := by
  have := known_inv Kx Vx K (c, jR i); unfold kcell at this; rw [csem_r] at this; exact this
theorem inv_bar (c : Dev nD) : known Kx Vx K ⊢ cellInv ER (sched Kx Vx) (K (c, 0)) (barCell c) := known_inv Kx Vx K (c, 0)
theorem reached_bar (c : Dev nD) : known Kx Vx K ⊢ reached ER (barCell c) 0 := by
  unfold known
  exact (sep_elim_right.trans sep_elim_left).trans (bigSep_elim (Φ := fun d : Dev nD => reached ER (barCell d) 0) (Finset.mem_univ c))

/-- Device `c` owes `O`. -/
def owing (c : Dev nD) (O : CellTallies nD τ sig Unit) : sProp 𝕄 := iprop(∃ W, owes (c : Thread nD τ) O W)

theorem owing_eq (c : Dev nD) (O : CellTallies nD τ sig Unit) : (owing c O : sProp 𝕄) = iprop(∃ W, owes (c : Thread nD τ) O W) := rfl

/-- Transfer `i` of device `c`, and the one that lands on `c`: not yet begun, -/
def fresh (c : Dev nD) (i : Fin 8) : sProp 𝕄 :=
  iprop(atPos ER (sCell c i) 0 ∅ 0 ∗ atPos ER (rCell c i) 0 ∅ 0 ∗ dutyTok ER (sCell c i) 0 0 ∗ dutyTok ER (rCell (peer c i) i) 0 0 ∗ cred (tallyAt (rCell c i) () (amt i)) ∗ reached ER (sCell c i) 0 ∗ reached ER (rCell c i) 0)

theorem fresh_open (c : Dev nD) (i : Fin 8) : (fresh c i : sProp 𝕄) ⊢ iprop(reached ER (rCell c i) 0 ∗ fresh c i) := by
  unfold fresh
  iintro ⟨H1, H2, H3, H4, H5, #H6, #H7⟩
  isplitr; · iexact H7
  isplitl [H1]; · iexact H1
  isplitl [H2]; · iexact H2
  isplitl [H3]; · iexact H3
  isplitl [H4]; · iexact H4
  isplitl [H5]; · iexact H5
  isplitr; · iexact H6
  iexact H7

/-- sent, -/
def sent (c : Dev nD) (i : Fin 8) : sProp 𝕄 :=
  iprop(atPos ER (sCell c i) 0 ∅ 0 ∗ atPos ER (rCell c i) 0 ∅ 0 ∗ cred (tallyAt (rCell c i) () (amt i)) ∗ cred (tallyAt (sCell c i) () (amt i)))
/-- its source read, -/
def gone (c : Dev nD) (i : Fin 8) : sProp 𝕄 :=
  iprop(semVal (sCell c i) 0 ∗ atPos ER (rCell c i) 0 ∅ 0 ∗ cred (tallyAt (rCell c i) () (amt i)))
/-- and landed, both cells closed. -/
def closed (c : Dev nD) (i : Fin 8) : sProp 𝕄 := iprop(semVal (sCell c i) 0 ∗ semVal (rCell c i) 0)

/-- Transfer `i`: the source share goes into the send cell, the landing area, written, into the addressed device's receive cell. -/
theorem wp_transfer (c n : Dev nD) (i : Fin 8) (hn : n = peer c i) {s : Shape} {e : EltTy} {src dst : Memref sig .tc .vmem s e}
    {hsc : (dst : Memref sig (Dev.tc n : Thread nD τ).2.kind .vmem s e).view.ref.isScScratch = false} {hsrc : src.view.WordExact} {hdst : dst.view.WordExact}
    {hsem : DmaTarget.Typed .vmem (.dma (rS i)) (.remote (Dev.tc n : Thread nD τ) dst (.dma (sS i)) hsc)}
    {α : Type} {Q : α → sProp 𝕄} {k : PUnit → Prog (TpuEff nD τ sig (Elt F) Λ₀ .tc) α}
    (q : PosShare TreeShare) (f : BufTy.Contents (Elt F) src.view.ty) (m : ℕ) (hN : dst.view.amount (.dma (rS i)) = amt i)
    (hO : owedX c (m + 1) = owedX c m + tallyAt (rCell (peer c i) i) () (amt i))
    (hs : held c src q f ⊢ sendPay Kx Vx c i)
    (hd : ∀ fd, held (peer c i) dst fullShare (dst.view.write (Elt F) fd (src.view.read (Elt F) f) Finset.univ) ⊢ recvPay Kx Vx (peer c i) i) :
    iprop(known Kx Vx K ∗ held c src q f ∗ slot (peer c i) i dst ∗ owing c (owedX c (m + 1)) ∗ fresh c i)
      ⊢ iprop(((sent c i ∗ owing c (owedX c m)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sS i)) hsc) (.dma (rS i)) hsrc hdst hsem) k) Q) := by
  subst hn
  unfold slot lent owing fresh sent
  iintro ⟨#HK, Hs, ⟨#Hrp, ⟨%fd, Hd⟩⟩, ⟨%W, HO⟩, HaS, HaR, HtS, HtR, HcR, #Hrs, -⟩ Hk
  iapply (Rounds.wp_send_pointsTo 𝒱₀ ER (sched Kx Vx) (c : Thread nD τ) none (κ₁ := K (c, jS i)) (κ₂ := K (peer c i, jR i))
    (r₁ := 0) (r₂ := 0) (d₁ := 0) (d₂ := 0) (fs := f) (fd := fd)
    (by rw [duties_dma]; exact Finset.mem_singleton_self _) (by rw [duties_dma]; exact Finset.mem_singleton_self _)
    () () (amt i) hN (amount_s Kx Vx c i 0) (amount_r Kx Vx (peer c i) i 0) (owedX c m) hO (W := W)
    (by rw [payload_s]; exact hs)
    (by rw [payload_r]; exact hd fd)) $$ [Hs Hd HO HtS HtR]
  · isplitr; · iapply (inv_s Kx Vx K c i); iexact HK
    isplitr; · iapply (inv_r Kx Vx K (peer c i) i); iexact HK
    isplitl [Hs]; · iexact Hs
    isplitl [Hd]; · iexact Hd
    isplitl [HO]; · iexact HO
    isplitl [HtS]; · iexact HtS
    isplitr; · iexact Hrs
    isplitl [HtR]; · iexact HtR
    iexact Hrp
  iintro ⟨HcS, HO⟩
  iapply Hk
  isplitr [HO]
  · isplitl [HaS]; · iexact HaS
    isplitl [HaR]; · iexact HaR
    isplitl [HcR]; · iexact HcR
    iexact HcS
  iexists W; iexact HO

/-- The wait for transfer `i`'s source: the share comes back, the send cell closes. -/
theorem wp_wait_gone (c : Dev nD) (i : Fin 8) (n : ℕ) (hn : n ≤ 8) {s : Shape} {e : EltTy}
    {src dst : Memref sig .tc .vmem s e} {hsrc : src.view.WordExact} {hdst : dst.view.WordExact} (hN : dst.view.dmaCredit = amt i)
    {α : Type} {Q : α → sProp 𝕄} {k : PUnit → Prog (TpuEff nD τ sig (Elt F) Λ₀ .tc) α} :
    iprop(known Kx Vx K ∗ owing c (owedX c n) ∗ sent c i)
      ⊢ iprop(((gone c i ∗ owing c (owedX c n) ∗ sendPay Kx Vx c i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sS i) src dst hsrc hdst) k) Q) := by
  unfold owing sent gone
  iintro ⟨#HK, ⟨%W, HO⟩, HaS, HaR, HcR, HcS⟩ Hk
  iapply (Rounds.wp_wait_rest_token 𝒱₀ ER (sched Kx Vx) (c : Thread nD τ) none (κ := K (c, jS i))
      (wpE_waitDma2_eq 𝒱₀ (c : Thread nD τ) none Set.univ) (Set.mem_univ _) () (O := owedX c n) (W := W) (R := 0) (m := 0) (T := ∅)
      (by rw [Nat.zero_add, hN, expect_s])) $$ [HcS HO HaS]
  · isplitr; · iapply (inv_s Kx Vx K c i); iexact HK
    rw [hN]
    isplitl [HcS]; · iexact HcS
    isplitl [HO]; · iexact HO
    isplitr; · iapply (mayWait_s c i n hn); iapply (known_lev Kx Vx K); iexact HK
    iexact HaS
  iintro ⟨HO, HaS, -, Hpay⟩
  imod (Rounds.cell_close ER (sched Kx Vx) (Set.mem_univ (K (c, jS i))) (fun h => h) (R := 0 + 1) (duties_later Kx Vx (sCell c i))) $$ [HaS] with HzS
  · isplitr; · iapply (inv_s Kx Vx K c i); iexact HK
    iexact HaS
  iapply Hk
  isplitl [HzS HaR HcR]
  · isplitl [HzS]; · iexact HzS
    isplitl [HaR] <;> iassumption
  isplitl [HO]; · iexists _; iexact HO
  iapply (Entails.of_eq (rest_s Kx Vx c i)); iexact Hpay

/-- The wait for what lands on `c`: it is handed over, the receive cell closes. -/
theorem wp_wait_landed (c : Dev nD) (i : Fin 8) (n : ℕ) (hn : i.val < 4 ∧ n ≤ 4 ∨ n = 0) {s : Shape} {e : EltTy}
    {src dst : Memref sig .tc .vmem s e} {hsrc : src.view.WordExact} {hdst : dst.view.WordExact} (hN : dst.view.dmaCredit = amt i)
    {α : Type} {Q : α → sProp 𝕄} {k : PUnit → Prog (TpuEff nD τ sig (Elt F) Λ₀ .tc) α} :
    iprop(known Kx Vx K ∗ owing c (owedX c n) ∗ gone c i)
      ⊢ iprop(((closed c i ∗ owing c (owedX c n) ∗ recvPay Kx Vx c i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rS i) src dst hsrc hdst) k) Q) := by
  unfold owing gone closed
  iintro ⟨#HK, ⟨%W, HO⟩, HzS, HaR, HcR⟩ Hk
  iapply (Rounds.wp_wait_rest_token 𝒱₀ ER (sched Kx Vx) (c : Thread nD τ) none (κ := K (c, jR i))
      (wpE_waitDma2_eq 𝒱₀ (c : Thread nD τ) none Set.univ) (Set.mem_univ _) () (O := owedX c n) (W := W) (R := 0) (m := 0) (T := ∅)
      (by rw [Nat.zero_add, hN, expect_r])) $$ [HcR HO HaR]
  · isplitr; · iapply (inv_r Kx Vx K c i); iexact HK
    rw [hN]
    isplitl [HcR]; · iexact HcR
    isplitl [HO]; · iexact HO
    isplitr
    · rcases hn with ⟨hi, hn⟩ | rfl
      · iapply (mayWait_r c i hi n hn); iapply (known_lev Kx Vx K); iexact HK
      · rw [show owedX c 0 = 0 from rfl, MayWait_zero]; iempintro
    iexact HaR
  iintro ⟨HO, HaR, -, Hpay⟩
  imod (Rounds.cell_close ER (sched Kx Vx) (Set.mem_univ (K (c, jR i))) (fun h => h) (R := 0 + 1) (duties_later Kx Vx (rCell c i))) $$ [HaR] with HzR
  · isplitr; · iapply (inv_r Kx Vx K c i); iexact HK
    iexact HaR
  iapply Hk
  isplitl [HzS HzR]
  · isplitl [HzS] <;> iassumption
  isplitl [HO]; · iexists _; iexact HO
  iapply (Entails.of_eq (rest_r Kx Vx c i)); iexact Hpay

end State

end Cert.KernelIdeal.Fused
-- ==== Proof.KernelIdeal.Body.lean ====
/- The fused call's body at device `c`, part by part: what each part of the program takes and leaves. -/
module

public import proofs.«01_k».proof.Proof.KernelIdeal.Steps

@[expose] public section

set_option maxRecDepth 8192

noncomputable section

namespace Cert.KernelIdeal.Fused

open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ UU ℕ

/-! ### The loops -/

theorem wp_loop1 (c : Dev nD) (d0 : Dev nD) (v5 v7 : BitVec 32) (qq qk qv : PosShare TreeShare) (X Y Z : Arr F .bf16) (o l : Arr F .f32) {Q : PUnit → sProp 𝕄} :
    iprop(held c qM qq X ∗ held c kM qk Y ∗ held c vM qv Z ∗ held c oM fullShare o ∗ held c lM fullShare l)
      ⊢ iprop(((held c qM qq X ∗ held c kM qk Y ∗ held c vM qv Z ∗ held c oM fullShare (tile (firstO X Y Z)) ∗ held c lM fullShare (tile (firstL X Y))) -∗ Q ⟨⟩)
          -∗ wp frame (wpE (defs₀ (F := F)) 𝒱₀ (c : Thread nD τ) none) Set.univ (Scf.Loop.for k1_t1_loop k1_t1_ok ⟨⟩ (k1_t1_body (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem d0 v5 v7)) Q) := by
  have h := exec_loop_last frame (wpE (defs₀ (F := F)) 𝒱₀ (c : Thread nD τ) none) Set.univ k1_t1_loop.lb k1_t1_loop.ub k1_t1_loop.st k1_t1_ok ⟨⟩
    (k1_t1_body (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem d0 v5 v7) (loop1 𝒱₀ c none Set.univ d0 v5 v7 qq qk qv X Y Z o l) (Q := Q)
  iintro H HQ
  iapply h $$ [H]
  · show _ ⊢ iprop(held c qM qq X ∗ held c kM qk Y ∗ held c vM qv Z ∗ held c oM fullShare (mix 0 o (tile (firstO X Y Z))) ∗ held c lM fullShare (mix 0 l (tile (firstL X Y))))
    rw [mix_zero, mix_zero]
  iintro %acc H
  iapply HQ
  have ht : 8 ≤ Scf.trips k1_t1_loop.lb k1_t1_loop.ub k1_t1_loop.st := by decide
  rw [← mix_all o (tile (firstO X Y Z)) _ ht, ← mix_all l (tile (firstL X Y)) _ ht]
  iexact H

theorem wp_loop2 (c : Dev nD) (d0 : Dev nD) (v5 : BitVec 32) (qq qk qv : PosShare TreeShare) (X Y Z : Arr F .bf16) (o l : Arr F .f32) {Q : PUnit → sProp 𝕄} :
    iprop(held c qM qq X ∗ held c klM qk Y ∗ held c vlM qv Z ∗ held c oM fullShare o ∗ held c lM fullShare l)
      ⊢ iprop(((held c qM qq X ∗ held c klM qk Y ∗ held c vlM qv Z ∗ held c oM fullShare (tile (moreO X Y Z o)) ∗ held c lM fullShare (tile (moreL X Y l))) -∗ Q ⟨⟩)
          -∗ wp frame (wpE (defs₀ (F := F)) 𝒱₀ (c : Thread nD τ) none) Set.univ (Scf.Loop.for k1_t2_loop k1_t2_ok ⟨⟩ (k1_t2_body (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem d0 v5)) Q) := by
  have h := exec_loop_last frame (wpE (defs₀ (F := F)) 𝒱₀ (c : Thread nD τ) none) Set.univ k1_t2_loop.lb k1_t2_loop.ub k1_t2_loop.st k1_t2_ok ⟨⟩
    (k1_t2_body (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem d0 v5) (loop2 𝒱₀ c none Set.univ d0 v5 qq qk qv X Y Z o l) (Q := Q)
  iintro H HQ
  iapply h $$ [H]
  · show _ ⊢ iprop(held c qM qq X ∗ held c klM qk Y ∗ held c vlM qv Z ∗ held c oM fullShare (mix 0 o (tile (moreO X Y Z o))) ∗ held c lM fullShare (mix 0 l (tile (moreL X Y l))))
    rw [mix_zero, mix_zero]
  iintro %acc H
  iapply HQ
  have ht : 8 ≤ Scf.trips k1_t2_loop.lb k1_t2_loop.ub k1_t2_loop.st := by decide
  rw [← mix_all o (tile (moreO X Y Z o)) _ ht, ← mix_all l (tile (moreL X Y l)) _ ht]
  iexact H

theorem wp_loop3 (c : Dev nD) (d0 : Dev nD) (v5 : BitVec 32) (qq qk qv : PosShare TreeShare) (X Y Z : Arr F .bf16) (o l : Arr F .f32) {Q : PUnit → sProp 𝕄} :
    iprop(held c qM qq X ∗ held c krM qk Y ∗ held c vrM qv Z ∗ held c oM fullShare o ∗ held c lM fullShare l)
      ⊢ iprop(((held c qM qq X ∗ held c krM qk Y ∗ held c vrM qv Z ∗ held c oM fullShare (tile (moreO X Y Z o)) ∗ held c lM fullShare (tile (moreL X Y l))) -∗ Q ⟨⟩)
          -∗ wp frame (wpE (defs₀ (F := F)) 𝒱₀ (c : Thread nD τ) none) Set.univ (Scf.Loop.for k1_t3_loop k1_t3_ok ⟨⟩ (k1_t3_body (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem d0 v5)) Q) := by
  have h := exec_loop_last frame (wpE (defs₀ (F := F)) 𝒱₀ (c : Thread nD τ) none) Set.univ k1_t3_loop.lb k1_t3_loop.ub k1_t3_loop.st k1_t3_ok ⟨⟩
    (k1_t3_body (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem d0 v5) (loop3 𝒱₀ c none Set.univ d0 v5 qq qk qv X Y Z o l) (Q := Q)
  iintro H HQ
  iapply h $$ [H]
  · show _ ⊢ iprop(held c qM qq X ∗ held c krM qk Y ∗ held c vrM qv Z ∗ held c oM fullShare (mix 0 o (tile (moreO X Y Z o))) ∗ held c lM fullShare (mix 0 l (tile (moreL X Y l))))
    rw [mix_zero, mix_zero]
  iintro %acc H
  iapply HQ
  have ht : 8 ≤ Scf.trips k1_t3_loop.lb k1_t3_loop.ub k1_t3_loop.st := by decide
  rw [← mix_all o (tile (moreO X Y Z o)) _ ht, ← mix_all l (tile (moreL X Y l)) _ ht]
  iexact H

theorem wp_loop4 (c : Dev nD) (v5 : BitVec 32) (qq qk qv : PosShare TreeShare) (X Y Z : Arr F .bf16) (o l : Arr F .f32) {Q : PUnit → sProp 𝕄} :
    iprop(held c qM qq X ∗ held c koM qk Y ∗ held c voM qv Z ∗ held c oM fullShare o ∗ held c lM fullShare l)
      ⊢ iprop(((held c qM qq X ∗ held c koM qk Y ∗ held c voM qv Z ∗ held c oM fullShare (tile (moreO X Y Z o)) ∗ held c lM fullShare (tile (moreL X Y l))) -∗ Q ⟨⟩)
          -∗ wp frame (wpE (defs₀ (F := F)) 𝒱₀ (c : Thread nD τ) none) Set.univ (Scf.Loop.for k1_t4_loop k1_t4_ok ⟨⟩ (k1_t4_body (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem v5)) Q) := by
  have h := exec_loop_last frame (wpE (defs₀ (F := F)) 𝒱₀ (c : Thread nD τ) none) Set.univ k1_t4_loop.lb k1_t4_loop.ub k1_t4_loop.st k1_t4_ok ⟨⟩
    (k1_t4_body (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem v5) (loop4 𝒱₀ c none Set.univ v5 qq qk qv X Y Z o l) (Q := Q)
  iintro H HQ
  iapply h $$ [H]
  · show _ ⊢ iprop(held c qM qq X ∗ held c koM qk Y ∗ held c voM qv Z ∗ held c oM fullShare (mix 0 o (tile (moreO X Y Z o))) ∗ held c lM fullShare (mix 0 l (tile (moreL X Y l))))
    rw [mix_zero, mix_zero]
  iintro %acc H
  iapply HQ
  have ht : 8 ≤ Scf.trips k1_t4_loop.lb k1_t4_loop.ub k1_t4_loop.st := by decide
  rw [← mix_all o (tile (moreO X Y Z o)) _ ht, ← mix_all l (tile (moreL X Y l)) _ ht]
  iexact H

theorem wp_loop5 (c : Dev nD) (o l : Arr F .f32) {Q : PUnit → sProp 𝕄} :
    iprop(held c oM fullShare o ∗ held c lM fullShare l)
      ⊢ iprop(((held c oM fullShare (tile (quot o l)) ∗ held c lM fullShare l) -∗ Q ⟨⟩)
          -∗ wp frame (wpE (defs₀ (F := F)) 𝒱₀ (c : Thread nD τ) none) Set.univ (Scf.Loop.for k1_t5_loop k1_t5_ok ⟨⟩ (k1_t5_body (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem)) Q) := by
  have h := exec_loop_last frame (wpE (defs₀ (F := F)) 𝒱₀ (c : Thread nD τ) none) Set.univ k1_t5_loop.lb k1_t5_loop.ub k1_t5_loop.st k1_t5_ok ⟨⟩
    (k1_t5_body (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem) (loop5 𝒱₀ c none Set.univ o l) (Q := Q)
  iintro H HQ
  iapply h $$ [H]
  · show _ ⊢ iprop(held c oM fullShare (mix 0 o (tile (quot o l))) ∗ held c lM fullShare l)
    rw [mix_zero]
  iintro %acc H
  iapply HQ
  have ht : 8 ≤ Scf.trips k1_t5_loop.lb k1_t5_loop.ub k1_t5_loop.st := by decide
  rw [← mix_all o (tile (quot o l)) _ ht]
  iexact H

/-! ### The parts -/

section Parts
variable (Kx Vx : Dev nD → Arr F .bf16) (K : Dev nD × Fin 17 → ℕ)

set_option maxHeartbeats 1600000 in
/-- The barrier with both neighbours, then the own keys and values sent to the next device. -/
theorem wp_part13 (c : Dev nD)  {Q : (Σ' (_ : Dev nD) (_ : BitVec 32), BitVec 32) → sProp 𝕄} :
    iprop(known Kx Vx K ∗ owing c (owed0 c) ∗ atPos ER (barCell c) 0 ∅ 0 ∗ cred (tallyAt (barCell c) () 2) ∗ dutyTok ER (barCell (prv c)) 0 0 ∗ dutyTok ER (barCell (nxt c)) 0 1 ∗ lendPrv c ∗ lendNxt c ∗ held c kM qR (Kx c) ∗ held c vM qR (Vx c) ∗ fresh c 0 ∗ fresh c 1)
      ⊢ iprop((∀ v5 v7, (owing c (owedX c 6) ∗ semVal (barCell c) 0 ∗ slot (peer c 4) 4 (lo koM) ∗ slot (peer c 5) 5 (lo voM) ∗ lendNxt (prv c) ∗ sent c 0 ∗ sent c 1) -∗ Q ⟨c, v5, v7⟩)
          -∗ wp frame (wpE (defs₀ (F := F)) 𝒱₀ (c : Thread nD τ) none) Set.univ (k1_part13 (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem) Q) := by
  rw [k1_part13_eq_skeleton]; unfold k1_part13_skel
  simp only [semSignalWord, semWaitWord, Prog.lift, Prog.bind_op, Prog.bind_ret, Prog.pure_eq_ret, Prog.bind_assoc, wp_deviceId]
  simp only [ss0, rs0, ss1, rs1, ss2, rs2, ss3, rs3, ss4, rs4, ss5, rs5, ss6, rs6, ss7, rs7, dev1_eq, dev2_eq]
  iintro ⟨#HK, HO, AB, CB, TP, TN, LP, LN, S0, S1, F0, F1⟩ Hk
  ihave HO := (Entails.of_eq (owing_eq c (owed0 c))) $$ HO
  icases HO with ⟨%W, HO⟩
  iapply (Rounds.wp_signal 𝒱₀ ER (sched Kx Vx) (c : Thread nD τ) none (dst := (prv c : Thread nD τ)) (κ := K (prv c, 0))
      (d := 0) (by rw [duties_bar]; exact Finset.mem_univ _) ((amount_bar Kx Vx (prv c) 0).trans (by decide)) () (owed1 c) rfl) $$ [HO TP LP]
  · isplitr; · iapply (inv_bar Kx Vx K (prv c)); iexact HK
    isplitl [HO]; · iexact HO
    isplitl [TP]; · iexact TP
    isplitl [LP]
    · rw [payload_bar]; unfold barPay; rw [if_pos rfl, nxt_prv]; iexact LP
    iapply (reached_bar Kx Vx K (prv c)); iexact HK
  iintro HO
  iapply (Rounds.wp_signal 𝒱₀ ER (sched Kx Vx) (c : Thread nD τ) none (dst := (nxt c : Thread nD τ)) (κ := K (nxt c, 0))
      (d := 1) (by rw [duties_bar]; exact Finset.mem_univ _) ((amount_bar Kx Vx (nxt c) 1).trans (by decide)) () (owedX c 8) rfl) $$ [HO TN LN]
  · isplitr; · iapply (inv_bar Kx Vx K (nxt c)); iexact HK
    isplitl [HO]; · iexact HO
    isplitl [TN]; · iexact TN
    isplitl [LN]
    · rw [payload_bar]; unfold barPay; rw [if_neg (by decide), prv_nxt]; iexact LN
    iapply (reached_bar Kx Vx K (nxt c)); iexact HK
  iintro HO
  iapply (Rounds.wp_wait_rest_token 𝒱₀ ER (sched Kx Vx) (c : Thread nD τ) none (κ := K (c, 0))
      (wpE_semWait_eq 𝒱₀ (c : Thread nD τ) none Set.univ) (Set.mem_univ _) () (O := owedX c 8) (W := W) (R := 0) (m := 0) (T := ∅)
      (by rw [expect_bar]; decide)) $$ [CB HO AB]
  · isplitr; · iapply (inv_bar Kx Vx K c); iexact HK
    isplitl [CB]; · iexact CB
    isplitl [HO]; · iexact HO
    isplitr; · iapply (mayWait_bar c); iapply (known_lev Kx Vx K); iexact HK
    iexact AB
  iintro ⟨HO, AB, -, Hpay⟩
  imod (Rounds.cell_close ER (sched Kx Vx) (Set.mem_univ (K (c, 0))) (fun h => h) (R := 0 + 1) (duties_later Kx Vx (barCell c))) $$ [AB] with ZB
  · isplitr; · iapply (inv_bar Kx Vx K c); iexact HK
    iexact AB
  ihave Hp := (Entails.of_eq (rest_bar Kx Vx c)) $$ Hpay
  unfold lendPrv
  icases Hp with ⟨⟨D0, D1, D4, D5⟩, LN⟩
  ihave HO : owing c (owedX c 8) $$ [HO]
  · iapply (Entails.of_eq (owing_eq c (owedX c 8)).symm); iexists _; iexact HO
  iapply (wp_transfer Kx Vx K c _ 0 (dev3_eq c) (src := kM) (dst := klM) qR (Kx c) 7 rfl rfl (BI.Entails.refl _)
    (fun fd => Entails.of_eq (congrArg (held (peer c 0) klM fullShare) ((landed_kM_klM _ fd).trans (congrArg Kx (prv_nxt c).symm))))) $$ [S0 D0 HO F0]
  · isplitr; · iexact HK
    isplitl [S0]; · iexact S0
    isplitl [D0]; · iexact D0
    isplitl [HO]; · iexact HO
    iexact F0
  iintro ⟨F0, HO⟩
  iapply (wp_transfer Kx Vx K c _ 1 (dev4_eq c) (src := vM) (dst := vlM) qR (Vx c) 6 rfl rfl (BI.Entails.refl _)
    (fun fd => Entails.of_eq (congrArg (held (peer c 1) vlM fullShare) ((landed_vM_vlM _ fd).trans (congrArg Vx (prv_nxt c).symm))))) $$ [S1 D1 HO F1]
  · isplitr; · iexact HK
    isplitl [S1]; · iexact S1
    isplitl [D1]; · iexact D1
    isplitl [HO]; · iexact HO
    iexact F1
  iintro ⟨F1, HO⟩
  rw [wp_ret]; imodintro
  iapply Hk
  isplitl [HO]; · iexact HO
  isplitl [ZB]; · iexact ZB
  isplitl [D4]; · iexact D4
  isplitl [D5]; · iexact D5
  isplitl [LN]; · iexact LN
  isplitl [F0]; · iexact F0
  iexact F1

set_option maxHeartbeats 1600000 in
/-- The own keys and values sent to the previous device; the first loop, over the own keys; the first two transfers awaited. -/
theorem wp_part14 (c : Dev nD) (v5 v7 : BitVec 32) (X : Arr F .bf16) (o l : Arr F .f32) {Q : PUnit → sProp 𝕄} :
    iprop(known Kx Vx K ∗ owing c (owedX c 6) ∗ held c kM qL (Kx c) ∗ held c vM qL (Vx c) ∗ slot (peer c 2) 2 krM ∗ slot (peer c 3) 3 vrM ∗ fresh c 2 ∗ fresh c 3 ∗ sent c 0 ∗ sent c 1 ∗ held c qM fullShare X ∗ held c kM qK (Kx c) ∗ held c vM qK (Vx c) ∗ held c oM fullShare o ∗ held c lM fullShare l)
      ⊢ iprop(((owing c (owedX c 4) ∗ sent c 2 ∗ sent c 3 ∗ closed c 0 ∗ closed c 1 ∗ sendPay Kx Vx c 0 ∗ sendPay Kx Vx c 1 ∗ recvPay Kx Vx c 0 ∗ recvPay Kx Vx c 1 ∗ held c qM fullShare X ∗ held c kM qK (Kx c) ∗ held c vM qK (Vx c) ∗ held c oM fullShare (tile (firstO X (Kx c) (Vx c))) ∗ held c lM fullShare (tile (firstL X (Kx c)))) -∗ Q ⟨⟩)
          -∗ wp frame (wpE (defs₀ (F := F)) 𝒱₀ (c : Thread nD τ) none) Set.univ (k1_part14 (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem c v5 v7) Q) := by
  rw [k1_part14_eq_skeleton]; unfold k1_part14_skel
  simp only [semSignalWord, semWaitWord, Prog.lift, Prog.bind_op, Prog.bind_ret, Prog.pure_eq_ret, Prog.bind_assoc, wp_deviceId]
  simp only [ss0, rs0, ss1, rs1, ss2, rs2, ss3, rs3, ss4, rs4, ss5, rs5, ss6, rs6, ss7, rs7]
  iintro ⟨#HK, HO, S2, S3, D2, D3, F2, F3, F0, F1, Q, KK, VV, O, L⟩ Hk
  iapply (wp_transfer Kx Vx K c _ 2 (dev5_eq c) (src := kM) (dst := krM) qL (Kx c) 5 rfl rfl (BI.Entails.refl _)
    (fun fd => Entails.of_eq (congrArg (held (peer c 2) krM fullShare) ((landed_kM_krM _ fd).trans (congrArg Kx (nxt_prv c).symm))))) $$ [S2 D2 HO F2]
  · isplitr; · iexact HK
    isplitl [S2]; · iexact S2
    isplitl [D2]; · iexact D2
    isplitl [HO]; · iexact HO
    iexact F2
  iintro ⟨F2, HO⟩
  iapply (wp_transfer Kx Vx K c _ 3 (dev6_eq c) (src := vM) (dst := vrM) qL (Vx c) 4 rfl rfl (BI.Entails.refl _)
    (fun fd => Entails.of_eq (congrArg (held (peer c 3) vrM fullShare) ((landed_vM_vrM _ fd).trans (congrArg Vx (nxt_prv c).symm))))) $$ [S3 D3 HO F3]
  · isplitr; · iexact HK
    isplitl [S3]; · iexact S3
    isplitl [D3]; · iexact D3
    isplitl [HO]; · iexact HO
    iexact F3
  iintro ⟨F3, HO⟩
  rw [wp_bind]
  iapply (wp_loop1 c c v5 v7 _ _ _ _ _ _ _ _) $$ [Q KK VV O L]
  · isplitl [Q]; · iexact Q
    isplitl [KK]; · iexact KK
    isplitl [VV]; · iexact VV
    isplitl [O] <;> iassumption
  iintro ⟨Q, KK, VV, O, L⟩
  iapply (wp_wait_gone Kx Vx K c 0 4 (by decide) (src := klM) (dst := kM) rfl) $$ [HO F0]
  · isplitr; · iexact HK
    isplitl [HO] <;> iassumption
  iintro ⟨F0, HO, B0⟩
  iapply (wp_wait_landed Kx Vx K c 0 4 (.inl ⟨by decide, by decide⟩) (src := kM) (dst := klM) rfl) $$ [HO F0]
  · isplitr; · iexact HK
    isplitl [HO] <;> iassumption
  iintro ⟨F0, HO, R0⟩
  iapply (wp_wait_gone Kx Vx K c 1 4 (by decide) (src := vlM) (dst := vM) rfl) $$ [HO F1]
  · isplitr; · iexact HK
    isplitl [HO] <;> iassumption
  iintro ⟨F1, HO, B1⟩
  iapply (wp_wait_landed Kx Vx K c 1 4 (.inl ⟨by decide, by decide⟩) (src := vM) (dst := vlM) rfl) $$ [HO F1]
  · isplitr; · iexact HK
    isplitl [HO] <;> iassumption
  iintro ⟨F1, HO, R1⟩
  rw [wp_ret]; imodintro
  iapply Hk
  isplitl [HO]; · iexact HO
  isplitl [F2]; · iexact F2
  isplitl [F3]; · iexact F3
  isplitl [F0]; · iexact F0
  isplitl [F1]; · iexact F1
  isplitl [B0]; · iexact B0
  isplitl [B1]; · iexact B1
  isplitl [R0]; · iexact R0
  isplitl [R1]; · iexact R1
  isplitl [Q]; · iexact Q
  isplitl [KK]; · iexact KK
  isplitl [VV]; · iexact VV
  isplitl [O]; · iexact O
  iexact L

set_option maxHeartbeats 1600000 in
/-- Heads 0 to 3 of what came from the previous device passed on; the next two transfers awaited. -/
theorem wp_part15 (c : Dev nD) (v5 v7 : BitVec 32) {Q : PUnit → sProp 𝕄} :
    iprop(known Kx Vx K ∗ owing c (owedX c 4) ∗ held c (lo klM) fullShare.left (Kx (prv c)) ∗ held c (lo vlM) fullShare.left (Vx (prv c)) ∗ slot (peer c 4) 4 (lo koM) ∗ slot (peer c 5) 5 (lo voM) ∗ fresh c 4 ∗ fresh c 5 ∗ sent c 2 ∗ sent c 3)
      ⊢ iprop(((owing c (owedX c 2) ∗ sent c 4 ∗ sent c 5 ∗ closed c 2 ∗ closed c 3 ∗ sendPay Kx Vx c 2 ∗ sendPay Kx Vx c 3 ∗ recvPay Kx Vx c 2 ∗ recvPay Kx Vx c 3) -∗ Q ⟨⟩)
          -∗ wp frame (wpE (defs₀ (F := F)) 𝒱₀ (c : Thread nD τ) none) Set.univ (k1_part15 (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem c v5 v7) Q) := by
  rw [k1_part15_eq_skeleton]; unfold k1_part15_skel
  simp only [semSignalWord, semWaitWord, Prog.lift, Prog.bind_op, Prog.bind_ret, Prog.pure_eq_ret, Prog.bind_assoc, wp_deviceId]
  simp only [ss0, rs0, ss1, rs1, ss2, rs2, ss3, rs3, ss4, rs4, ss5, rs5, ss6, rs6, ss7, rs7]
  iintro ⟨#HK, HO, S4, S5, D4, D5, F4, F5, F2, F3⟩ Hk
  iapply (wp_transfer Kx Vx K c _ 4 (dev7_eq c) (src := (lo klM)) (dst := (lo koM)) fullShare.left (Kx (prv c)) 3 rfl rfl (BI.Entails.refl _)
    (fun fd => (landed_lo_klM (peer c 4) _ fd).trans (Entails.of_eq (congrArg (fun x => held (peer c 4) (lo koM) fullShare (Kx x)) (opp_nxt c).symm)))) $$ [S4 D4 HO F4]
  · isplitr; · iexact HK
    isplitl [S4]; · iexact S4
    isplitl [D4]; · iexact D4
    isplitl [HO]; · iexact HO
    iexact F4
  iintro ⟨F4, HO⟩
  iapply (wp_transfer Kx Vx K c _ 5 (dev8_eq c) (src := (lo vlM)) (dst := (lo voM)) fullShare.left (Vx (prv c)) 2 rfl rfl (BI.Entails.refl _)
    (fun fd => (landed_lo_vlM (peer c 5) _ fd).trans (Entails.of_eq (congrArg (fun x => held (peer c 5) (lo voM) fullShare (Vx x)) (opp_nxt c).symm)))) $$ [S5 D5 HO F5]
  · isplitr; · iexact HK
    isplitl [S5]; · iexact S5
    isplitl [D5]; · iexact D5
    isplitl [HO]; · iexact HO
    iexact F5
  iintro ⟨F5, HO⟩
  iapply (wp_wait_gone Kx Vx K c 2 2 (by decide) (src := krM) (dst := kM) rfl) $$ [HO F2]
  · isplitr; · iexact HK
    isplitl [HO] <;> iassumption
  iintro ⟨F2, HO, B2⟩
  iapply (wp_wait_landed Kx Vx K c 2 2 (.inl ⟨by decide, by decide⟩) (src := kM) (dst := krM) rfl) $$ [HO F2]
  · isplitr; · iexact HK
    isplitl [HO] <;> iassumption
  iintro ⟨F2, HO, R2⟩
  iapply (wp_wait_gone Kx Vx K c 3 2 (by decide) (src := vrM) (dst := vM) rfl) $$ [HO F3]
  · isplitr; · iexact HK
    isplitl [HO] <;> iassumption
  iintro ⟨F3, HO, B3⟩
  iapply (wp_wait_landed Kx Vx K c 3 2 (.inl ⟨by decide, by decide⟩) (src := vM) (dst := vrM) rfl) $$ [HO F3]
  · isplitr; · iexact HK
    isplitl [HO] <;> iassumption
  iintro ⟨F3, HO, R3⟩
  rw [wp_ret]; imodintro
  iapply Hk
  isplitl [HO]; · iexact HO
  isplitl [F4]; · iexact F4
  isplitl [F5]; · iexact F5
  isplitl [F2]; · iexact F2
  isplitl [F3]; · iexact F3
  isplitl [B2]; · iexact B2
  isplitl [B3]; · iexact B3
  isplitl [R2]; · iexact R2
  iexact R3

set_option maxHeartbeats 1600000 in
/-- Heads 4 to 7 of what came from the next device passed back; the loops over the two neighbours' keys. -/
theorem wp_part16 (c : Dev nD) (v5 : BitVec 32) (X : Arr F .bf16) (o l : Arr F .f32) {Q : PUnit → sProp 𝕄} :
    iprop(known Kx Vx K ∗ owing c (owedX c 2) ∗ held c (hi krM) fullShare.left (Kx (nxt c)) ∗ held c (hi vrM) fullShare.left (Vx (nxt c)) ∗ slot (peer c 6) 6 (hi koM) ∗ slot (peer c 7) 7 (hi voM) ∗ fresh c 6 ∗ fresh c 7 ∗ held c qM fullShare X ∗ held c klM fullShare.right (Kx (prv c)) ∗ held c vlM fullShare.right (Vx (prv c)) ∗ held c krM fullShare.right (Kx (nxt c)) ∗ held c vrM fullShare.right (Vx (nxt c)) ∗ held c oM fullShare o ∗ held c lM fullShare l)
      ⊢ iprop(((owing c (owedX c 0) ∗ sent c 6 ∗ sent c 7 ∗ held c qM fullShare X ∗ held c klM fullShare.right (Kx (prv c)) ∗ held c vlM fullShare.right (Vx (prv c)) ∗ held c krM fullShare.right (Kx (nxt c)) ∗ held c vrM fullShare.right (Vx (nxt c)) ∗ held c oM fullShare (tile (moreO X (Kx (nxt c)) (Vx (nxt c)) (tile (moreO X (Kx (prv c)) (Vx (prv c)) o)))) ∗ held c lM fullShare (tile (moreL X (Kx (nxt c)) (tile (moreL X (Kx (prv c)) l))))) -∗ Q ⟨⟩)
          -∗ wp frame (wpE (defs₀ (F := F)) 𝒱₀ (c : Thread nD τ) none) Set.univ (k1_part16 (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem c v5) Q) := by
  rw [k1_part16_eq_skeleton]; unfold k1_part16_skel
  simp only [semSignalWord, semWaitWord, Prog.lift, Prog.bind_op, Prog.bind_ret, Prog.pure_eq_ret, Prog.bind_assoc, wp_deviceId]
  simp only [ss0, rs0, ss1, rs1, ss2, rs2, ss3, rs3, ss4, rs4, ss5, rs5, ss6, rs6, ss7, rs7]
  iintro ⟨#HK, HO, S6, S7, D6, D7, F6, F7, Q, KL, VL, KR, VR, O, L⟩ Hk
  iapply (wp_transfer Kx Vx K c _ 6 (dev9_eq c) (src := (hi krM)) (dst := (hi koM)) fullShare.left (Kx (nxt c)) 1 rfl rfl (BI.Entails.refl _)
    (fun fd => (landed_hi_krM (peer c 6) _ fd).trans (Entails.of_eq (congrArg (fun x => held (peer c 6) (hi koM) fullShare (Kx x)) (opp_prv c).symm)))) $$ [S6 D6 HO F6]
  · isplitr; · iexact HK
    isplitl [S6]; · iexact S6
    isplitl [D6]; · iexact D6
    isplitl [HO]; · iexact HO
    iexact F6
  iintro ⟨F6, HO⟩
  iapply (wp_transfer Kx Vx K c _ 7 (dev10_eq c) (src := (hi vrM)) (dst := (hi voM)) fullShare.left (Vx (nxt c)) 0 rfl rfl (BI.Entails.refl _)
    (fun fd => (landed_hi_vrM (peer c 7) _ fd).trans (Entails.of_eq (congrArg (fun x => held (peer c 7) (hi voM) fullShare (Vx x)) (opp_prv c).symm)))) $$ [S7 D7 HO F7]
  · isplitr; · iexact HK
    isplitl [S7]; · iexact S7
    isplitl [D7]; · iexact D7
    isplitl [HO]; · iexact HO
    iexact F7
  iintro ⟨F7, HO⟩
  rw [wp_bind]
  iapply (wp_loop2 c c v5 _ _ _ _ _ _ _ _) $$ [Q KL VL O L]
  · isplitl [Q]; · iexact Q
    isplitl [KL]; · iexact KL
    isplitl [VL]; · iexact VL
    isplitl [O] <;> iassumption
  iintro ⟨Q, KL, VL, O, L⟩
  rw [wp_bind]
  iapply (wp_loop3 c c v5 _ _ _ _ _ _ _ _) $$ [Q KR VR O L]
  · isplitl [Q]; · iexact Q
    isplitl [KR]; · iexact KR
    isplitl [VR]; · iexact VR
    isplitl [O] <;> iassumption
  iintro ⟨Q, KR, VR, O, L⟩
  rw [wp_ret]; imodintro
  iapply Hk
  isplitl [HO]; · iexact HO
  isplitl [F6]; · iexact F6
  isplitl [F7]; · iexact F7
  isplitl [Q]; · iexact Q
  isplitl [KL]; · iexact KL
  isplitl [VL]; · iexact VL
  isplitl [KR]; · iexact KR
  isplitl [VR]; · iexact VR
  isplitl [O]; · iexact O
  iexact L

set_option maxHeartbeats 1600000 in
/-- The lower halves awaited. -/
theorem wp_part17 (c : Dev nD) (v7 : BitVec 32) {Q : PUnit → sProp 𝕄} :
    iprop(known Kx Vx K ∗ owing c (owedX c 0) ∗ sent c 4 ∗ sent c 5)
      ⊢ iprop(((owing c (owedX c 0) ∗ closed c 4 ∗ closed c 5 ∗ sendPay Kx Vx c 4 ∗ sendPay Kx Vx c 5 ∗ recvPay Kx Vx c 4 ∗ recvPay Kx Vx c 5) -∗ Q ⟨⟩)
          -∗ wp frame (wpE (defs₀ (F := F)) 𝒱₀ (c : Thread nD τ) none) Set.univ (k1_part17 (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem v7) Q) := by
  rw [k1_part17_eq_skeleton]; unfold k1_part17_skel
  simp only [semSignalWord, semWaitWord, Prog.lift, Prog.bind_op, Prog.bind_ret, Prog.pure_eq_ret, Prog.bind_assoc, wp_deviceId]
  simp only [ss0, rs0, ss1, rs1, ss2, rs2, ss3, rs3, ss4, rs4, ss5, rs5, ss6, rs6, ss7, rs7]
  iintro ⟨#HK, HO, F4, F5⟩ Hk
  iapply (wp_wait_gone Kx Vx K c 4 0 (by decide) (src := (lo koM)) (dst := (lo klM)) rfl) $$ [HO F4]
  · isplitr; · iexact HK
    isplitl [HO] <;> iassumption
  iintro ⟨F4, HO, B4⟩
  iapply (wp_wait_landed Kx Vx K c 4 0 (.inr rfl) (src := (lo klM)) (dst := (lo koM)) rfl) $$ [HO F4]
  · isplitr; · iexact HK
    isplitl [HO] <;> iassumption
  iintro ⟨F4, HO, R4⟩
  iapply (wp_wait_gone Kx Vx K c 5 0 (by decide) (src := (lo voM)) (dst := (lo vlM)) rfl) $$ [HO F5]
  · isplitr; · iexact HK
    isplitl [HO] <;> iassumption
  iintro ⟨F5, HO, B5⟩
  iapply (wp_wait_landed Kx Vx K c 5 0 (.inr rfl) (src := (lo vlM)) (dst := (lo voM)) rfl) $$ [HO F5]
  · isplitr; · iexact HK
    isplitl [HO] <;> iassumption
  iintro ⟨F5, HO, R5⟩
  rw [wp_ret]; imodintro
  iapply Hk
  isplitl [HO]; · iexact HO
  isplitl [F4]; · iexact F4
  isplitl [F5]; · iexact F5
  isplitl [B4]; · iexact B4
  isplitl [B5]; · iexact B5
  isplitl [R4]; · iexact R4
  iexact R5

set_option maxHeartbeats 1600000 in
/-- The upper halves awaited; the loop over the opposite device's keys. -/
theorem wp_part18 (c : Dev nD) (v5 : BitVec 32) (X : Arr F .bf16) (o l : Arr F .f32) {Q : PUnit → sProp 𝕄} :
    iprop(known Kx Vx K ∗ owing c (owedX c 0) ∗ sent c 6 ∗ sent c 7 ∗ recvPay Kx Vx c 4 ∗ recvPay Kx Vx c 5 ∗ held c qM fullShare X ∗ held c oM fullShare o ∗ held c lM fullShare l)
      ⊢ iprop(((owing c (owedX c 0) ∗ closed c 6 ∗ closed c 7 ∗ sendPay Kx Vx c 6 ∗ sendPay Kx Vx c 7 ∗ held c qM fullShare X ∗ held c koM fullShare (Kx (opp c)) ∗ held c voM fullShare (Vx (opp c)) ∗ held c oM fullShare (tile (moreO X (Kx (opp c)) (Vx (opp c)) o)) ∗ held c lM fullShare (tile (moreL X (Kx (opp c)) l))) -∗ Q ⟨⟩)
          -∗ wp frame (wpE (defs₀ (F := F)) 𝒱₀ (c : Thread nD τ) none) Set.univ (k1_part18 (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem v5) Q) := by
  rw [k1_part18_eq_skeleton]; unfold k1_part18_skel
  simp only [semSignalWord, semWaitWord, Prog.lift, Prog.bind_op, Prog.bind_ret, Prog.pure_eq_ret, Prog.bind_assoc, wp_deviceId]
  simp only [ss0, rs0, ss1, rs1, ss2, rs2, ss3, rs3, ss4, rs4, ss5, rs5, ss6, rs6, ss7, rs7]
  iintro ⟨#HK, HO, F6, F7, R4, R5, Q, O, L⟩ Hk
  iapply (wp_wait_gone Kx Vx K c 6 0 (by decide) (src := (hi koM)) (dst := (hi krM)) rfl) $$ [HO F6]
  · isplitr; · iexact HK
    isplitl [HO] <;> iassumption
  iintro ⟨F6, HO, B6⟩
  iapply (wp_wait_landed Kx Vx K c 6 0 (.inr rfl) (src := (hi krM)) (dst := (hi koM)) rfl) $$ [HO F6]
  · isplitr; · iexact HK
    isplitl [HO] <;> iassumption
  iintro ⟨F6, HO, R6⟩
  iapply (wp_wait_gone Kx Vx K c 7 0 (by decide) (src := (hi voM)) (dst := (hi vrM)) rfl) $$ [HO F7]
  · isplitr; · iexact HK
    isplitl [HO] <;> iassumption
  iintro ⟨F7, HO, B7⟩
  iapply (wp_wait_landed Kx Vx K c 7 0 (.inr rfl) (src := (hi vrM)) (dst := (hi voM)) rfl) $$ [HO F7]
  · isplitr; · iexact HK
    isplitl [HO] <;> iassumption
  iintro ⟨F7, HO, R7⟩
  ihave KO : held c koM fullShare (Kx (opp c)) $$ [R4 R6]
  · iapply (held_halves c koM fullShare (Kx (opp c))).2
    isplitl [R4]; · iapply (Entails.of_eq (show recvPay Kx Vx c 4 = held c (lo koM) fullShare (Kx (opp c)) from rfl)); iexact R4
    iapply (Entails.of_eq (show recvPay Kx Vx c 6 = held c (hi koM) fullShare (Kx (opp c)) from rfl)); iexact R6
  ihave VO : held c voM fullShare (Vx (opp c)) $$ [R5 R7]
  · iapply (held_halves c voM fullShare (Vx (opp c))).2
    isplitl [R5]; · iapply (Entails.of_eq (show recvPay Kx Vx c 5 = held c (lo voM) fullShare (Vx (opp c)) from rfl)); iexact R5
    iapply (Entails.of_eq (show recvPay Kx Vx c 7 = held c (hi voM) fullShare (Vx (opp c)) from rfl)); iexact R7
  rw [wp_bind]
  iapply (wp_loop4 c v5 _ _ _ _ _ _ _ _) $$ [Q KO VO O L]
  · isplitl [Q]; · iexact Q
    isplitl [KO]; · iexact KO
    isplitl [VO]; · iexact VO
    isplitl [O] <;> iassumption
  iintro ⟨Q, KO, VO, O, L⟩
  rw [wp_ret]; imodintro
  iapply Hk
  isplitl [HO]; · iexact HO
  isplitl [F6]; · iexact F6
  isplitl [F7]; · iexact F7
  isplitl [B6]; · iexact B6
  isplitl [B7]; · iexact B7
  isplitl [Q]; · iexact Q
  isplitl [KO]; · iexact KO
  isplitl [VO]; · iexact VO
  isplitl [O]; · iexact O
  iexact L

end Parts

end Cert.KernelIdeal.Fused
-- ==== Proof.KernelIdeal.Whole.lean ====
/- The fused call's body at device `c`, whole: the parts put together, from what the launch hands it to what it leaves. -/
module

public import proofs.«01_k».proof.Proof.KernelIdeal.Body

@[expose] public section

set_option maxRecDepth 8192

noncomputable section

namespace Cert.KernelIdeal.Fused

open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ UU ℕ

/-! ### Buffers taken apart and put together -/

theorem lent_halves (c : Dev nD) (m : Memref sig .tc .vmem S8x2048x128 .bf16) : (lent c m : sProp 𝕄) ⊢ iprop(lent c (lo m) ∗ lent c (hi m)) := by
  unfold lent
  iintro ⟨%f, H⟩
  ihave H := (held_halves c m fullShare f).1 $$ H
  icases H with ⟨H1, H2⟩
  isplitl [H1]; · iexists f; iexact H1
  iexists f; iexact H2

/-- A landed buffer: a share to read, and the other one as its two halves, of which one is passed on. -/
theorem held_pass (c : Dev nD) (m : Memref sig .tc .vmem S8x2048x128 .bf16) (f : BufTy.Contents (Elt F) m.view.ty) :
    (held c m fullShare f : sProp 𝕄) ⊣⊢ iprop((held c (lo m) fullShare.left f ∗ held c (hi m) fullShare.left f) ∗ held c m fullShare.right f) := by
  constructor
  · iintro H
    ihave H := (held_share c m fullShare f).1 $$ H
    icases H with ⟨H1, H2⟩
    isplitl [H1]
    · iapply (held_halves c m fullShare.left f).1; iexact H1
    iexact H2
  · iintro ⟨H1, H2⟩
    iapply (held_share c m fullShare f).2
    isplitl [H1]
    · iapply (held_halves c m fullShare.left f).2; iexact H1
    iexact H2

/-- The own keys or values: two shares to send, one to read. -/
theorem held_three (c : Dev nD) (m : Memref sig .tc .vmem S8x2048x128 .bf16) (f : BufTy.Contents (Elt F) m.view.ty) :
    (held c m fullShare f : sProp 𝕄) ⊣⊢ iprop(held c m qR f ∗ held c m qL f ∗ held c m qK f) := by
  constructor
  · iintro H
    ihave H := (held_share c m fullShare f).1 $$ H
    icases H with ⟨H1, H2⟩
    isplitl [H1]; · iexact H1
    iapply (held_share c m fullShare.right f).1; iexact H2
  · iintro ⟨H1, H2⟩
    iapply (held_share c m fullShare f).2
    isplitl [H1]; · iexact H1
    iapply (held_share c m fullShare.right f).2; iexact H2

/-! ### The result -/

section Whole
variable (Qx Kx Vx : Dev nD → Arr F .bf16) (K : Dev nD × Fin 17 → ℕ)

/-- The weighted values summed over the own keys, the previous, the next and the opposite device's, -/
def sumO (c : Dev nD) : Arr F .f32 :=
  tile (moreO (Qx c) (Kx (opp c)) (Vx (opp c)) (tile (moreO (Qx c) (Kx (nxt c)) (Vx (nxt c)) (tile (moreO (Qx c) (Kx (prv c)) (Vx (prv c)) (tile (firstO (Qx c) (Kx c) (Vx c))))))))
/-- the weights likewise, -/
def sumL (c : Dev nD) : Arr F .f32 :=
  tile (moreL (Qx c) (Kx (opp c)) (tile (moreL (Qx c) (Kx (nxt c)) (tile (moreL (Qx c) (Kx (prv c)) (tile (firstL (Qx c) (Kx c))))))))
/-- and the first divided by the second: what device `c` computes. -/
def result (c : Dev nD) : Arr F .f32 := tile (quot (sumO Qx Kx Vx c) (sumL Qx Kx c))

/-- What the body takes, -/
def takes (c : Dev nD) : sProp 𝕄 :=
  iprop(owing c (owed0 c) ∗ atPos ER (barCell c) 0 ∅ 0 ∗ cred (tallyAt (barCell c) () 2) ∗ dutyTok ER (barCell (prv c)) 0 0 ∗ dutyTok ER (barCell (nxt c)) 0 1 ∗ fresh c 0 ∗ fresh c 1 ∗ fresh c 2 ∗ fresh c 3 ∗ fresh c 4 ∗ fresh c 5 ∗ fresh c 6 ∗ fresh c 7 ∗ held c qM fullShare (Qx c) ∗ held c kM fullShare (Kx c) ∗ held c vM fullShare (Vx c) ∗ (∃ f, held c oM fullShare f) ∗ lent c klM ∗ lent c vlM ∗ lent c krM ∗ lent c vrM ∗ lent c koM ∗ lent c voM ∗ (∃ f, held c lM fullShare f))
/-- and what it leaves. -/
def leaves (c : Dev nD) : sProp 𝕄 :=
  iprop(owing c (owedX c 0) ∗ semVal (barCell c) 0 ∗ closed c 0 ∗ closed c 1 ∗ closed c 2 ∗ closed c 3 ∗ closed c 4 ∗ closed c 5 ∗ closed c 6 ∗ closed c 7 ∗ held c qM fullShare (Qx c) ∗ held c kM fullShare (Kx c) ∗ held c vM fullShare (Vx c) ∗ held c oM fullShare (result Qx Kx Vx c) ∗ lent c klM ∗ lent c vlM ∗ lent c krM ∗ lent c vrM ∗ lent c koM ∗ lent c voM ∗ lent c lM)

set_option maxHeartbeats 1600000 in
/-- The body, from what it takes to what it leaves. -/
theorem wp_body (c : Dev nD) {Q : PUnit → sProp 𝕄} :
    iprop(known Kx Vx K ∗ takes Qx Kx Vx c) ⊢ iprop((leaves Qx Kx Vx c -∗ Q ⟨⟩) -∗ wp frame (wpE (defs₀ (F := F)) 𝒱₀ (c : Thread nD τ) none) Set.univ (cc1__fused_body (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem) Q) := by
  unfold takes leaves
  rw [cc1__fused_body_eq_skeleton]; unfold cc1__fused_body_skel
  iintro ⟨#HK, HO, AB, CB, TP, TN, F0, F1, F2, F3, F4, F5, F6, F7, Q, KF, VF, ⟨%o0, O⟩, KL, VL, KR, VR, KO, VO, ⟨%l0, L⟩⟩ Hk
  ihave KO := (lent_halves c koM) $$ KO
  icases KO with ⟨KOl, KOh⟩
  ihave VO := (lent_halves c voM) $$ VO
  icases VO with ⟨VOl, VOh⟩
  ihave F0 := (fresh_open c 0) $$ F0
  icases F0 with ⟨#r0, F0⟩
  ihave F1 := (fresh_open c 1) $$ F1
  icases F1 with ⟨#r1, F1⟩
  ihave F2 := (fresh_open c 2) $$ F2
  icases F2 with ⟨#r2, F2⟩
  ihave F3 := (fresh_open c 3) $$ F3
  icases F3 with ⟨#r3, F3⟩
  ihave F4 := (fresh_open c 4) $$ F4
  icases F4 with ⟨#r4, F4⟩
  ihave F5 := (fresh_open c 5) $$ F5
  icases F5 with ⟨#r5, F5⟩
  ihave F6 := (fresh_open c 6) $$ F6
  icases F6 with ⟨#r6, F6⟩
  ihave F7 := (fresh_open c 7) $$ F7
  icases F7 with ⟨#r7, F7⟩
  ihave LP : lendPrv c $$ [KL VL KOl VOl]
  · unfold lendPrv slot
    isplitl [KL]
    · isplitr; · iexact r0
      iexact KL
    isplitl [VL]
    · isplitr; · iexact r1
      iexact VL
    isplitl [KOl]
    · isplitr; · iexact r4
      iexact KOl
    isplitr; · iexact r5
    iexact VOl
  ihave LN : lendNxt c $$ [KR VR KOh VOh]
  · unfold lendNxt slot
    isplitl [KR]
    · isplitr; · iexact r2
      iexact KR
    isplitl [VR]
    · isplitr; · iexact r3
      iexact VR
    isplitl [KOh]
    · isplitr; · iexact r6
      iexact KOh
    isplitr; · iexact r7
    iexact VOh
  ihave KF := (held_three c kM (Kx c)).1 $$ KF
  icases KF with ⟨S0, S2, KK⟩
  ihave VF := (held_three c vM (Vx c)).1 $$ VF
  icases VF with ⟨S1, S3, VV⟩
  rw [wp_bind]
  iapply (wp_part13 Kx Vx K c) $$ [HO AB CB TP TN LP LN S0 S1 F0 F1]
  · isplitr; · iexact HK
    isplitl [HO]; · iexact HO
    isplitl [AB]; · iexact AB
    isplitl [CB]; · iexact CB
    isplitl [TP]; · iexact TP
    isplitl [TN]; · iexact TN
    isplitl [LP]; · iexact LP
    isplitl [LN]; · iexact LN
    isplitl [S0]; · iexact S0
    isplitl [S1]; · iexact S1
    isplitl [F0]; · iexact F0
    iexact F1
  iintro %v5 %v7 ⟨HO, ZB, D4, D5, LN, F0, F1⟩
  dsimp only
  ihave LN := (Entails.of_eq (show lendNxt (prv c) = iprop(slot (F := F) (peer c 2) 2 krM ∗ slot (peer c 3) 3 vrM ∗ slot (peer c 6) 6 (hi koM) ∗ slot (peer c 7) 7 (hi voM)) from rfl)) $$ LN
  icases LN with ⟨D2, D3, D6, D7⟩
  rw [wp_bind]
  iapply (wp_part14 Kx Vx K c v5 v7 (Qx c) o0 l0) $$ [HO S2 S3 D2 D3 F2 F3 F0 F1 Q KK VV O L]
  · isplitr; · iexact HK
    isplitl [HO]; · iexact HO
    isplitl [S2]; · iexact S2
    isplitl [S3]; · iexact S3
    isplitl [D2]; · iexact D2
    isplitl [D3]; · iexact D3
    isplitl [F2]; · iexact F2
    isplitl [F3]; · iexact F3
    isplitl [F0]; · iexact F0
    isplitl [F1]; · iexact F1
    isplitl [Q]; · iexact Q
    isplitl [KK]; · iexact KK
    isplitl [VV]; · iexact VV
    isplitl [O]; · iexact O
    iexact L
  iintro ⟨HO, F2, F3, F0, F1, B0, B1, R0, R1, Q, KK, VV, O, L⟩
  ihave R0 := (Entails.of_eq (show recvPay Kx Vx c 0 = held c klM fullShare (Kx (prv c)) from rfl)) $$ R0
  ihave R0 := (held_pass c klM (Kx (prv c))).1 $$ R0
  icases R0 with ⟨⟨S4, KLh⟩, KL⟩
  ihave R1 := (Entails.of_eq (show recvPay Kx Vx c 1 = held c vlM fullShare (Vx (prv c)) from rfl)) $$ R1
  ihave R1 := (held_pass c vlM (Vx (prv c))).1 $$ R1
  icases R1 with ⟨⟨S5, VLh⟩, VL⟩
  rw [wp_bind]
  iapply (wp_part15 Kx Vx K c v5 v7) $$ [HO S4 S5 D4 D5 F4 F5 F2 F3]
  · isplitr; · iexact HK
    isplitl [HO]; · iexact HO
    isplitl [S4]; · iexact S4
    isplitl [S5]; · iexact S5
    isplitl [D4]; · iexact D4
    isplitl [D5]; · iexact D5
    isplitl [F4]; · iexact F4
    isplitl [F5]; · iexact F5
    isplitl [F2]; · iexact F2
    iexact F3
  iintro ⟨HO, F4, F5, F2, F3, B2, B3, R2, R3⟩
  ihave R2 := (Entails.of_eq (show recvPay Kx Vx c 2 = held c krM fullShare (Kx (nxt c)) from rfl)) $$ R2
  ihave R2 := (held_pass c krM (Kx (nxt c))).1 $$ R2
  icases R2 with ⟨⟨KRl, S6⟩, KR⟩
  ihave R3 := (Entails.of_eq (show recvPay Kx Vx c 3 = held c vrM fullShare (Vx (nxt c)) from rfl)) $$ R3
  ihave R3 := (held_pass c vrM (Vx (nxt c))).1 $$ R3
  icases R3 with ⟨⟨VRl, S7⟩, VR⟩
  rw [wp_bind]
  iapply (wp_part16 Kx Vx K c v5 (Qx c) _ _) $$ [HO S6 S7 D6 D7 F6 F7 Q KL VL KR VR O L]
  · isplitr; · iexact HK
    isplitl [HO]; · iexact HO
    isplitl [S6]; · iexact S6
    isplitl [S7]; · iexact S7
    isplitl [D6]; · iexact D6
    isplitl [D7]; · iexact D7
    isplitl [F6]; · iexact F6
    isplitl [F7]; · iexact F7
    isplitl [Q]; · iexact Q
    isplitl [KL]; · iexact KL
    isplitl [VL]; · iexact VL
    isplitl [KR]; · iexact KR
    isplitl [VR]; · iexact VR
    isplitl [O]; · iexact O
    iexact L
  iintro ⟨HO, F6, F7, Q, KL, VL, KR, VR, O, L⟩
  rw [wp_bind]
  iapply (wp_part17 Kx Vx K c v7) $$ [HO F4 F5]
  · isplitr; · iexact HK
    isplitl [HO]; · iexact HO
    isplitl [F4]; · iexact F4
    iexact F5
  iintro ⟨HO, F4, F5, B4, B5, R4, R5⟩
  rw [wp_bind]
  iapply (wp_part18 Kx Vx K c v5 (Qx c) _ _) $$ [HO F6 F7 R4 R5 Q O L]
  · isplitr; · iexact HK
    isplitl [HO]; · iexact HO
    isplitl [F6]; · iexact F6
    isplitl [F7]; · iexact F7
    isplitl [R4]; · iexact R4
    isplitl [R5]; · iexact R5
    isplitl [Q]; · iexact Q
    isplitl [O]; · iexact O
    iexact L
  iintro ⟨HO, F6, F7, B6, B7, Q, KO, VO, O, L⟩
  rw [wp_bind]
  iapply (wp_loop5 c _ _) $$ [O L]
  · isplitl [O] <;> iassumption
  iintro ⟨O, L⟩
  rw [Prog.pure_eq_ret, wp_ret]; imodintro
  iapply Hk
  ihave B0 := (Entails.of_eq (show sendPay Kx Vx c 0 = held c kM qR (Kx c) from rfl)) $$ B0
  ihave B1 := (Entails.of_eq (show sendPay Kx Vx c 1 = held c vM qR (Vx c) from rfl)) $$ B1
  ihave B2 := (Entails.of_eq (show sendPay Kx Vx c 2 = held c kM qL (Kx c) from rfl)) $$ B2
  ihave B3 := (Entails.of_eq (show sendPay Kx Vx c 3 = held c vM qL (Vx c) from rfl)) $$ B3
  ihave B4 := (Entails.of_eq (show sendPay Kx Vx c 4 = held c (lo klM) fullShare.left (Kx (prv c)) from rfl)) $$ B4
  ihave B5 := (Entails.of_eq (show sendPay Kx Vx c 5 = held c (lo vlM) fullShare.left (Vx (prv c)) from rfl)) $$ B5
  ihave B6 := (Entails.of_eq (show sendPay Kx Vx c 6 = held c (hi krM) fullShare.left (Kx (nxt c)) from rfl)) $$ B6
  ihave B7 := (Entails.of_eq (show sendPay Kx Vx c 7 = held c (hi vrM) fullShare.left (Vx (nxt c)) from rfl)) $$ B7
  isplitl [HO]; · iexact HO
  isplitl [ZB]; · iexact ZB
  isplitl [F0]; · iexact F0
  isplitl [F1]; · iexact F1
  isplitl [F2]; · iexact F2
  isplitl [F3]; · iexact F3
  isplitl [F4]; · iexact F4
  isplitl [F5]; · iexact F5
  isplitl [F6]; · iexact F6
  isplitl [F7]; · iexact F7
  isplitl [Q]; · iexact Q
  isplitl [B0 B2 KK]
  · iapply (held_three c kM (Kx c)).2
    isplitl [B0]; · iexact B0
    isplitl [B2]; · iexact B2
    iexact KK
  isplitl [B1 B3 VV]
  · iapply (held_three c vM (Vx c)).2
    isplitl [B1]; · iexact B1
    isplitl [B3]; · iexact B3
    iexact VV
  isplitl [O]; · iexact O
  isplitl [B4 KLh KL]
  · unfold lent; iexists (Kx (prv c)); iapply (held_pass c klM (Kx (prv c))).2
    isplitl [B4 KLh]
    · isplitl [B4]; · iexact B4
      iexact KLh
    iexact KL
  isplitl [B5 VLh VL]
  · unfold lent; iexists (Vx (prv c)); iapply (held_pass c vlM (Vx (prv c))).2
    isplitl [B5 VLh]
    · isplitl [B5]; · iexact B5
      iexact VLh
    iexact VL
  isplitl [KRl B6 KR]
  · unfold lent; iexists (Kx (nxt c)); iapply (held_pass c krM (Kx (nxt c))).2
    isplitl [KRl B6]
    · isplitl [KRl]; · iexact KRl
      iexact B6
    iexact KR
  isplitl [VRl B7 VR]
  · unfold lent; iexists (Vx (nxt c)); iapply (held_pass c vrM (Vx (nxt c))).2
    isplitl [VRl B7]
    · isplitl [VRl]; · iexact VRl
      iexact B7
    iexact VR
  isplitl [KO]; · unfold lent; iexists _; iexact KO
  isplitl [VO]; · unfold lent; iexists _; iexact VO
  unfold lent; iexists _; iexact L

end Whole

end Cert.KernelIdeal.Fused
-- ==== Proof.Value.Reads.lean ====
/- The fused call's block computations over the extended reals, read at one element. -/
module

public import proofs.«01_k».proof.Proof.KernelIdeal.Whole
public import Idealize.ShloMosaic.Lib.Pointwise
public import Idealize.ShloMosaic.PureOps.Ideal.Laws

@[expose] public section

set_option maxRecDepth 8192

noncomputable section

namespace Cert.KernelIdeal.Fused

open Idealize.ShloMosaic
open Cert.KernelIdeal.Gen

/-- An index is its coordinates. -/
theorem ix_at3 (i : S8x2048x128.Idx) : i = at3 (i 0) (i 1) (i 2) := by
  funext a; match a with | ⟨0, _⟩ => rfl | ⟨1, _⟩ => rfl | ⟨2, _⟩ => rfl

/-- A row is a block and a row of it. -/
theorem row_split (r : Fin 2048) : r = row ⟨r.val / 512, by omega⟩ ⟨r.val % 512, by omega⟩ :=
  Fin.ext (by show r.val = 512 * (r.val / 512) + r.val % 512; omega)

/-- A block's row of a tiled buffer. -/
theorem tile_row {F : FTy → Type} [FloatOps F] [Named F] {e : EltTy} (w : Fin 8 → Fin 4 → Vec F S1x512x128 e) (h : Fin 8) (b : Fin 4) (r : Fin 512) (d : Fin 128) :
    tile w (at3 h (row b r) d) = w h b (blk3 r d) := tile_at w h b (blk3 r d)

/-- The score of query row `r` against key row `j` of head `h`. -/
def score (X Y : Arr Ideal .bf16) (h : Fin 8) (r j : Fin 2048) : EReal := ∑ k : Fin 128, X (at3 h r k) * Y (at3 h j k)
/-- A chunk's weighted sum of value rows, and its sum of weights. -/
def part (X Y Z : Arr Ideal .bf16) (h : Fin 8) (r : Fin 2048) (d : Fin 128) : EReal := ∑ j : Fin 2048, Ideal.exp (score X Y h r j) * Z (at3 h j d)
def mass (X Y : Arr Ideal .bf16) (h : Fin 8) (r : Fin 2048) : EReal := ∑ j : Fin 2048, Ideal.exp (score X Y h r j)

theorem firstO_blk (X Y Z : Arr Ideal .bf16) (h : Fin 8) (b : Fin 4) (r : Fin 512) (d : Fin 128) :
    firstO X Y Z h b (blk3 r d) = part X Y Z h (row b r) d := by
  unfold firstO blk3
  pointwise [k1_pay5, k1_pay4, k1_pay3, k1_pay2]
  rfl

theorem firstL_blk (X Y : Arr Ideal .bf16) (h : Fin 8) (b : Fin 4) (r : Fin 512) (d : Fin 128) :
    firstL X Y h b (blk3 r d) = mass X Y h (row b r) := by
  unfold firstL blk3
  pointwise [k1_pay6, k1_pay4, k1_pay2]
  rfl

theorem moreO_blk (X Y Z : Arr Ideal .bf16) (o : Arr Ideal .f32) (h : Fin 8) (b : Fin 4) (r : Fin 512) (d : Fin 128) :
    moreO X Y Z o h b (blk3 r d) = o (at3 h (row b r) d) + part X Y Z h (row b r) d := by
  unfold moreO blk3
  pointwise [k1_pay20, k1_pay19, k1_pay18, k1_pay17]
  rfl

theorem moreL_blk (X Y : Arr Ideal .bf16) (l : Arr Ideal .f32) (h : Fin 8) (b : Fin 4) (r : Fin 512) (d : Fin 128) :
    moreL X Y l h b (blk3 r d) = l (at3 h (row b r) d) + mass X Y h (row b r) := by
  unfold moreL blk3
  pointwise [k1_pay21, k1_pay19, k1_pay17]
  rfl

theorem quot_blk (o l : Arr Ideal .f32) (h : Fin 8) (b : Fin 4) (r : Fin 512) (d : Fin 128) :
    quot o l h b (blk3 r d) = Ideal.div (o (at3 h (row b r) d)) (l (at3 h (row b r) d)) := by
  unfold quot blk3
  pointwise [k1_pay68]
  rfl

/-! ### The same of whole buffers -/

theorem firstO_at (X Y Z : Arr Ideal .bf16) (h : Fin 8) (r : Fin 2048) (d : Fin 128) : tile (firstO X Y Z) (at3 h r d) = part X Y Z h r d := by
  rw [row_split r, tile_row, firstO_blk]
theorem firstL_at (X Y : Arr Ideal .bf16) (h : Fin 8) (r : Fin 2048) (d : Fin 128) : tile (firstL X Y) (at3 h r d) = mass X Y h r := by
  rw [row_split r, tile_row, firstL_blk]
theorem moreO_at (X Y Z : Arr Ideal .bf16) (o : Arr Ideal .f32) (h : Fin 8) (r : Fin 2048) (d : Fin 128) :
    tile (moreO X Y Z o) (at3 h r d) = o (at3 h r d) + part X Y Z h r d := by
  rw [row_split r, tile_row, moreO_blk]
theorem moreL_at (X Y : Arr Ideal .bf16) (l : Arr Ideal .f32) (h : Fin 8) (r : Fin 2048) (d : Fin 128) :
    tile (moreL X Y l) (at3 h r d) = l (at3 h r d) + mass X Y h r := by
  rw [row_split r, tile_row, moreL_blk]
theorem quot_at (o l : Arr Ideal .f32) (h : Fin 8) (r : Fin 2048) (d : Fin 128) :
    tile (quot o l) (at3 h r d) = Ideal.div (o (at3 h r d)) (l (at3 h r d)) := by
  rw [row_split r, tile_row, quot_blk]

/-- What device `c` leaves at one element: its own chunk, the two neighbours' and the opposite device's, added in that
    order, over their masses. -/
theorem result_at (Qx Kx Vx : Dev nD → Arr Ideal .bf16) (c : Dev nD) (h : Fin 8) (r : Fin 2048) (d : Fin 128) :
    result Qx Kx Vx c (at3 h r d)
      = Ideal.div (part (Qx c) (Kx c) (Vx c) h r d + part (Qx c) (Kx (prv c)) (Vx (prv c)) h r d + part (Qx c) (Kx (nxt c)) (Vx (nxt c)) h r d
          + part (Qx c) (Kx (opp c)) (Vx (opp c)) h r d)
        (mass (Qx c) (Kx c) h r + mass (Qx c) (Kx (prv c)) h r + mass (Qx c) (Kx (nxt c)) h r + mass (Qx c) (Kx (opp c)) h r) := by
  unfold result sumO sumL
  rw [quot_at, moreO_at, moreO_at, moreO_at, firstO_at, moreL_at, moreL_at, moreL_at, firstL_at]

end Cert.KernelIdeal.Fused
-- ==== Proof.KernelIdeal.Data.lean ====
/- The fused call's proof data: what is staged in, what the body starts from and leaves, and the library's obligation
   for the body met by `wp_body`. -/
module

public import proofs.«01_k».proof.Proof.KernelIdeal.Whole

@[expose] public section

set_option maxRecDepth 8192

noncomputable section

namespace Cert.KernelIdeal.Fused

open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ UU ℕ

open Idealize.ShloMosaic.Pipeline (Dat Cfg Window BodyObligation cellOf)

theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem held_whole (c : Dev nD) (b : Ref sig .tc) (hb : b.space = .vmem) (f : b.ty.Contents (Elt F)) :
    (((Memref.whole b).view.loc (c : Thread nD τ) ↦[(Memref.whole b).view.set]{fullShare} f) : sProp 𝕄) = (((c : Thread nD τ).loc b) ↦{fullShare} f) := by
  simp only [Memref.view_whole, View.set_whole]

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ### What a device starts from -/

/-- Its positions and the tokens of the duties it pays: the barrier's, -/
def barOwn (c : Dev nD) : sProp 𝕄 := iprop(atPos ER (barCell c) 0 ∅ 0 ∗ dutyTok ER (barCell (prv c)) 0 0 ∗ dutyTok ER (barCell (nxt c)) 0 1)
/-- and one transfer's. -/
def xferOwn (c : Dev nD) (i : Fin 8) : sProp 𝕄 :=
  iprop(atPos ER (sCell c i) 0 ∅ 0 ∗ atPos ER (rCell c i) 0 ∅ 0 ∗ dutyTok ER (sCell c i) 0 0 ∗ dutyTok ER (rCell (peer c i) i) 0 0 ∗ reached ER (sCell c i) 0 ∗ reached ER (rCell c i) 0)
def own (c : Dev nD) : sProp 𝕄 := iprop(barOwn c ∗ bigSep Finset.univ fun i => xferOwn (F := F) c i)
/-- Its credit: the barrier's two units, and each transfer it receives. -/
def creds (c : Dev nD) : sProp 𝕄 := iprop(cred (tallyAt (barCell c) () 2) ∗ bigSep Finset.univ fun i : Fin 8 => cred (tallyAt (rCell c i) () (amt i)))

section Data
variable (Qx Kx Vx : Dev nD → Arr F .bf16)

/-- All that, and the records. -/
def start (c : Dev nD) : sProp 𝕄 := iprop((∃ K, known Kx Vx K) ∗ own c ∗ creds c)

/-- The buffers of the call that hold nothing staged. -/
def spare (c : Dev nD) : sProp 𝕄 := iprop(lent c klM ∗ lent c vlM ∗ lent c krM ∗ lent c vrM ∗ lent c koM ∗ lent c voM ∗ lent c lM)

/-- All its counters at zero, closed. -/
def shut (c : Dev nD) : sProp 𝕄 := iprop(semVal (barCell c) 0 ∗ bigSep Finset.univ fun i => closed (F := F) c i)

/-- The body from `start`, between the frame's two forms. -/
theorem wp_from_start (c : Dev nD) {Q : PUnit → sProp 𝕄} :
    iprop(start Kx Vx c ∗ owing c (owed0 c) ∗ held c qM fullShare (Qx c) ∗ held c kM fullShare (Kx c) ∗ held c vM fullShare (Vx c) ∗ lent c oM ∗ spare c)
      ⊢ iprop(((owing c 0 ∗ held c qM fullShare (Qx c) ∗ held c kM fullShare (Kx c) ∗ held c vM fullShare (Vx c) ∗ held c oM fullShare (result Qx Kx Vx c) ∗ spare c ∗ shut c) -∗ Q ⟨⟩)
          -∗ wp frame (wpE (defs₀ (F := F)) 𝒱₀ (c : Thread nD τ) none) Set.univ (cc1__fused_body (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem) Q) := by
  unfold start own barOwn creds spare shut
  rw [bigSep_eight, bigSep_eight, bigSep_eight]
  unfold xferOwn
  iintro ⟨⟨⟨%K, #HK⟩, ⟨⟨AB, TP, TN⟩, XS⟩, CB, CS⟩, HO, Q, KF, VF, O, KL, VL, KR, VR, KO, VO, L⟩ Hk
  icases XS with ⟨⟨a0, b0, d0, e0, u0, w0⟩, ⟨a1, b1, d1, e1, u1, w1⟩, ⟨a2, b2, d2, e2, u2, w2⟩, ⟨a3, b3, d3, e3, u3, w3⟩, ⟨a4, b4, d4, e4, u4, w4⟩, ⟨a5, b5, d5, e5, u5, w5⟩, ⟨a6, b6, d6, e6, u6, w6⟩, ⟨a7, b7, d7, e7, u7, w7⟩⟩
  icases CS with ⟨g0, g1, g2, g3, g4, g5, g6, g7⟩
  iapply (wp_body Qx Kx Vx K c) $$ [HO AB CB TP TN a0 b0 d0 e0 g0 u0 w0 a1 b1 d1 e1 g1 u1 w1 a2 b2 d2 e2 g2 u2 w2 a3 b3 d3 e3 g3 u3 w3 a4 b4 d4 e4 g4 u4 w4 a5 b5 d5 e5 g5 u5 w5 a6 b6 d6 e6 g6 u6 w6 a7 b7 d7 e7 g7 u7 w7 Q KF VF O KL VL KR VR KO VO L]
  · isplitr; · iexact HK
    unfold takes
    isplitl [HO]; · iexact HO
    isplitl [AB]; · iexact AB
    isplitl [CB]; · iexact CB
    isplitl [TP]; · iexact TP
    isplitl [TN]; · iexact TN
    isplitl [a0 b0 d0 e0 g0 u0 w0]
    · unfold fresh
      isplitl [a0]; · iexact a0
      isplitl [b0]; · iexact b0
      isplitl [d0]; · iexact d0
      isplitl [e0]; · iexact e0
      isplitl [g0]; · iexact g0
      isplitl [u0]; · iexact u0
      iexact w0
    isplitl [a1 b1 d1 e1 g1 u1 w1]
    · unfold fresh
      isplitl [a1]; · iexact a1
      isplitl [b1]; · iexact b1
      isplitl [d1]; · iexact d1
      isplitl [e1]; · iexact e1
      isplitl [g1]; · iexact g1
      isplitl [u1]; · iexact u1
      iexact w1
    isplitl [a2 b2 d2 e2 g2 u2 w2]
    · unfold fresh
      isplitl [a2]; · iexact a2
      isplitl [b2]; · iexact b2
      isplitl [d2]; · iexact d2
      isplitl [e2]; · iexact e2
      isplitl [g2]; · iexact g2
      isplitl [u2]; · iexact u2
      iexact w2
    isplitl [a3 b3 d3 e3 g3 u3 w3]
    · unfold fresh
      isplitl [a3]; · iexact a3
      isplitl [b3]; · iexact b3
      isplitl [d3]; · iexact d3
      isplitl [e3]; · iexact e3
      isplitl [g3]; · iexact g3
      isplitl [u3]; · iexact u3
      iexact w3
    isplitl [a4 b4 d4 e4 g4 u4 w4]
    · unfold fresh
      isplitl [a4]; · iexact a4
      isplitl [b4]; · iexact b4
      isplitl [d4]; · iexact d4
      isplitl [e4]; · iexact e4
      isplitl [g4]; · iexact g4
      isplitl [u4]; · iexact u4
      iexact w4
    isplitl [a5 b5 d5 e5 g5 u5 w5]
    · unfold fresh
      isplitl [a5]; · iexact a5
      isplitl [b5]; · iexact b5
      isplitl [d5]; · iexact d5
      isplitl [e5]; · iexact e5
      isplitl [g5]; · iexact g5
      isplitl [u5]; · iexact u5
      iexact w5
    isplitl [a6 b6 d6 e6 g6 u6 w6]
    · unfold fresh
      isplitl [a6]; · iexact a6
      isplitl [b6]; · iexact b6
      isplitl [d6]; · iexact d6
      isplitl [e6]; · iexact e6
      isplitl [g6]; · iexact g6
      isplitl [u6]; · iexact u6
      iexact w6
    isplitl [a7 b7 d7 e7 g7 u7 w7]
    · unfold fresh
      isplitl [a7]; · iexact a7
      isplitl [b7]; · iexact b7
      isplitl [d7]; · iexact d7
      isplitl [e7]; · iexact e7
      isplitl [g7]; · iexact g7
      isplitl [u7]; · iexact u7
      iexact w7
    isplitl [Q]; · iexact Q
    isplitl [KF]; · iexact KF
    isplitl [VF]; · iexact VF
    isplitl [O]; · unfold lent; iexact O
    isplitl [KL]; · iexact KL
    isplitl [VL]; · iexact VL
    isplitl [KR]; · iexact KR
    isplitl [VR]; · iexact VR
    isplitl [KO]; · iexact KO
    isplitl [VO]; · iexact VO
    unfold lent; iexact L
  unfold leaves
  iintro ⟨HO, ZB, Z0, Z1, Z2, Z3, Z4, Z5, Z6, Z7, Q, KF, VF, O, KL, VL, KR, VR, KO, VO, L⟩
  iapply Hk
  isplitl [HO]; · iexact HO
  isplitl [Q]; · iexact Q
  isplitl [KF]; · iexact KF
  isplitl [VF]; · iexact VF
  isplitl [O]; · iexact O
  isplitl [KL VL KR VR KO VO L]
  · isplitl [KL]; · iexact KL
    isplitl [VL]; · iexact VL
    isplitl [KR]; · iexact KR
    isplitl [VR]; · iexact VR
    isplitl [KO]; · iexact KO
    isplitl [VO]; · iexact VO
    iexact L
  isplitl [ZB]; · iexact ZB
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  iexact Z7

end Data

/-! ### The pipeline's proof data -/

section Dats
variable (W : Dev nD → Valuation τ sig (Elt F))

/-- The queries, keys and values device `c` enters the call with, as they are staged. -/
def inQ (c : Dev nD) : Arr F .bf16 := (win1_0.blk (0 : Fin 1)).view.read (Elt F) (W c main_v2_0)
def inK (c : Dev nD) : Arr F .bf16 := (win1_1.blk (0 : Fin 1)).view.read (Elt F) (W c main_v2_1)
def inV (c : Dev nD) : Arr F .bf16 := (win1_2.blk (0 : Fin 1)).view.read (Elt F) (W c main_v2_2)

/-- What device `c` computes from them. -/
def outAt (c : Dev nD) : Arr F .f32 := result (inQ W) (inK W) (inV W) c

/-- What the call carries along untouched: the other calls' scoped buffers, and the generator's register. -/
def aside (c : Dev nD) : sProp 𝕄 :=
  iprop(Pipeline.scopedRestBut spec1 c [cc1_scratch0, cc1_scratch1, cc1_scratch2, cc1_scratch3, cc1_scratch4, cc1_scratch5, cc1_scratch6] ∗ ∃ r, prngReg c r)

def dat1 (c : Dev nD) : Dat τ (Elt F) Unit ℕ UU ℕ cfg1 c where
  A w := W c (Proc.devRef .tc (Pipeline.arrRef spec1 w))
  after w _ := match w with
    | ⟨0, _⟩ => inQ W c
    | ⟨1, _⟩ => inK W c
    | ⟨2, _⟩ => inV W c
    | ⟨3, _⟩ => outAt W c
  Φ t := match t with
    | ⟨0, _⟩ => iprop((start (inK W) (inV W) c ∗ spare c) ∗ aside c)
    | ⟨_ + 1, _⟩ => iprop((spare c ∗ shut c) ∗ aside c)
  q _ := fullShare
  owed t := match t with
    | ⟨0, _⟩ => owed0 c
    | ⟨_ + 1, _⟩ => 0

theorem fetch_q : (cfg1.win (0 : Fin 4)).fetch t1_0 = true := by decide
theorem fetch_k : (cfg1.win (1 : Fin 4)).fetch t1_0 = true := by decide
theorem fetch_v : (cfg1.win (2 : Fin 4)).fetch t1_0 = true := by decide

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(((start (inK W) (inV W) c ∗ spare c) ∗ aside c) ∗ (dat1 W c).owesAt () t1_0.castSucc
    ∗ (∃ d, stg c cc1_stg0_0 ((dat1 W c).before (0 : Fin 4) t1_0 d))
    ∗ (∃ d, stg c cc1_stg1_0 ((dat1 W c).before (1 : Fin 4) t1_0 d))
    ∗ (∃ d, stg c cc1_stg2_0 ((dat1 W c).before (2 : Fin 4) t1_0 d))
    ∗ (∃ d, stg c cc1_stg3_0 ((dat1 W c).before (3 : Fin 4) t1_0 d)))

def bodyPost (c : Dev nD) : sProp 𝕄 :=
  iprop(((spare c ∗ shut c) ∗ aside c) ∗ (dat1 W c).owesAt () t1_0.succ
    ∗ stg c cc1_stg0_0 (inQ W c) ∗ stg c cc1_stg1_0 (inK W c) ∗ stg c cc1_stg2_0 (inV W c) ∗ stg c cc1_stg3_0 (outAt W c))

theorem sound_body (c : Dev nD) :
    bodyPre W c ⊢ wp frame (wpE (defs₀ (F := F)) 𝒱₀ (c : Thread nD τ) none) Set.univ (cc1__fused_body (F := F) qM (Memref.isWhole_whole _) kM (Memref.isWhole_whole _) vM (Memref.isWhole_whole _) oM (Memref.isWhole_whole _) klM (Memref.isWhole_whole _) vlM (Memref.isWhole_whole _) krM (Memref.isWhole_whole _) vrM (Memref.isWhole_whole _) koM (Memref.isWhole_whole _) voM (Memref.isWhole_whole _) lM (Memref.isWhole_whole _) ssem rsem) (fun _ => bodyPost W c) := by
  unfold bodyPre bodyPost
  iintro ⟨⟨⟨HS, SP⟩, AS⟩, Ho, ⟨%d0, %g0, %h0, H0⟩, ⟨%d1, %g1, %h1, H1⟩, ⟨%d2, %g2, %h2, H2⟩, ⟨%d3, %g3, %h3, H3⟩⟩
  have e0 : g0 = inQ W c := by rw [h0]; unfold Dat.before; rw [if_pos (fetch_q)]; rfl
  have e1 : g1 = inK W c := by rw [h1]; unfold Dat.before; rw [if_pos (fetch_k)]; rfl
  have e2 : g2 = inV W c := by rw [h2]; unfold Dat.before; rw [if_pos (fetch_v)]; rfl
  subst e0; subst e1; subst e2
  unfold Dat.owesAt Pipeline.owesWithin
  icases Ho with ⟨%Wd, %hW, HO⟩
  rw [show (dat1 W c).owed t1_0.castSucc = owed0 c from rfl, show (dat1 W c).owed t1_0.succ = 0 from rfl]
  iapply (wp_from_start (inQ W) (inK W) (inV W) c) $$ [HS SP HO H0 H1 H2 H3]
  · isplitl [HS]; · iexact HS
    isplitl [HO]; · unfold owing; iexists Wd; iexact HO
    isplitl [H0]; · iapply (Entails.of_eq (held_whole c cc1_stg0_0 rfl (inQ W c)).symm); iexact H0
    isplitl [H1]; · iapply (Entails.of_eq (held_whole c cc1_stg1_0 rfl (inK W c)).symm); iexact H1
    isplitl [H2]; · iapply (Entails.of_eq (held_whole c cc1_stg2_0 rfl (inV W c)).symm); iexact H2
    isplitl [H3]; · unfold lent; iexists g3; iapply (Entails.of_eq (held_whole c cc1_stg3_0 rfl g3).symm); iexact H3
    iexact SP
  iintro ⟨HO, H0, H1, H2, H3, SP, SH⟩
  isplitl [SP SH AS]
  · isplitl [SP SH]
    · isplitl [SP] <;> iassumption
    iexact AS
  ihave HO := (Entails.of_eq (owing_eq c 0)) $$ HO
  icases HO with ⟨%W', HO⟩
  isplitl [HO]
  · iexists W'
    isplitr; · ipureintro; exact fun _ _ => Or.inl trivial
    iexact HO
  isplitl [H0]
  · iexists (inQ W c); isplitr; · (ipureintro; rfl)
    iapply (Entails.of_eq (held_whole c cc1_stg0_0 rfl (inQ W c))); iexact H0
  isplitl [H1]
  · iexists (inK W c); isplitr; · (ipureintro; rfl)
    iapply (Entails.of_eq (held_whole c cc1_stg1_0 rfl (inK W c))); iexact H1
  isplitl [H2]
  · iexists (inV W c); isplitr; · (ipureintro; rfl)
    iapply (Entails.of_eq (held_whole c cc1_stg2_0 rfl (inV W c))); iexact H2
  iexists (outAt W c); isplitr; · (ipureintro; rfl)
  iapply (Entails.of_eq (held_whole c cc1_stg3_0 rfl (outAt W c))); iexact H3

/-- The library's obligation for the body at device `c`. -/
theorem body_obligation (c : Dev nD) : BodyObligation (dat1 (F := F) W c) (defs₀ (F := F)) 𝒱₀ () Set.univ := fun t => by
  rw [show t = t1_0 from fin_N1 t, bigSep_W1, bigSep_W1]
  simp only [owns_whole]
  exact sound_body W c

end Dats

end Cert.KernelIdeal.Fused
-- ==== Proof.KernelIdeal.Proj.lean ====
/- The output projection: one head's rows against one slice of the last weight matrix at each grid point, the products
   added up in the one result block. -/
module

public import proofs.«01_k».proof.Proof.KernelIdeal.Data
public import proofs.«01_k».proof.Proof.Gen.KernelIdeal.Points
public import Idealize.ShloMosaic.Lib.Pipeline.Frame
public import Idealize.ShloMosaic.Lib.Pipeline.FrameBody

@[expose] public section

set_option maxRecDepth 8192

noncomputable section

namespace Cert.KernelIdeal.Fused

open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Pipeline (Dat Cfg Window BodyObligation cellOf)

variable {F : FTy → Type} [FloatOps F] [Named F]

local notation "𝕄" => MT nD τ sig Unit (Elt F) ℕ UU ℕ

/-- A load of all of a buffer reads it. -/
theorem readAt_all {s : Shape} {e : EltTy} (v : View sig .tc .vmem s e) (f : v.ty.Contents (Elt F)) (off : Fin s.rank → ℕ) (ho : ∀ a, off a = 0)
    (inb : ∀ a, off a + s.size a ≤ s.size a) :
    v.readAt (Elt F) (Rect.unit (s := s) off s.size inb) f = v.read (Elt F) f := by
  funext x
  refine congrArg (v.read (Elt F) f) (funext fun a => Fin.ext ?_)
  show off a + 1 * (x a).val = (x a).val
  rw [ho]; omega

/-- A store over all of a buffer is what it then holds. -/
theorem read_writes_all {s : Shape} {e : EltTy} (v : View sig .tc .vmem s e) (f : v.ty.Contents (Elt F)) (off : Fin s.rank → ℕ) (ho : ∀ a, off a = 0)
    (inb : ∀ a, off a + s.size a ≤ s.size a) (w : s.Idx → Elt F e) :
    v.read (Elt F) (v.writes (Elt F) f [⟨Rect.unit (s := s) off s.size inb, w⟩]) = w := by
  have emb : ∀ x : s.Idx, (Rect.unit (s := s) off s.size inb).emb x = x := fun x => funext fun a => Fin.ext (by
    show off a + 1 * (x a).val = (x a).val
    rw [ho]; omega)
  funext y
  rw [View.read_writes_apply_of_pieces v f w]
  · intro p hp x
    simp only [List.mem_cons, List.not_mem_nil, or_false] at hp
    subst hp
    exact congrArg w (emb x).symm
  · exact ⟨_, .head _, by rw [Rect.mem_set_unit]; intro a; rw [ho]; exact ⟨Nat.zero_le _, by have := (y a).isLt; omega⟩⟩

theorem zero2 : ∀ a : Fin 2, (![0, 0] : Fin 2 → ℕ) a = 0 := by decide
theorem zero3 : ∀ a : Fin 3, (![0, 0, 0] : Fin 3 → ℕ) a = 0 := by decide

/-- The body at the first point: the product alone is stored. -/
theorem wp_proj_first (c : Dev nD) (i : grid2.Coords) (h1 : k2_cond1 i = 1#1) (h2 : ¬ k2_cond2 i = 1#1)
    (a1 : Memref sig .tc .vmem S1x2048x128 .f32) (w1 : a1.IsWhole) (a2 : Memref sig .tc .vmem S128x1024 .f32) (w2 : a2.IsWhole) (a3 : Memref sig .tc .vmem S2048x1024 .f32) (w3 : a3.IsWhole)
    (X : Vec F S1x2048x128 .f32) (Y : Vec F S128x1024 .f32) (Z : Vec F S2048x1024 .f32) {Q : PUnit → sProp 𝕄} :
    iprop(owns (c : Thread nD τ) a1 fullShare X ∗ owns (c : Thread nD τ) a2 fullShare Y ∗ owns (c : Thread nD τ) a3 fullShare Z)
      ⊢ iprop(((owns (c : Thread nD τ) a1 fullShare X ∗ owns (c : Thread nD τ) a2 fullShare Y ∗ owns (c : Thread nD τ) a3 fullShare (k2_pay1 X Y)) -∗ Q ⟨⟩)
          -∗ wp frame (wpE (defs₀ (F := F)) 𝒱₀ (c : Thread nD τ) none) Set.univ (cc2__proj_body (F := F) i a1 w1 a2 w2 a3 w3) Q) := by
  rw [cc2__proj_body_eq_skeleton]; unfold cc2__proj_body_skel
  simp only [dif_pos h1, dif_neg h2]
  unfold owns
  iintro ⟨⟨%f1, %e1, H1⟩, ⟨%f2, %e2, H2⟩, ⟨%f3, %e3, H3⟩⟩ Hk
  have R1 := readAt_all a1.view f1 ![0, 0, 0] zero3 inb_S1x2048x128_S1x2048x128_0_0_0
  have R2 := readAt_all a2.view f2 ![0, 0] zero2 inb_S128x1024_S128x1024_0_0
  sl_exec
  sl_step
  iapply Hk
  isplitl [H1]
  · iexists f1; isplitr; · ipureintro; exact e1
    iexact H1
  isplitl [H2]
  · iexists f2; isplitr; · ipureintro; exact e2
    iexact H2
  iexists _; isplitr
  rotate_left
  · iexact H3
  ipureintro
  refine (read_writes_all a3.view f3 ![0, 0] zero2 inb_S2048x1024_S2048x1024_0_0 _).trans ?_
  rw [e1, e2]

/-- The body at a later point: the product is added to what the result block held. -/
theorem wp_proj_later (c : Dev nD) (i : grid2.Coords) (h1 : ¬ k2_cond1 i = 1#1) (h2 : k2_cond2 i = 1#1)
    (a1 : Memref sig .tc .vmem S1x2048x128 .f32) (w1 : a1.IsWhole) (a2 : Memref sig .tc .vmem S128x1024 .f32) (w2 : a2.IsWhole) (a3 : Memref sig .tc .vmem S2048x1024 .f32) (w3 : a3.IsWhole)
    (X : Vec F S1x2048x128 .f32) (Y : Vec F S128x1024 .f32) (Z : Vec F S2048x1024 .f32) {Q : PUnit → sProp 𝕄} :
    iprop(owns (c : Thread nD τ) a1 fullShare X ∗ owns (c : Thread nD τ) a2 fullShare Y ∗ owns (c : Thread nD τ) a3 fullShare Z)
      ⊢ iprop(((owns (c : Thread nD τ) a1 fullShare X ∗ owns (c : Thread nD τ) a2 fullShare Y ∗ owns (c : Thread nD τ) a3 fullShare (k2_pay2 X Y Z)) -∗ Q ⟨⟩)
          -∗ wp frame (wpE (defs₀ (F := F)) 𝒱₀ (c : Thread nD τ) none) Set.univ (cc2__proj_body (F := F) i a1 w1 a2 w2 a3 w3) Q) := by
  rw [cc2__proj_body_eq_skeleton]; unfold cc2__proj_body_skel
  simp only [dif_neg h1, dif_pos h2]
  unfold owns
  iintro ⟨⟨%f1, %e1, H1⟩, ⟨%f2, %e2, H2⟩, ⟨%f3, %e3, H3⟩⟩ Hk
  have R1 := readAt_all a1.view f1 ![0, 0, 0] zero3 inb_S1x2048x128_S1x2048x128_0_0_0
  have R2 := readAt_all a2.view f2 ![0, 0] zero2 inb_S128x1024_S128x1024_0_0
  have R3 := readAt_all a3.view f3 ![0, 0] zero2 inb_S2048x1024_S2048x1024_0_0
  sl_exec
  sl_step
  iapply Hk
  isplitl [H1]
  · iexists f1; isplitr; · ipureintro; exact e1
    iexact H1
  isplitl [H2]
  · iexists f2; isplitr; · ipureintro; exact e2
    iexact H2
  iexists _; isplitr
  rotate_left
  · iexact H3
  ipureintro
  refine (read_writes_all a3.view f3 ![0, 0] zero2 inb_S2048x1024_S2048x1024_0_0 _).trans ?_
  rw [e1, e2, e3]

/-! ### The call's proof data -/

section Dat2
variable (W : Dev nD → Valuation τ sig (Elt F))

/-- Head `t`'s rows of device `c`'s attention result, -/
def pX (c : Dev nD) (t : Fin cfg2.N) : Vec F S1x2048x128 .f32 := (win2_0.blk t).view.read (Elt F) (W c main_v3)
/-- and its slice of the weight matrix. -/
def pY (c : Dev nD) (t : Fin cfg2.N) : Vec F S128x1024 .f32 := (win2_1.blk t).view.read (Elt F) (W c main_arg4)

/-- The products of the heads up to `n`, added up. -/
def pAcc (c : Dev nD) : (n : ℕ) → n < cfg2.N → Vec F S2048x1024 .f32
  | 0, h => k2_pay1 (pX W c ⟨0, h⟩) (pY W c ⟨0, h⟩)
  | n + 1, h => k2_pay2 (pX W c ⟨n + 1, h⟩) (pY W c ⟨n + 1, h⟩) (pAcc c n (Nat.lt_of_succ_lt h))

def dat2 (c : Dev nD) : Dat τ (Elt F) Unit ℕ UU ℕ cfg2 c where
  A w := W c (Proc.devRef .tc (Pipeline.arrRef spec2 w))
  after w t := match w with
    | ⟨0, _⟩ => pX W c t
    | ⟨1, _⟩ => pY W c t
    | ⟨2, _⟩ => pAcc W c t.val t.isLt
  Φ _ := iprop(Pipeline.scopedRest spec2 c)
  q _ := fullShare
  owed _ := 0

theorem cond_first : ∀ i : grid2.Coords, (i 0).val = 0 → k2_cond1 i = 1#1 ∧ ¬ k2_cond2 i = 1#1 := by decide
theorem cond_later : ∀ i : grid2.Coords, (i 0).val ≠ 0 → ¬ k2_cond1 i = 1#1 ∧ k2_cond2 i = 1#1 := by decide
theorem coord2 : ∀ t : Fin cfg2.N, (grid2.coords t 0).val = t.val := by decide
theorem live2 : ∀ i : grid2.Coords, idle2 2 i = false := by decide

theorem before2_0 (c : Dev nD) (t : Fin cfg2.N) (d) : (dat2 W c).before (0 : Fin 3) t d = pX W c t := by
  unfold Dat.before; rw [if_pos (fetch2_0 t)]; rfl
theorem before2_1 (c : Dev nD) (t : Fin cfg2.N) (d) : (dat2 W c).before (1 : Fin 3) t d = pY W c t := by
  unfold Dat.before; rw [if_pos (fetch2_1 t)]; rfl
theorem before2_2 (c : Dev nD) (t : Fin cfg2.N) (ht : t.val ≠ 0) (d) :
    (dat2 W c).before (2 : Fin 3) t d = pAcc W c (t.val - 1) (Nat.lt_of_le_of_lt (Nat.sub_le _ _) t.isLt) := by
  have h8 : t.val < 8 := t.isLt
  exact (dat2 W c).before_out_kept (2 : Fin 3) rfl t ht
    (Bool.eq_false_iff.mpr fun h => by have := (flush2_2 _).mp h; dsimp only at this; omega) live2 (fun _ _ => rfl) d

theorem pAcc_pos (c : Dev nD) (n : ℕ) (h : n < cfg2.N) (hn : n ≠ 0) :
    pAcc W c n h = k2_pay2 (pX W c ⟨n, h⟩) (pY W c ⟨n, h⟩) (pAcc W c (n - 1) (Nat.lt_of_le_of_lt (Nat.sub_le _ _) h)) := by
  cases n with
  | zero => exact absurd rfl hn
  | succ k => rfl

/-- The library's obligation for the body. -/
theorem body_obligation2 (c : Dev nD) : BodyObligation (dat2 W c) (defs₀ (F := F)) 𝒱₀ () Set.univ := fun t => by
  rw [bigSep_W2, bigSep_W2]
  rw [show cfg2.idle (2 : Fin 3) (cfg2.grid.coords t) = false from live2 _]
  show iprop((dat2 W c).Φ t.castSucc ∗ (dat2 W c).owesAt () t.castSucc
      ∗ (∃ d, owns (c : Thread nD τ) (st2_0 t) fullShare ((dat2 W c).before (0 : Fin 3) t d))
      ∗ (∃ d, owns (c : Thread nD τ) (st2_1 t) fullShare ((dat2 W c).before (1 : Fin 3) t d))
      ∗ (∃ d, owns (c : Thread nD τ) (st2_2 t) fullShare ((dat2 W c).before (2 : Fin 3) t d)))
    ⊢ wp frame (wpE (defs₀ (F := F)) 𝒱₀ (c : Thread nD τ) none) Set.univ (bodyAt2 (F := F) t) fun _ =>
      iprop((dat2 W c).Φ t.castSucc ∗ (dat2 W c).owesAt () t.castSucc ∗ owns (c : Thread nD τ) (st2_0 t) fullShare (pX W c t)
        ∗ owns (c : Thread nD τ) (st2_1 t) fullShare (pY W c t) ∗ owns (c : Thread nD τ) (st2_2 t) fullShare (pAcc W c t.val t.isLt))
  iintro ⟨HF, HO, ⟨%d0, H0⟩, ⟨%d1, H1⟩, ⟨%d2, H2⟩⟩
  rw [before2_0, before2_1]
  by_cases ht : t.val = 0
  · have hc := cond_first (grid2.coords t) ((coord2 t).trans ht)
    iapply (wp_proj_first c (grid2.coords t) hc.1 hc.2 _ _ _ _ _ _ (pX W c t) (pY W c t) ((dat2 W c).before (2 : Fin 3) t d2)) $$ [H0 H1 H2]
    · isplitl [H0]; · iexact H0
      isplitl [H1]; · iexact H1
      iexact H2
    iintro ⟨H0, H1, H2⟩
    isplitl [HF]; · iexact HF
    isplitl [HO]; · iexact HO
    isplitl [H0]; · iexact H0
    isplitl [H1]; · iexact H1
    obtain rfl : t = ⟨0, by decide⟩ := Fin.ext ht
    iexact H2
  · have hc := cond_later (grid2.coords t) (by rw [coord2]; exact ht)
    rw [before2_2 W c t ht]
    iapply (wp_proj_later c (grid2.coords t) hc.1 hc.2 _ _ _ _ _ _ (pX W c t) (pY W c t) (pAcc W c (t.val - 1) (Nat.lt_of_le_of_lt (Nat.sub_le _ _) t.isLt))) $$ [H0 H1 H2]
    · isplitl [H0]; · iexact H0
      isplitl [H1]; · iexact H1
      iexact H2
    iintro ⟨H0, H1, H2⟩
    isplitl [HF]; · iexact HF
    isplitl [HO]; · iexact HO
    isplitl [H0]; · iexact H0
    isplitl [H1]; · iexact H1
    rw [← pAcc_pos W c t.val t.isLt ht]
    iexact H2

end Dat2

end Cert.KernelIdeal.Fused
-- ==== Proof.KernelIdeal.Qkv.lean ====
/- The projections: at each of two grid points, device `c`'s rows against four heads' columns of the three weight matrices,
   the query and key heads turned by the angle of their row. The tables of cosines and sines are made at the first point
   and read at both. -/
module

public import proofs.«01_k».proof.Proof.KernelIdeal.Proj

@[expose] public section

set_option maxRecDepth 8192

noncomputable section

namespace Cert.KernelIdeal.Fused

open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Pipeline (Dat Cfg Window BodyObligation cellOf)

variable {F : FTy → Type} [FloatOps F] [Named F]

local notation "𝕄" => MT nD τ sig Unit (Elt F) ℕ UU ℕ

/-! ### What the body leaves -/

/-- The table of cosines of device `c`'s rows, -/
def cosT (c : Dev nD) : Vec F S2048x128 .f32 := k0_pay6 (F := F) c
/-- and of sines. -/
def sinT (c : Dev nD) : Vec F S2048x128 .f32 := k0_pay7 (k0_pay5 (F := F) c)

/-- The matrix that swaps each pair of columns, one of the two negated. -/
def swapM : FVec F S128x128 .bf16 :=
  k0_pay12 (F := F) k0_pay8 k0_pay9 (Scalar.select (Scalar.cmpi .eq 2#32 0#32) 1#32 2#32) k0_pay10 k0_pay11 0#32

/-- Four heads side by side in one block. -/
def heads4 (w : Fin 4 → Vec F S1x2048x128 .bf16) : Vec F S4x2048x128 .bf16 := fun j => w (j 0) (ix3 (0 : Fin 1) (j 1) (j 2))

/-- The four query heads of a block, from the rows `X`, the columns `Y` and the two tables; -/
def qHeads (X : Vec F S2048x1024 .f32) (Y : Vec F S1024x512 .f32) (C S : Vec F S2048x128 .f32) : Vec F S4x2048x128 .bf16 :=
  heads4 ![k0_pay18 (k0_pay17 C S k0_pay8 k0_pay9 (Scalar.select (Scalar.cmpi .eq 2#32 0#32) 1#32 2#32) k0_pay10 k0_pay11 0#32 X Y),
    k0_pay21 C S swapM (k0_pay14 X Y), k0_pay25 C S swapM (k0_pay14 X Y), k0_pay1 (k0_pay28 C S swapM (k0_pay14 X Y))]
/-- the four key heads; -/
def kHeads (X : Vec F S2048x1024 .f32) (Y : Vec F S1024x512 .f32) (C S : Vec F S2048x128 .f32) : Vec F S4x2048x128 .bf16 :=
  heads4 ![k0_pay19 C S swapM (k0_pay15 X Y), k0_pay23 (k0_pay22 C S swapM (k0_pay15 X Y)), k0_pay26 C S swapM (k0_pay15 X Y), k0_pay2 C S swapM (k0_pay15 X Y)]
/-- the four value heads. -/
def vHeads (X : Vec F S2048x1024 .f32) (Y : Vec F S1024x512 .f32) : Vec F S4x2048x128 .bf16 :=
  heads4 ![k0_pay20 (k0_pay16 X Y), k0_pay24 (k0_pay16 X Y), k0_pay27 (k0_pay16 X Y), k0_pay3 (k0_pay16 X Y)]

/-- Four stores, one per head, leave the four heads side by side. -/
theorem read_writes_heads (v : View sig .tc .vmem S4x2048x128 .bf16) (f : v.ty.Contents (Elt F)) (w : Fin 4 → Vec F S1x2048x128 .bf16)
    (p0 p1 p2 p3 : Vec F S1x2048x128 .bf16) (e0 : p0 = w 0) (e1 : p1 = w 1) (e2 : p2 = w 2) (e3 : p3 = w 3) :
    v.read (Elt F) (v.writes (Elt F) f
      [⟨Rect.unit (s := S4x2048x128) ![3, 0, 0] S1x2048x128.size inb_S4x2048x128_S1x2048x128_3_0_0, p3⟩,
       ⟨Rect.unit (s := S4x2048x128) ![2, 0, 0] S1x2048x128.size inb_S4x2048x128_S1x2048x128_2_0_0, p2⟩,
       ⟨Rect.unit (s := S4x2048x128) ![1, 0, 0] S1x2048x128.size inb_S4x2048x128_S1x2048x128_1_0_0, p1⟩,
       ⟨Rect.unit (s := S4x2048x128) ![0, 0, 0] S1x2048x128.size inb_S4x2048x128_S1x2048x128_0_0_0, p0⟩]) = heads4 w := by
  have emb : ∀ (b : Fin 4) (o : Fin 3 → ℕ) (ho : o = ![b.val, 0, 0]) (i : ∀ a, o a + S1x2048x128.size a ≤ S4x2048x128.size a) (p : Vec F S1x2048x128 .bf16),
      p = w b → ∀ x : S1x2048x128.Idx, p x = heads4 w ((Rect.unit (s := S4x2048x128) o S1x2048x128.size i).emb x) := by
    intro b o ho i p hp x
    subst ho; subst hp
    have x0 : (x 0).val < 1 := (x 0).isLt
    unfold heads4
    have hb : (Rect.unit (s := S4x2048x128) ![b.val, 0, 0] S1x2048x128.size i).emb x 0 = b :=
      Fin.ext (by show b.val + 1 * (x 0).val = b.val; omega)
    rw [hb]
    refine congrArg (w b) (funext fun a => Fin.ext ?_)
    match a with
    | ⟨0, _⟩ => show (x 0).val = 0; omega
    | ⟨1, _⟩ => show (x 1).val = 0 + 1 * (x 1).val; omega
    | ⟨2, _⟩ => show (x 2).val = 0 + 1 * (x 2).val; omega
  have mem : ∀ (b : Fin 4) (o : Fin 3 → ℕ) (ho : o = ![b.val, 0, 0]) (i : ∀ a, o a + S1x2048x128.size a ≤ S4x2048x128.size a) (y : S4x2048x128.Idx),
      (y 0).val = b.val → y ∈ (Rect.unit (s := S4x2048x128) o S1x2048x128.size i).set := by
    intro b o ho i y hy
    rw [Rect.mem_set_unit]
    subst ho
    intro a
    match a with
    | ⟨0, _⟩ => show b.val ≤ (y 0).val ∧ (y 0).val < b.val + 1; omega
    | ⟨1, _⟩ => show 0 ≤ (y 1).val ∧ (y 1).val < 0 + 2048; have : (y 1).val < 2048 := (y 1).isLt; omega
    | ⟨2, _⟩ => show 0 ≤ (y 2).val ∧ (y 2).val < 0 + 128; have : (y 2).val < 128 := (y 2).isLt; omega
  funext y
  rw [View.read_writes_apply_of_pieces v f (heads4 w)]
  · intro p hp
    simp only [List.mem_cons, List.not_mem_nil, or_false] at hp
    rcases hp with rfl | rfl | rfl | rfl
    · exact emb 3 _ rfl inb_S4x2048x128_S1x2048x128_3_0_0 p3 e3
    · exact emb 2 _ rfl inb_S4x2048x128_S1x2048x128_2_0_0 p2 e2
    · exact emb 1 _ rfl inb_S4x2048x128_S1x2048x128_1_0_0 p1 e1
    · exact emb 0 _ rfl inb_S4x2048x128_S1x2048x128_0_0_0 p0 e0
  · have y0 : (y 0).val < 4 := (y 0).isLt
    have hb : (y 0).val = 0 ∨ (y 0).val = 1 ∨ (y 0).val = 2 ∨ (y 0).val = 3 := by omega
    rcases hb with h | h | h | h
    · exact ⟨_, .tail _ (.tail _ (.tail _ (.head _))), mem 0 _ rfl inb_S4x2048x128_S1x2048x128_0_0_0 y h⟩
    · exact ⟨_, .tail _ (.tail _ (.head _)), mem 1 _ rfl inb_S4x2048x128_S1x2048x128_1_0_0 y h⟩
    · exact ⟨_, .tail _ (.head _), mem 2 _ rfl inb_S4x2048x128_S1x2048x128_2_0_0 y h⟩
    · exact ⟨_, .head _, mem 3 _ rfl inb_S4x2048x128_S1x2048x128_3_0_0 y h⟩

/-- Whether the body makes the tables: at the first point. -/
abbrev atFirst (i : grid0.Coords) : Prop := Scalar.cmpi .ne (Scalar.extui (Scalar.cmpi .eq (BitVec.ofNat 32 (i 0).val) 0#32) : BitVec 32) 0#32 = 1#1

set_option maxHeartbeats 4000000 in
/-- The body at a point: the tables it reads are the ones it makes at the first point, the ones it finds at the other. -/
theorem wp_qkv (c : Dev nD) (i : grid0.Coords)
    (a1 : Memref sig .tc .vmem S2048x1024 .f32) (w1 : a1.IsWhole) (a2 : Memref sig .tc .vmem S1024x512 .f32) (w2 : a2.IsWhole) (a3 : Memref sig .tc .vmem S1024x512 .f32) (w3 : a3.IsWhole)
    (a4 : Memref sig .tc .vmem S1024x512 .f32) (w4 : a4.IsWhole) (a5 : Memref sig .tc .vmem S4x2048x128 .bf16) (w5 : a5.IsWhole) (a6 : Memref sig .tc .vmem S4x2048x128 .bf16) (w6 : a6.IsWhole)
    (a7 : Memref sig .tc .vmem S4x2048x128 .bf16) (w7 : a7.IsWhole) (a8 : Memref sig .tc .vmem S2048x128 .f32) (w8 : a8.IsWhole) (a9 : Memref sig .tc .vmem S2048x128 .f32) (w9 : a9.IsWhole)
    (X : Vec F S2048x1024 .f32) (Y1 Y2 Y3 : Vec F S1024x512 .f32) (Z5 Z6 Z7 : Vec F S4x2048x128 .bf16) (C0 S0 C S : Vec F S2048x128 .f32)
    (hf : atFirst i → C = cosT c ∧ S = sinT c) (hl : ¬ atFirst i → C = C0 ∧ S = S0) {Q : PUnit → sProp 𝕄} :
    iprop(owns (c : Thread nD τ) a1 fullShare X ∗ owns (c : Thread nD τ) a2 fullShare Y1 ∗ owns (c : Thread nD τ) a3 fullShare Y2 ∗ owns (c : Thread nD τ) a4 fullShare Y3
        ∗ owns (c : Thread nD τ) a5 fullShare Z5 ∗ owns (c : Thread nD τ) a6 fullShare Z6 ∗ owns (c : Thread nD τ) a7 fullShare Z7
        ∗ owns (c : Thread nD τ) a8 fullShare C0 ∗ owns (c : Thread nD τ) a9 fullShare S0)
      ⊢ iprop(((owns (c : Thread nD τ) a1 fullShare X ∗ owns (c : Thread nD τ) a2 fullShare Y1 ∗ owns (c : Thread nD τ) a3 fullShare Y2 ∗ owns (c : Thread nD τ) a4 fullShare Y3
        ∗ owns (c : Thread nD τ) a5 fullShare (qHeads X Y1 C S) ∗ owns (c : Thread nD τ) a6 fullShare (kHeads X Y2 C S) ∗ owns (c : Thread nD τ) a7 fullShare (vHeads X Y3)
        ∗ owns (c : Thread nD τ) a8 fullShare C ∗ owns (c : Thread nD τ) a9 fullShare S) -∗ Q ⟨⟩)
          -∗ wp frame (wpE (defs₀ (F := F)) 𝒱₀ (c : Thread nD τ) none) Set.univ (cc0__qkv_body (F := F) i a1 w1 a2 w2 a3 w3 a4 w4 a5 w5 a6 w6 a7 w7 a8 w8 a9 w9) Q) := by
  rw [cc0__qkv_body_eq_skeleton]; unfold cc0__qkv_body_skel
  simp only [k0_part2_eq_skeleton, k0_part3_eq_skeleton, k0_part4_eq_skeleton, k0_part5_eq_skeleton]
  unfold k0_part2_skel k0_part3_skel k0_part4_skel k0_part5_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩ Hk
  have R1 := readAt_all a1.view f1 ![0, 0] zero2 inb_S2048x1024_S2048x1024_0_0
  have R2 := readAt_all a2.view f2 ![0, 0] zero2 inb_S1024x512_S1024x512_0_0
  have R3 := readAt_all a3.view f3 ![0, 0] zero2 inb_S1024x512_S1024x512_0_0
  have R4 := readAt_all a4.view f4 ![0, 0] zero2 inb_S1024x512_S1024x512_0_0
  sl_exec
  sl_step
  have E8 : a8.view.read (Elt F) (if hc : atFirst i then a8.view.writes (Elt F) f8 [⟨Rect.unit ![0, 0] S2048x128.size inb_S2048x128_S2048x128_0_0, k0_pay6 (F := F) c⟩] else f8) = C := by
    split
    · rename_i h; rw [(hf h).1]; exact read_writes_all a8.view f8 ![0, 0] zero2 inb_S2048x128_S2048x128_0_0 _
    · rename_i h; rw [(hl h).1]; exact e8
  have E9 : a9.view.read (Elt F) (if hc : atFirst i then a9.view.writes (Elt F) f9 [⟨Rect.unit ![0, 0] S2048x128.size inb_S2048x128_S2048x128_0_0, k0_pay7 (k0_pay5 (F := F) c)⟩] else f9) = S := by
    split
    · rename_i h; rw [(hf h).2]; exact read_writes_all a9.view f9 ![0, 0] zero2 inb_S2048x128_S2048x128_0_0 _
    · rename_i h; rw [(hl h).2]; exact e9
  have V3 : wp_qkv.sl.v3 c i a8 f8 = C := (readAt_all a8.view _ ![0, 0] zero2 inb_S2048x128_S2048x128_0_0).trans E8
  have V4 : wp_qkv.sl.v4 c i a9 f9 = S := (readAt_all a9.view _ ![0, 0] zero2 inb_S2048x128_S2048x128_0_0).trans E9
  rw [V3, V4]
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists _; isplitr
    rotate_left
    · iexact H5
    ipureintro
    rw [e1, e2, e3, e4]
    exact read_writes_heads a5.view f5 _ _ _ _ _ rfl rfl rfl rfl
  isplitl [H6]
  · iexists _; isplitr
    rotate_left
    · iexact H6
    ipureintro
    rw [e1, e2, e3, e4]
    exact read_writes_heads a6.view f6 _ _ _ _ _ rfl rfl rfl rfl
  isplitl [H7]
  · iexists _; isplitr
    rotate_left
    · iexact H7
    ipureintro
    rw [e1, e2, e3, e4]
    exact read_writes_heads a7.view f7 _ _ _ _ _ rfl rfl rfl rfl
  isplitl [H8]
  · iexists _; isplitr
    rotate_left
    · iexact H8
    ipureintro
    exact E8
  iexists _; isplitr
  rotate_left
  · iexact H9
  ipureintro
  exact E9

/-! ### The call's proof data -/

section Dat0
variable (W : Dev nD → Valuation τ sig (Elt F))

/-- Device `c`'s rows, -/
def qX (c : Dev nD) (t : Fin cfg0.N) : Vec F S2048x1024 .f32 := (win0_0.blk t).view.read (Elt F) (W c main_v1)
/-- and the four heads' columns of the three weight matrices at point `t`. -/
def qY1 (c : Dev nD) (t : Fin cfg0.N) : Vec F S1024x512 .f32 := (win0_1.blk t).view.read (Elt F) (W c main_arg1)
def qY2 (c : Dev nD) (t : Fin cfg0.N) : Vec F S1024x512 .f32 := (win0_2.blk t).view.read (Elt F) (W c main_arg2)
def qY3 (c : Dev nD) (t : Fin cfg0.N) : Vec F S1024x512 .f32 := (win0_3.blk t).view.read (Elt F) (W c main_arg3)

/-- The two tables' buffers, and what no point but the first finds otherwise than made. -/
def tables (c : Dev nD) (n : ℕ) : sProp 𝕄 :=
  iprop(∃ C S : Vec F S2048x128 .f32, ⌜n ≠ 0 → C = cosT c ∧ S = sinT c⌝
    ∗ owns (c : Thread nD τ) (Memref.whole cc0_scratch0) fullShare C ∗ owns (c : Thread nD τ) (Memref.whole cc0_scratch1) fullShare S)

def dat0 (c : Dev nD) : Dat τ (Elt F) Unit ℕ UU ℕ cfg0 c where
  A w := W c (Proc.devRef .tc (Pipeline.arrRef spec0 w))
  after w t := match w with
    | ⟨0, _⟩ => qX W c t
    | ⟨1, _⟩ => qY1 W c t
    | ⟨2, _⟩ => qY2 W c t
    | ⟨3, _⟩ => qY3 W c t
    | ⟨4, _⟩ => qHeads (qX W c t) (qY1 W c t) (cosT c) (sinT c)
    | ⟨5, _⟩ => kHeads (qX W c t) (qY2 W c t) (cosT c) (sinT c)
    | ⟨6, _⟩ => vHeads (qX W c t) (qY3 W c t)
  Φ t := iprop(tables c t.val ∗ Pipeline.scopedRestBut spec0 c [cc0_scratch0, cc0_scratch1])
  q _ := fullShare
  owed _ := owed0 c

theorem first_iff : ∀ t : Fin cfg0.N, atFirst (grid0.coords t) ↔ t.val = 0 := by decide

theorem before0_0 (c : Dev nD) (t : Fin cfg0.N) (d) : (dat0 W c).before (0 : Fin 7) t d = qX W c t :=
  (dat0 W c).before_in_eq_fetched (0 : Fin 7) rfl (fun _ => rfl) (fun _ _ _ => rfl) (fun _ => rfl) t d
theorem before0_1 (c : Dev nD) (t : Fin cfg0.N) (d) : (dat0 W c).before (1 : Fin 7) t d = qY1 W c t := by
  unfold Dat.before; rw [if_pos (fetch0_1 t)]; rfl
theorem before0_2 (c : Dev nD) (t : Fin cfg0.N) (d) : (dat0 W c).before (2 : Fin 7) t d = qY2 W c t := by
  unfold Dat.before; rw [if_pos (fetch0_2 t)]; rfl
theorem before0_3 (c : Dev nD) (t : Fin cfg0.N) (d) : (dat0 W c).before (3 : Fin 7) t d = qY3 W c t := by
  unfold Dat.before; rw [if_pos (fetch0_3 t)]; rfl

/-- The library's obligation for the body. -/
theorem body_obligation0 (c : Dev nD) : BodyObligation (dat0 W c) (defs₀ (F := F)) 𝒱₀ () Set.univ := fun t => by
  rw [bigSep_W0, bigSep_W0]
  show iprop((tables c t.val ∗ Pipeline.scopedRestBut spec0 c [cc0_scratch0, cc0_scratch1]) ∗ (dat0 W c).owesAt () t.castSucc
      ∗ (∃ d, owns (c : Thread nD τ) (st0_0 t) fullShare ((dat0 W c).before (0 : Fin 7) t d))
      ∗ (∃ d, owns (c : Thread nD τ) (st0_1 t) fullShare ((dat0 W c).before (1 : Fin 7) t d))
      ∗ (∃ d, owns (c : Thread nD τ) (st0_2 t) fullShare ((dat0 W c).before (2 : Fin 7) t d))
      ∗ (∃ d, owns (c : Thread nD τ) (st0_3 t) fullShare ((dat0 W c).before (3 : Fin 7) t d))
      ∗ (∃ d, owns (c : Thread nD τ) (st0_4 t) fullShare ((dat0 W c).before (4 : Fin 7) t d))
      ∗ (∃ d, owns (c : Thread nD τ) (st0_5 t) fullShare ((dat0 W c).before (5 : Fin 7) t d))
      ∗ (∃ d, owns (c : Thread nD τ) (st0_6 t) fullShare ((dat0 W c).before (6 : Fin 7) t d)))
    ⊢ wp frame (wpE (defs₀ (F := F)) 𝒱₀ (c : Thread nD τ) none) Set.univ (bodyAt0 (F := F) t) fun _ =>
      iprop((tables c (t.val + 1) ∗ Pipeline.scopedRestBut spec0 c [cc0_scratch0, cc0_scratch1]) ∗ (dat0 W c).owesAt () t.castSucc
        ∗ owns (c : Thread nD τ) (st0_0 t) fullShare (qX W c t) ∗ owns (c : Thread nD τ) (st0_1 t) fullShare (qY1 W c t)
        ∗ owns (c : Thread nD τ) (st0_2 t) fullShare (qY2 W c t) ∗ owns (c : Thread nD τ) (st0_3 t) fullShare (qY3 W c t)
        ∗ owns (c : Thread nD τ) (st0_4 t) fullShare (qHeads (qX W c t) (qY1 W c t) (cosT c) (sinT c))
        ∗ owns (c : Thread nD τ) (st0_5 t) fullShare (kHeads (qX W c t) (qY2 W c t) (cosT c) (sinT c))
        ∗ owns (c : Thread nD τ) (st0_6 t) fullShare (vHeads (qX W c t) (qY3 W c t)))
  unfold tables
  iintro ⟨⟨⟨%C, %S, %hT, H8, H9⟩, HF⟩, HO, ⟨%d0, H0⟩, ⟨%d1, H1⟩, ⟨%d2, H2⟩, ⟨%d3, H3⟩, ⟨%d4, H4⟩, ⟨%d5, H5⟩, ⟨%d6, H6⟩⟩
  rw [before0_0, before0_1, before0_2, before0_3]
  iapply (wp_qkv c (grid0.coords t) _ _ _ _ _ _ _ _ _ _ _ _ _ _ (Memref.whole cc0_scratch0) _ (Memref.whole cc0_scratch1) _ (qX W c t) (qY1 W c t) (qY2 W c t) (qY3 W c t)
    ((dat0 W c).before (4 : Fin 7) t d4) ((dat0 W c).before (5 : Fin 7) t d5) ((dat0 W c).before (6 : Fin 7) t d6) C S (cosT c) (sinT c)
    (fun _ => ⟨rfl, rfl⟩) (fun h => ⟨(hT fun h0 => h ((first_iff t).mpr h0)).1.symm, (hT fun h0 => h ((first_iff t).mpr h0)).2.symm⟩)) $$ [H0 H1 H2 H3 H4 H5 H6 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    iexact H9
  iintro ⟨H0, H1, H2, H3, H4, H5, H6, H8, H9⟩
  isplitl [HF H8 H9]
  · isplitl [H8 H9]
    · iexists (cosT c); iexists (sinT c)
      isplitr; · ipureintro; exact fun _ => ⟨rfl, rfl⟩
      isplitl [H8]; · iexact H8
      iexact H9
    iexact HF
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

end Dat0

end Cert.KernelIdeal.Fused
-- ==== Proof.KernelIdeal.Launch.lean ====
/- The launch of the exchange: its cells and tokens minted, the transfers' cells closed until the call that uses them, the
   tokens dealt to the devices that pay with them, the credit each device starts with, and what the call makes of all that. -/
module

public import proofs.«01_k».proof.Proof.KernelIdeal.Qkv
public import Idealize.ShloMosaic.Lib.Pipeline.CollectiveSegs
public import Idealize.ShloMosaic.Lib.Pipeline.RegionTalk

@[expose] public section

set_option maxRecDepth 8192

noncomputable section

namespace Cert.KernelIdeal.Fused

open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ UU ℕ

open Idealize.ShloMosaic.Pipeline (Dat Cfg Window BodyObligation cellOf)

/-! ### Seventeen cells: the barrier's, eight send cells, eight receive cells -/

theorem bigSep_cells (Φ : Fin 17 → sProp 𝕄) :
    bigSep Finset.univ Φ ⊣⊢ iprop(Φ 0 ∗ (bigSep Finset.univ fun i : Fin 8 => Φ (jS i)) ∗ bigSep Finset.univ fun i : Fin 8 => Φ (jR i)) := by
  rw [bigSep_eight, bigSep_eight,
    show bigSep Finset.univ Φ = iprop(Φ 0 ∗ Φ (jS 0) ∗ Φ (jS 1) ∗ Φ (jS 2) ∗ Φ (jS 3) ∗ Φ (jS 4) ∗ Φ (jS 5) ∗ Φ (jS 6) ∗ Φ (jS 7) ∗ Φ (jR 0) ∗ Φ (jR 1) ∗ Φ (jR 2) ∗ Φ (jR 3) ∗ Φ (jR 4) ∗ Φ (jR 5) ∗ Φ (jR 6) ∗ Φ (jR 7)) from bigSep_univ_eq_bigSepL [0, jS 0, jS 1, jS 2, jS 3, jS 4, jS 5, jS 6, jS 7, jR 0, jR 1, jR 2, jR 3, jR 4, jR 5, jR 6, jR 7] (by decide) (by decide) Φ]
  constructor
  · iintro ⟨h0, h1, h2, h3, h4, h5, h6, h7, h8, h9, h10, h11, h12, h13, h14, h15, h16⟩
    isplitl [h0]; · iexact h0
    isplitl [h1 h2 h3 h4 h5 h6 h7 h8]
    · isplitl [h1]; · iexact h1
      isplitl [h2]; · iexact h2
      isplitl [h3]; · iexact h3
      isplitl [h4]; · iexact h4
      isplitl [h5]; · iexact h5
      isplitl [h6]; · iexact h6
      isplitl [h7]; · iexact h7
      iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16
  · iintro ⟨h0, ⟨h1, h2, h3, h4, h5, h6, h7, h8⟩, ⟨h9, h10, h11, h12, h13, h14, h15, h16⟩⟩
    isplitl [h0]; · iexact h0
    isplitl [h1]; · iexact h1
    isplitl [h2]; · iexact h2
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

theorem csem_injective : Function.Injective csem := by decide
theorem kcell_injective : Function.Injective (kcell : Dev nD × Fin 17 → GSem nD τ sig) := by
  rintro ⟨c, k⟩ ⟨c', k'⟩ h
  have h1 : c = c' := congrArg (fun g : GSem nD τ sig => g.1.1) h
  have h2 : k = k' := csem_injective (congrArg Prod.snd h)
  rw [h1, h2]

def cells : Finset (GSem nD τ sig) := Finset.univ.map ⟨kcell, kcell_injective⟩

/-- The tokens a device's own cells are minted with: duty 0 of each, and the barrier's duty 1 (the last). -/
def tokOf (p : Dev nD × (Unit ⊕ Fin 17)) : GSem nD τ sig × ℕ × Fin 2 := match p.2 with
  | .inl _ => (barCell p.1, 0, 1)
  | .inr j => (kcell (p.1, j), 0, 0)

theorem tokOf_injective : Function.Injective tokOf := by
  rintro ⟨c, j⟩ ⟨c', j'⟩ h
  cases j with
  | inl _ =>
    cases j' with
    | inl _ => rw [show c = c' from congrArg (fun x : GSem nD τ sig × ℕ × Fin 2 => x.1.1.1) h]
    | inr k => exact absurd (congrArg (fun x : GSem nD τ sig × ℕ × Fin 2 => x.2.2) h) (by decide : ¬ (1 : Fin 2) = 0)
  | inr k =>
    cases j' with
    | inl _ => exact absurd (congrArg (fun x : GSem nD τ sig × ℕ × Fin 2 => x.2.2) h) (by decide : ¬ (0 : Fin 2) = 1)
    | inr k' =>
      have := kcell_injective (a₁ := (c, k)) (a₂ := (c', k')) (congrArg Prod.fst h)
      rw [Prod.mk.injEq] at this; rw [this.1, this.2]

def tokens : Finset (GSem nD τ sig × ℕ × Fin 2) := Finset.univ.map ⟨tokOf, tokOf_injective⟩

/-- The tokens of device `c`'s own cells. -/
def minted (c : Dev nD) : sProp 𝕄 :=
  iprop(dutyTok ER (barCell c) 0 1 ∗ bigSep Finset.univ fun k : Fin 17 => dutyTok ER (kcell (c, k)) 0 0)

/-- Transfer `i`'s addressing, as a rearrangement of all (device, transfer) pairs. -/
def addressed : Dev nD × Fin 8 ≃ Dev nD × Fin 8 :=
  ⟨fun p => (peer p.1 p.2, p.2), fun p => (from_ p.1 p.2, p.2), fun _ => Prod.ext (from_peer _ _) rfl, fun _ => Prod.ext (peer_from _ _) rfl⟩

/-- The tokens a device pays with: the neighbours' barriers', -/
def payBar (c : Dev nD) : sProp 𝕄 := iprop(dutyTok ER (barCell (prv c)) 0 0 ∗ dutyTok ER (barCell (nxt c)) 0 1)
/-- the transfers'. -/
def payX (c : Dev nD) : sProp 𝕄 :=
  iprop((bigSep Finset.univ fun i : Fin 8 => dutyTok ER (sCell c i) 0 0) ∗ bigSep Finset.univ fun i : Fin 8 => dutyTok ER (rCell (peer c i) i) 0 0)

theorem minted_split (c : Dev nD) : (minted c : sProp 𝕄) ⊢ iprop(dutyTok ER (barCell c) 0 1 ∗ dutyTok ER (barCell c) 0 0
    ∗ (bigSep Finset.univ fun i : Fin 8 => dutyTok ER (sCell c i) 0 0) ∗ bigSep Finset.univ fun i : Fin 8 => dutyTok ER (rCell c i) 0 0) := by
  unfold minted
  refine sep_mono_right ((bigSep_cells fun k => dutyTok ER (kcell (c, k)) 0 0).1.trans (Entails.of_eq ?_))
  simp only [kcell, csem_s, csem_r, csem_0]

theorem tokens_around : (bigSep Finset.univ fun c : Dev nD => (iprop(dutyTok ER (barCell c) 0 1 ∗ dutyTok ER (barCell c) 0 0
    ∗ (bigSep Finset.univ fun i : Fin 8 => dutyTok ER (sCell c i) 0 0) ∗ bigSep Finset.univ fun i : Fin 8 => dutyTok ER (rCell c i) 0 0) : sProp 𝕄))
    ⊢ bigSep Finset.univ fun c : Dev nD => iprop(payBar (F := F) c ∗ payX c) := by
  unfold payBar payX
  simp only [bigSep_sep']
  rw [bigSep_univ_equiv ring (fun c : Dev nD => (dutyTok ER (barCell c) 0 1 : sProp 𝕄)),
    bigSep_univ_equiv ring.symm (fun c : Dev nD => (dutyTok ER (barCell c) 0 0 : sProp 𝕄)),
    ← bigSep_univ_prod (fun p : Dev nD × Fin 8 => (dutyTok ER (rCell p.1 p.2) 0 0 : sProp 𝕄)),
    bigSep_univ_equiv addressed (fun p : Dev nD × Fin 8 => (dutyTok ER (rCell p.1 p.2) 0 0 : sProp 𝕄)),
    bigSep_univ_prod]
  iintro ⟨H1, H2, H3, H4⟩
  isplitl [H1 H2]
  · isplitl [H2]; · iexact H2
    iexact H1
  isplitl [H3]; · iexact H3
  iexact H4

theorem tokens_dealt : (bigSep Finset.univ fun c : Dev nD => (minted c : sProp 𝕄)) ⊢ bigSep Finset.univ fun c : Dev nD => iprop(payBar (F := F) c ∗ payX c) :=
  (bigSep_mono fun c _ => minted_split c).trans tokens_around

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The call's own semaphores: the sixteen of the transfers. -/
def osem (j : Fin 16) : SemLoc sig := .dma ⟨17 + j.val, Nat.lt_of_lt_of_le (Nat.add_lt_add_left j.isLt 17) (by decide)⟩

theorem ownSemFacts : Pipeline.OwnSemFacts spec1 osem := by decide

theorem ownSems0_eq (c : Dev nD) : (Pipeline.ownSems0 (Ix := Unit) (Name := ℕ) (U := UU) (Lvl := ℕ) (Val := Elt F) (τ := τ) osem c : sProp 𝕄)
    = iprop(semVal (sCell c 0) 0 ∗ semVal (sCell c 1) 0 ∗ semVal (sCell c 2) 0 ∗ semVal (sCell c 3) 0 ∗ semVal (sCell c 4) 0 ∗ semVal (sCell c 5) 0 ∗ semVal (sCell c 6) 0 ∗ semVal (sCell c 7) 0 ∗ semVal (rCell c 0) 0 ∗ semVal (rCell c 1) 0 ∗ semVal (rCell c 2) 0 ∗ semVal (rCell c 3) 0 ∗ semVal (rCell c 4) 0 ∗ semVal (rCell c 5) 0 ∗ semVal (rCell c 6) 0 ∗ semVal (rCell c 7) 0) := by
  rw [Pipeline.ownSems0_eq_of_list c osem [0, 1, 2, 3, 4, 5, 6, 7, 8, 9, 10, 11, 12, 13, 14, 15] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ### Cells open from the start, and cells not yet open -/

/-- The barrier's cells, -/
def barEmb : Dev nD ↪ GSem nD τ sig := ⟨fun c => barCell c, fun _ _ h => congrArg (fun g : GSem nD τ sig => g.1.1) h⟩
theorem osem_inj : Function.Injective osem := by decide
theorem osem_ne_bar : ∀ k : Fin 16, osem k ≠ .reg barS := by decide
/-- and the transfers'. -/
def xferEmb : Dev nD × Fin 16 ↪ GSem nD τ sig :=
  ⟨fun p => ((p.1 : Thread nD τ), osem p.2), fun _ _ h => Prod.ext (congrArg (fun g : GSem nD τ sig => g.1.1) h) (osem_inj (congrArg Prod.snd h))⟩

abbrev barCells : Finset (GSem nD τ sig) := Finset.univ.map barEmb
abbrev xferCells : Finset (GSem nD τ sig) := Finset.univ.map xferEmb

theorem cells_apart : Disjoint (barCells : Finset (GSem nD τ sig)) xferCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

theorem csem_succ : ∀ j : Fin 16, csem j.succ = osem j := by decide

/-- All seventeen of each device are among the two kinds. -/
theorem cells_sub : cells ⊆ (barCells ∪ xferCells : Finset (GSem nD τ sig)) := fun g hg => by
  obtain ⟨⟨c, k⟩, -, rfl⟩ := Finset.mem_map.mp hg
  cases k using Fin.cases with
  | zero => exact Finset.mem_union_left _ (Finset.mem_map_of_mem barEmb (Finset.mem_univ c))
  | succ j =>
    refine Finset.mem_union_right _ ?_
    show kcell (c, j.succ) ∈ _
    unfold kcell; rw [csem_succ]
    exact Finset.mem_map_of_mem xferEmb (Finset.mem_univ (c, j))

/-- The launch's element: the pipelines' counters, and the exchange's cells and tokens. -/
def u₀ : UU := (initOf (Pipeline.cells cfgs cellOf_inj) (Pipeline.launchToks cfgs cellOf_inj), launchOf barCells xferCells tokens)

/-- The rights to open device `c`'s transfer cells. -/
def shutters (c : Dev nD) : sProp 𝕄 := bigSep Finset.univ fun i : Fin 8 => iprop(openTok ER (sCell c i) ∗ openTok ER (rCell c i))

theorem bigSep_sixteen (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem shutters_intro (c : Dev nD) : (bigSep Finset.univ fun j : Fin 16 => (openTok ER ((c : Thread nD τ), osem j) : sProp 𝕄)) ⊢ shutters c := by
  unfold shutters
  rw [bigSep_sep', bigSep_eight, bigSep_eight, bigSep_sixteen]
  show iprop(openTok ER (sCell c 0) ∗ openTok ER (sCell c 1) ∗ openTok ER (sCell c 2) ∗ openTok ER (sCell c 3) ∗ openTok ER (sCell c 4) ∗ openTok ER (sCell c 5) ∗ openTok ER (sCell c 6) ∗ openTok ER (sCell c 7)
    ∗ openTok ER (rCell c 0) ∗ openTok ER (rCell c 1) ∗ openTok ER (rCell c 2) ∗ openTok ER (rCell c 3) ∗ openTok ER (rCell c 4) ∗ openTok ER (rCell c 5) ∗ openTok ER (rCell c 6) ∗ openTok ER (rCell c 7)) ⊢ _
  iintro ⟨s0, s1, s2, s3, s4, s5, s6, s7, HR⟩
  isplitr [HR]
  · isplitl [s0]; · iexact s0
    isplitl [s1]; · iexact s1
    isplitl [s2]; · iexact s2
    isplitl [s3]; · iexact s3
    isplitl [s4]; · iexact s4
    isplitl [s5]; · iexact s5
    isplitl [s6]; · iexact s6
    iexact s7
  iexact HR

/-! ### What a device keeps for the exchange, and how the call opens it -/

section Deal
variable (Kx Vx : Dev nD → Arr F .bf16)

/-- The records every device may consult, without the levels. -/
def records (K : Dev nD × Fin 17 → ℕ) : sProp 𝕄 :=
  iprop(bigSep Finset.univ (fun p => cellInv ER (sched Kx Vx) (K p) (kcell p)) ∗ bigSep Finset.univ (fun d : Dev nD => reached ER (barCell d) 0))

instance records_persistent (K : Dev nD × Fin 17 → ℕ) : BI.Persistent (records Kx Vx K) := by unfold records; infer_instance

/-- What device `c` keeps from the launch until the exchange. -/
def purse (c : Dev nD) : sProp 𝕄 := iprop(atPos ER (barCell c) 0 ∅ 0 ∗ shutters c ∗ payBar c ∗ payX c)
def kept (c : Dev nD) : sProp 𝕄 := iprop((∃ K, records Kx Vx K) ∗ purse c ∗ creds c)

theorem with_state {I : Type} [DecidableEq I] {S : Finset I} {R : sProp 𝕄} [BI.Persistent R] {Φ Ψ : I → sProp 𝕄}
    (h : ∀ i ∈ S, iprop(R ∗ Φ i) ⊢ |={Set.univ}=> Ψ i) : iprop(R ∗ bigSep S Φ) ⊢ |={Set.univ}=> bigSep S Ψ :=
  (with_records (R := R) h).trans (bigSep_fupd _ _)

theorem zip {I : Type} {S : Finset I} (Φ Ψ : I → sProp 𝕄) : iprop(bigSep S Φ ∗ bigSep S Ψ) ⊢ bigSep S fun i => iprop(Φ i ∗ Ψ i) := by
  rw [bigSep_sep']

/-- One transfer's two cells opened. -/
theorem open_pair (K : Dev nD × Fin 17 → ℕ) (c : Dev nD) (i : Fin 8) :
    iprop(known Kx Vx K ∗ ((openTok ER (sCell c i) ∗ openTok ER (rCell c i)) ∗ (semVal (sCell c i) 0 ∗ semVal (rCell c i) 0)))
      ⊢ |={Set.univ}=> (iprop((atPos ER (sCell c i) 0 ∅ 0 ∗ reached ER (sCell c i) 0) ∗ (atPos ER (rCell c i) 0 ∅ 0 ∗ reached ER (rCell c i) 0)) : sProp 𝕄) := by
  iintro ⟨#HK, ⟨OS, OR⟩, ⟨VS, VR⟩⟩
  imod (Rounds.cell_open ER (sched Kx Vx) (g := sCell c i) (Set.mem_univ (K (c, jS i)))) $$ [OS VS] with H1
  · isplitr; · iapply (inv_s Kx Vx K c i); iexact HK
    isplitl [OS] <;> iassumption
  imod (Rounds.cell_open ER (sched Kx Vx) (g := rCell c i) (Set.mem_univ (K (c, jR i)))) $$ [OR VR] with H2
  · isplitr; · iapply (inv_r Kx Vx K c i); iexact HK
    isplitl [OR] <;> iassumption
  imodintro
  isplitl [H1] <;> iassumption

theorem counters_pair (c : Dev nD) : (Pipeline.ownSems0 (Ix := Unit) (Name := ℕ) (U := UU) (Lvl := ℕ) (Val := Elt F) (τ := τ) osem c : sProp 𝕄)
    ⊢ bigSep Finset.univ fun i : Fin 8 => iprop(semVal (sCell c i) 0 ∗ semVal (rCell c i) 0) := by
  rw [ownSems0_eq, bigSep_sep', bigSep_eight, bigSep_eight]
  iintro ⟨s0, s1, s2, s3, s4, s5, s6, s7, HR⟩
  isplitr [HR]
  · isplitl [s0]; · iexact s0
    isplitl [s1]; · iexact s1
    isplitl [s2]; · iexact s2
    isplitl [s3]; · iexact s3
    isplitl [s4]; · iexact s4
    isplitl [s5]; · iexact s5
    isplitl [s6]; · iexact s6
    iexact s7
  iexact HR

theorem counters_back (c : Dev nD) : shut c ⊢ (iprop(Pipeline.ownSems0 (Ix := Unit) (Name := ℕ) (U := UU) (Lvl := ℕ) (Val := Elt F) (τ := τ) osem c ∗ semVal (barCell c) 0) : sProp 𝕄) := by
  rw [ownSems0_eq]
  unfold shut closed
  rw [bigSep_sep', bigSep_eight, bigSep_eight]
  iintro ⟨HB, ⟨s0, s1, s2, s3, s4, s5, s6, s7⟩, HR⟩
  isplitr [HB]
  · isplitl [s0]; · iexact s0
    isplitl [s1]; · iexact s1
    isplitl [s2]; · iexact s2
    isplitl [s3]; · iexact s3
    isplitl [s4]; · iexact s4
    isplitl [s5]; · iexact s5
    isplitl [s6]; · iexact s6
    isplitl [s7]; · iexact s7
    iexact HR
  iexact HB

/-- The exchange's call opens its transfers' cells, its counters being at zero: what it starts from. -/
theorem opening (c : Dev nD) :
    iprop(kept Kx Vx c ∗ Pipeline.ownSems0 (Ix := Unit) (Name := ℕ) (U := UU) (Lvl := ℕ) (Val := Elt F) (τ := τ) osem c ∗ levAts L lv)
      ⊢ |={Set.univ}=> start Kx Vx c := by
  unfold kept purse start
  iintro ⟨⟨⟨%K, #HR⟩, ⟨HB, HS, HP, HX⟩, HC⟩, HV, #HL⟩
  ihave #HK := (show iprop(records Kx Vx K ∗ levAts L lv) ⊢ known Kx Vx K from by
    unfold records known
    iintro ⟨⟨H1, H2⟩, H3⟩
    isplitl [H1]; · iexact H1
    isplitl [H2] <;> iassumption) $$ []
  · isplitr; · iexact HR
    iexact HL
  ihave HV := (counters_pair (F := F) c) $$ HV
  imod (with_state (R := known Kx Vx K) (S := Finset.univ) fun i _ => open_pair Kx Vx K c i) $$ [HS HV] with HO
  · isplitr; · iexact HK
    iapply (zip (S := Finset.univ) (fun i : Fin 8 => iprop(openTok ER (sCell c i) ∗ openTok ER (rCell c i))) fun i => iprop(semVal (sCell c i) 0 ∗ semVal (rCell c i) 0))
    isplitl [HS]; · unfold shutters; iexact HS
    iexact HV
  imodintro
  isplitr
  · iexists K; iexact HK
  isplitr [HC]
  · unfold own barOwn xferOwn payBar payX
    simp only [bigSep_sep']
    icases HP with ⟨HP1, HP2⟩
    icases HX with ⟨HX1, HX2⟩
    icases HO with ⟨⟨HA, HA'⟩, HB1, HB1'⟩
    isplitl [HB HP1 HP2]
    · isplitl [HB]; · iexact HB
      isplitl [HP1] <;> iassumption
    isplitl [HA]; · iexact HA
    isplitl [HB1]; · iexact HB1
    isplitl [HX1]; · iexact HX1
    isplitl [HX2]; · iexact HX2
    isplitl [HA'] <;> iassumption
  iexact HC

end Deal

/-! ### The credit a device starts with -/

theorem bar_inj {a b : Dev nD} (h : barCell a = barCell b) : a = b := congrArg (fun g : GSem nD τ sig => g.1.1) h
theorem r_inj {a b : Dev nD} {i j : Fin 8} (h : rCell a i = rCell b j) : a = b ∧ i = j := by
  refine ⟨congrArg (fun g : GSem nD τ sig => g.1.1) h, ?_⟩
  have h2 : (SemLoc.dma (rS i) : SemLoc sig) = .dma (rS j) := congrArg Prod.snd h
  have h3 : rS i = rS j := SemLoc.dma.inj h2
  have h4 : 25 + i.val = 25 + j.val := congrArg (fun x : DmaSem sig => x.val) h3
  exact Fin.ext (by omega)
theorem r_ne_bar (a b : Dev nD) (i : Fin 8) : ¬ barCell a = rCell b i := fun h => by
  have h2 : (SemLoc.reg barS : SemLoc sig) = .dma (rS i) := congrArg Prod.snd h
  cases h2

/-- One transfer's due, at a receive cell. -/
theorem due_r (d c : Dev nD) (i j : Fin 8) :
    (tallyAt (rCell (peer d j) j) () (amt j) : CellTallies nD τ sig Unit) (rCell c i) () = if j = i ∧ d = from_ c i then amt i else 0 := by
  rw [tallyAt_apply]
  by_cases h : j = i ∧ d = from_ c i
  · obtain ⟨rfl, rfl⟩ := h
    rw [peer_from, if_pos ⟨rfl, rfl⟩, if_pos ⟨rfl, rfl⟩]
  · rw [if_neg h, if_neg]
    rintro ⟨h1, -⟩
    obtain ⟨h2, h3⟩ := r_inj h1
    exact h ⟨h3.symm, by rw [h2, h3, from_peer]⟩

theorem owedX_r (d c : Dev nD) (i : Fin 8) : owedX d 8 (rCell c i) () = if d = from_ c i then amt i else 0 := by
  have h : owedX d 8 (rCell c i) () = 0 + (tallyAt (rCell (peer d 7) 7) () (amt 7) : CellTallies nD τ sig Unit) (rCell c i) () + (tallyAt (rCell (peer d 6) 6) () (amt 6) : CellTallies nD τ sig Unit) (rCell c i) () + (tallyAt (rCell (peer d 5) 5) () (amt 5) : CellTallies nD τ sig Unit) (rCell c i) () + (tallyAt (rCell (peer d 4) 4) () (amt 4) : CellTallies nD τ sig Unit) (rCell c i) () + (tallyAt (rCell (peer d 3) 3) () (amt 3) : CellTallies nD τ sig Unit) (rCell c i) () + (tallyAt (rCell (peer d 2) 2) () (amt 2) : CellTallies nD τ sig Unit) (rCell c i) () + (tallyAt (rCell (peer d 1) 1) () (amt 1) : CellTallies nD τ sig Unit) (rCell c i) () + (tallyAt (rCell (peer d 0) 0) () (amt 0) : CellTallies nD τ sig Unit) (rCell c i) () := rfl
  rw [h]
  simp only [due_r]
  by_cases hd : d = from_ c i
  · simp only [hd, and_true]
    fin_cases i <;> rfl
  · simp only [hd, and_false, if_false]

theorem owed0_r (d c : Dev nD) (i : Fin 8) : owed0 d (rCell c i) () = if d = from_ c i then amt i else 0 := by
  have h : owed0 d (rCell c i) () = owedX d 8 (rCell c i) () + (tallyAt (barCell (nxt d)) () 1 : CellTallies nD τ sig Unit) (rCell c i) ()
      + (tallyAt (barCell (prv d)) () 1 : CellTallies nD τ sig Unit) (rCell c i) () := rfl
  rw [h, tallyAt_ne_cell (fun h => r_ne_bar _ _ _ h.symm), tallyAt_ne_cell (fun h => r_ne_bar _ _ _ h.symm), Finsupp.zero_apply, Nat.add_zero, Nat.add_zero, owedX_r]

theorem owedX_bar (d c : Dev nD) : owedX d 8 (barCell c) () = 0 := by
  by_contra h
  obtain ⟨i, -, hg⟩ := owedX_pos d 8 le_rfl (barCell c) () (Nat.pos_of_ne_zero h)
  exact r_ne_bar _ _ _ hg

theorem owed0_bar (d c : Dev nD) : owed0 d (barCell c) () = (if d = prv c then 1 else 0) + (if d = nxt c then 1 else 0) := by
  have h : owed0 d (barCell c) () = owedX d 8 (barCell c) () + (tallyAt (barCell (nxt d)) () 1 : CellTallies nD τ sig Unit) (barCell c) ()
      + (tallyAt (barCell (prv d)) () 1 : CellTallies nD τ sig Unit) (barCell c) () := rfl
  rw [h, owedX_bar, Nat.zero_add, tallyAt_apply, tallyAt_apply]
  congr 1
  · by_cases h : d = prv c
    · subst h; rw [nxt_prv, if_pos ⟨rfl, rfl⟩, if_pos rfl]
    · rw [if_neg (fun ⟨h1, _⟩ => h (by rw [bar_inj h1, prv_nxt])), if_neg h]
  · by_cases h : d = nxt c
    · subst h; rw [prv_nxt, if_pos ⟨rfl, rfl⟩, if_pos rfl]
    · rw [if_neg (fun ⟨h1, _⟩ => h (by rw [bar_inj h1, nxt_prv])), if_neg h]

theorem launch_bar (c : Dev nD) :
    tallyOn (barCell c) (launchCredit (Pipeline.owing owed0) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed0_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_r (c : Dev nD) (i : Fin 8) :
    tallyOn (rCell c i) (launchCredit (Pipeline.owing owed0) 0 (rCell c i)) = (tallyAt (rCell c i) () (amt i) : CellTallies nD τ sig Unit) := by
  unfold tallyAt; refine congrArg _ (Finsupp.ext fun u => ?_); cases u
  rw [Pipeline.launchCredit_owing, Finsupp.single_eq_same, Finset.sum_congr rfl fun d _ => owed0_r d c i, Finset.sum_ite_eq' Finset.univ (from_ c i) fun _ => amt i,
    if_pos (Finset.mem_univ _)]

def rSems : Fin 8 ↪ SemLoc sig := ⟨fun i => .dma (rS i), by decide⟩

theorem creds_intro (c : Dev nD) : (Pipeline.launchCred owed0 c : sProp 𝕄) ⊢ creds c := by
  unfold Pipeline.launchCred creds
  rw [bigSep_univ_at _ (SemLoc.reg barS), launch_bar]
  refine sep_mono_right ?_
  refine (bigSep_subset (t := Finset.univ.map rSems) fun sm hsm => Finset.mem_erase.mpr ⟨?_, Finset.mem_univ _⟩).trans ?_
  · rintro rfl
    obtain ⟨i, -, hi⟩ := Finset.mem_map.mp hsm
    cases hi
  · rw [bigSep_map]
    exact bigSep_mono fun i _ => Entails.of_eq (congrArg cred (launch_r c i))

end Cert.KernelIdeal.Fused
-- ==== Proof.KernelIdeal.Calls.lean ====
/- The three calls as segments of the program: what every array holds between them, what each call needs and leaves. -/
module

public import proofs.«01_k».proof.Proof.KernelIdeal.Launch
public import proofs.«01_k».proof.Proof.Gen.KernelIdeal.Regions

@[expose] public section

set_option maxRecDepth 8192

noncomputable section

namespace Cert.KernelIdeal.Fused

open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Pipeline (Dat)

variable {F : FTy → Type} [FloatOps F] [Named F]

local notation "𝕄" => MT nD τ sig Unit (Elt F) ℕ UU ℕ

/-! ### The arrays between the calls -/

section Between
variable (m : (ℓ : Loc nD τ sig) → Buf (Elt F) ℓ)

/-- Before the first call, -/
def has1 (c : Dev nD) : Valuation τ sig (Elt F) := StableHlo.after hostOps0 (V0 m c)
/-- after it: the three projections written, -/
def has2 (c : Dev nD) : Valuation τ sig (Elt F) :=
  Function.update (Function.update (Function.update (has1 m c) main_v2_0 ((dat0 (has1 m) c).arrAt (4 : Fin 7) cfg0.N))
    main_v2_1 ((dat0 (has1 m) c).arrAt (5 : Fin 7) cfg0.N)) main_v2_2 ((dat0 (has1 m) c).arrAt (6 : Fin 7) cfg0.N)
/-- after the exchange: the attention's result written, -/
def has3 (c : Dev nD) : Valuation τ sig (Elt F) := Function.update (has2 m c) main_v3 ((dat1 (has2 m) c).arrAt (3 : Fin 4) cfg1.N)
/-- after the last call: the output projection written, -/
def has4 (c : Dev nD) : Valuation τ sig (Elt F) := Function.update (has3 m c) main_v4 ((dat2 (has3 m) c).arrAt (2 : Fin 3) cfg2.N)
/-- and at the end. -/
def has5 (c : Dev nD) : Valuation τ sig (Elt F) := StableHlo.after hostOps3 (has4 m c)

/-- Every call's proof data. -/
def dats (p : Fin 3) (c : Dev nD) : Dat τ (Elt F) Unit ℕ UU ℕ (cfgs p) c := match p with
  | ⟨0, _⟩ => dat0 (has1 m) c
  | ⟨1, _⟩ => dat1 (has2 m) c
  | ⟨2, _⟩ => dat2 (has3 m) c

theorem has2_of (c : Dev nD) (b : DevRef τ sig) (h0 : b ≠ Proc.devRef .tc main_v2_0) (h1 : b ≠ Proc.devRef .tc main_v2_1) (h2 : b ≠ Proc.devRef .tc main_v2_2) :
    has2 m c b = has1 m c b := by
  unfold has2
  rw [Function.update_of_ne h2, Function.update_of_ne h1, Function.update_of_ne h0]
theorem has2_q (c : Dev nD) : has2 m c (Proc.devRef .tc main_v2_0) = (dat0 (has1 m) c).arrAt (4 : Fin 7) cfg0.N := by
  unfold has2
  rw [Function.update_of_ne (show Proc.devRef .tc main_v2_0 ≠ Proc.devRef .tc main_v2_2 by decide), Function.update_of_ne (show Proc.devRef .tc main_v2_0 ≠ Proc.devRef .tc main_v2_1 by decide), Function.update_self]
theorem has2_k (c : Dev nD) : has2 m c (Proc.devRef .tc main_v2_1) = (dat0 (has1 m) c).arrAt (5 : Fin 7) cfg0.N := by
  unfold has2
  rw [Function.update_of_ne (show Proc.devRef .tc main_v2_1 ≠ Proc.devRef .tc main_v2_2 by decide), Function.update_self]
theorem has2_v (c : Dev nD) : has2 m c (Proc.devRef .tc main_v2_2) = (dat0 (has1 m) c).arrAt (6 : Fin 7) cfg0.N := by
  unfold has2
  rw [Function.update_self]
theorem has3_of (c : Dev nD) (b : DevRef τ sig) (h : b ≠ Proc.devRef .tc main_v3) : has3 m c b = has2 m c b := by
  unfold has3; rw [Function.update_of_ne h]
theorem has3_o (c : Dev nD) : has3 m c (Proc.devRef .tc main_v3) = (dat1 (has2 m) c).arrAt (3 : Fin 4) cfg1.N := by
  unfold has3; rw [Function.update_self]
theorem has4_of (c : Dev nD) (b : DevRef τ sig) (h : b ≠ Proc.devRef .tc main_v4) : has4 m c b = has3 m c b := by
  unfold has4; rw [Function.update_of_ne h]
theorem has4_y (c : Dev nD) : has4 m c (Proc.devRef .tc main_v4) = (dat2 (has3 m) c).arrAt (2 : Fin 3) cfg2.N := by
  unfold has4; rw [Function.update_self]

/-- What each call leaves in the arrays of its windows. -/
theorem left0 (c : Dev nD) (w : Fin 7) : (dat0 (has1 m) c).arrAt w cfg0.N = has2 m c (Proc.devRef .tc (Pipeline.arrRef spec0 w)) := by
  fin_cases w
  · exact ((dat0 (has1 m) c).arrAt_in (0 : Fin 7) rfl _).trans (has2_of m c (Proc.devRef .tc main_v1) (by decide) (by decide) (by decide)).symm
  · exact ((dat0 (has1 m) c).arrAt_in (1 : Fin 7) rfl _).trans (has2_of m c (Proc.devRef .tc main_arg1) (by decide) (by decide) (by decide)).symm
  · exact ((dat0 (has1 m) c).arrAt_in (2 : Fin 7) rfl _).trans (has2_of m c (Proc.devRef .tc main_arg2) (by decide) (by decide) (by decide)).symm
  · exact ((dat0 (has1 m) c).arrAt_in (3 : Fin 7) rfl _).trans (has2_of m c (Proc.devRef .tc main_arg3) (by decide) (by decide) (by decide)).symm
  · exact (has2_q m c).symm
  · exact (has2_k m c).symm
  · exact (has2_v m c).symm
theorem left1 (c : Dev nD) (w : Fin 4) : (dat1 (has2 m) c).arrAt w cfg1.N = has3 m c (Proc.devRef .tc (Pipeline.arrRef spec1 w)) := by
  fin_cases w
  · exact ((dat1 (has2 m) c).arrAt_in (0 : Fin 4) rfl _).trans (has3_of m c (Proc.devRef .tc main_v2_0) (by decide)).symm
  · exact ((dat1 (has2 m) c).arrAt_in (1 : Fin 4) rfl _).trans (has3_of m c (Proc.devRef .tc main_v2_1) (by decide)).symm
  · exact ((dat1 (has2 m) c).arrAt_in (2 : Fin 4) rfl _).trans (has3_of m c (Proc.devRef .tc main_v2_2) (by decide)).symm
  · exact (has3_o m c).symm
theorem left2 (c : Dev nD) (w : Fin 3) : (dat2 (has3 m) c).arrAt w cfg2.N = has4 m c (Proc.devRef .tc (Pipeline.arrRef spec2 w)) := by
  fin_cases w
  · exact ((dat2 (has3 m) c).arrAt_in (0 : Fin 3) rfl _).trans (has4_of m c (Proc.devRef .tc main_v3) (by decide)).symm
  · exact ((dat2 (has3 m) c).arrAt_in (1 : Fin 3) rfl _).trans (has4_of m c (Proc.devRef .tc main_arg4) (by decide)).symm
  · exact (has4_y m c).symm

/-- The arrays a call has no window on. -/
abbrev off0 : Finset (DevRef τ sig) := Pipeline.ucRefs τ sig \ Pipeline.arrRefs (τ := τ) spec0
abbrev off1 : Finset (DevRef τ sig) := Pipeline.ucRefs τ sig \ Pipeline.arrRefs (τ := τ) spec1
abbrev off2 : Finset (DevRef τ sig) := Pipeline.ucRefs τ sig \ Pipeline.arrRefs (τ := τ) spec2

theorem mem_arr {gr W : Nat} (win : Fin W → Pipeline.WinSpec sig gr) (w : Fin W) : (Proc.devRef .tc (Pipeline.arrRef win w) : DevRef τ sig) ∈ Pipeline.arrRefs (τ := τ) win :=
  Finset.mem_map_of_mem _ (Finset.mem_image_of_mem _ (Finset.mem_univ w))

theorem off_ne {gr W : Nat} (win : Fin W → Pipeline.WinSpec sig gr) (w : Fin W) {b : DevRef τ sig} (h : b ∈ Pipeline.ucRefs τ sig \ Pipeline.arrRefs (τ := τ) win) :
    b ≠ Proc.devRef .tc (Pipeline.arrRef win w) := fun e => (Finset.mem_sdiff.mp h).2 (e ▸ mem_arr win w)

theorem kept0 (c : Dev nD) : ∀ b ∈ off0, has1 m c b = has2 m c b := fun b h =>
  (has2_of m c b (off_ne spec0 4 h) (off_ne spec0 5 h) (off_ne spec0 6 h)).symm
theorem kept1 (c : Dev nD) : ∀ b ∈ off1, has3 m c b = has2 m c b := fun b h => has3_of m c b (off_ne spec1 3 h)
theorem kept2 (c : Dev nD) : ∀ b ∈ off2, has3 m c b = has4 m c b := fun b h => (has4_of m c b (off_ne spec2 2 h)).symm

theorem sub0 : Pipeline.arrRefs (τ := τ) spec0 ⊆ Pipeline.ucRefs τ sig := Pipeline.arrRefs_sub_ucRefs spec0 (by decide)
theorem sub1 : Pipeline.arrRefs (τ := τ) spec1 ⊆ Pipeline.ucRefs τ sig := Pipeline.arrRefs_sub_ucRefs spec1 (by decide)
theorem sub2 : Pipeline.arrRefs (τ := τ) spec2 ⊆ Pipeline.ucRefs τ sig := Pipeline.arrRefs_sub_ucRefs spec2 (by decide)

/-! ### The three calls -/

abbrev prng (c : Dev nD) : sProp 𝕄 := iprop(∃ r, prngReg c r)
abbrev purse0 (c : Dev nD) : sProp 𝕄 := kept (inK (has2 m)) (inV (has2 m)) c

theorem enter0 (c : Dev nD) : iprop(Pipeline.scopedRest spec0 c ∗ emp) ⊢ (dat0 (has1 m) c).Φ 0 := by
  rw [show (dat0 (has1 m) c).Φ 0 = iprop(tables c 0 ∗ Pipeline.scopedRestBut spec0 c [cc0_scratch0, cc0_scratch1]) from rfl,
    Pipeline.scopedRest_split_of_list spec0 c [cc0_scratch0, cc0_scratch1] (by decide) (by decide)]
  unfold tables
  show iprop((((∃ f, _) ∗ ∃ f, _) ∗ _) ∗ emp) ⊢ _
  iintro ⟨⟨⟨⟨%C, HC⟩, ⟨%S, HS⟩⟩, HR⟩, -⟩
  isplitr [HR]
  · iexists C; iexists S
    isplitr; · ipureintro; exact fun h => absurd rfl h
    isplitl [HC]
    · iapply (Entails.of_eq (owns_whole c cc0_scratch0 C).symm); iexists C; isplitr; · ipureintro; rfl
      iexact HC
    · iapply (Entails.of_eq (owns_whole c cc0_scratch1 S).symm); iexists S; isplitr; · ipureintro; rfl
      iexact HS
  iexact HR

theorem leave0 (c : Dev nD) : (dat0 (has1 m) c).Φ (Fin.last cfg0.N) ⊢ iprop(Pipeline.scopedRest spec0 c ∗ emp) := by
  rw [show (dat0 (has1 m) c).Φ (Fin.last cfg0.N) = iprop(tables c cfg0.N ∗ Pipeline.scopedRestBut spec0 c [cc0_scratch0, cc0_scratch1]) from rfl,
    Pipeline.scopedRest_split_of_list spec0 c [cc0_scratch0, cc0_scratch1] (by decide) (by decide)]
  unfold tables
  show _ ⊢ iprop((((∃ f, _) ∗ ∃ f, _) ∗ _) ∗ emp)
  iintro ⟨⟨%C, %S, -, HC, HS⟩, HR⟩
  isplitl
  · isplitr [HR]
    · isplitl [HC]
      · ihave H := (Entails.of_eq (owns_whole c cc0_scratch0 C)) $$ HC
        icases H with ⟨%f, -, H⟩
        iexists f; iexact H
      · ihave H := (Entails.of_eq (owns_whole c cc0_scratch1 S)) $$ HS
        icases H with ⟨%f, -, H⟩
        iexists f; iexact H
    iexact HR
  iempintro

theorem enter1 (c : Dev nD) :
    iprop(Pipeline.scopedRest spec1 c ∗ prng c ∗ StableHlo.held (c.tc : Thread nD τ) ∅ (has2 m c) ∗ start (inK (has2 m)) (inV (has2 m)) c) ⊢ (dat1 (has2 m) c).Φ 0 := by
  rw [show (dat1 (has2 m) c).Φ 0 = iprop((start (inK (has2 m)) (inV (has2 m)) c ∗ spare c) ∗ aside c) from rfl, scopedRest1_split]
  unfold spare lent held aside
  simp only [Memref.view_whole, View.set_whole]
  iintro ⟨⟨HS, HR⟩, HP, -, HX⟩
  isplitr [HR HP]
  · isplitl [HX]; · iexact HX
    iexact HS
  isplitl [HR] <;> iassumption

theorem leave1 (c : Dev nD) : (dat1 (has2 m) c).Φ (Fin.last cfg1.N)
    ⊢ iprop(Pipeline.scopedRest spec1 c ∗ prng c ∗ StableHlo.held (c.tc : Thread nD τ) ∅ (has3 m c)
      ∗ Pipeline.ownSems0 osem c ∗ semVal (barCell c) 0) := by
  rw [show (dat1 (has2 m) c).Φ (Fin.last cfg1.N) = iprop((spare c ∗ shut c) ∗ aside c) from rfl, scopedRest1_split]
  unfold spare lent held aside
  simp only [Memref.view_whole, View.set_whole]
  iintro ⟨⟨HS, HZ⟩, HR, HP⟩
  ihave HZ := (counters_back (F := F) c) $$ HZ
  isplitl [HS HR]
  · isplitl [HS]; · iexact HS
    iexact HR
  isplitl [HP]; · iexact HP
  isplitr [HZ]
  · iapply (show (emp : sProp 𝕄) ⊢ StableHlo.held (c.tc : Thread nD τ) ∅ (has3 m c) from Entails.of_eq (by unfold StableHlo.held; exact bigSep_empty.symm))
    iempintro
  iexact HZ

theorem level0 (c : Dev nD) (g : GSem nD τ sig) (i : Unit) (h : 0 < owed0 c g i) : i ∈ L g ∧ 0 < lv g i := by
  rcases owed0_pos c g i h with ⟨j, rfl⟩ | rfl | rfl
  · exact ⟨by rw [L_tc]; exact Finset.mem_singleton_self _, by rw [lv_r]; split <;> decide⟩
  · exact ⟨by rw [L_tc]; exact Finset.mem_singleton_self _, by exact Nat.one_pos⟩
  · exact ⟨by rw [L_tc]; exact Finset.mem_singleton_self _, by exact Nat.one_pos⟩

/-- No wait of the pipelines stands above any cell. -/
theorem stage0 (c : Dev nD) (w : Fin 7) (s : Fin (cfg0.win w).nbuf) : lv ((c : Thread nD τ), .dma ((cfg0.win w).sem s)) () ≤ 0 := by
  fin_cases w <;> fin_cases s <;> exact le_rfl
theorem stage1 (c : Dev nD) (w : Fin 4) (s : Fin (cfg1.win w).nbuf) : lv ((c : Thread nD τ), .dma ((cfg1.win w).sem s)) () ≤ 0 := by
  fin_cases w <;> fin_cases s <;> exact le_rfl
theorem stage2 (c : Dev nD) (w : Fin 3) (s : Fin (cfg2.win w).nbuf) : lv ((c : Thread nD τ), .dma ((cfg2.win w).sem s)) () ≤ 0 := by
  fin_cases w <;> fin_cases s <;> exact le_rfl

set_option backward.isDefEq.respectTransparency.types false in
/-- The first call: what the exchange will owe and be paid rides along. -/
def call0 : Pipeline.RegionSeg (pcfgs (F := F)) adm (dats m) () defs₀ 𝒱₀ L lv 0 :=
  Pipeline.RegionSeg.ofHeld (pcfgs (F := F)) adm (dats m) () defs₀ 𝒱₀ L lv 0 (fun c => owed0 c) (fun _ => iprop(emp)) (fun _ => iprop(emp))
    launch0.toP rfl (fun c => (body_obligation0 (has1 m) c).loose) (fun _ _ => rfl) (fun _ => rfl)
    (fun c w => by unfold Dat.share; split <;> rfl) (enter0 m) (leave0 m) (fun _ => 0)
    ⟨fun c w s => by rw [L_tc]; exact Finset.mem_singleton_self _, stage0, level0⟩
    (fun c => iprop(StableHlo.held (c.tc : Thread nD τ) off0 (has1 m c) ∗ purse0 m c ∗ prng c))
    (has1 m) (has2 m) (fun _ _ => rfl) (left0 m)

set_option backward.isDefEq.respectTransparency.types false in
/-- The exchange. -/
def call1 : Pipeline.RegionSeg (pcfgs (F := F)) adm (dats m) () defs₀ 𝒱₀ L lv 1 :=
  Pipeline.RegionSeg.ofTalk (pcfgs (F := F)) adm (dats m) () defs₀ 𝒱₀ L lv 1 osem ownSemFacts
    ∅ off1 (Finset.empty_subset _) launch1.toP rfl (fun c => (body_obligation (has2 m) c).loose)
    (fun _ => 0) (fun c => owed0 c) (fun c => (zero_add (owed0 c)).symm) (fun _ => rfl) (fun _ => rfl)
    (fun c w => by unfold Dat.share; split <;> rfl)
    (has2 m) (has3 m) (fun c b hb => kept1 m c b (Finset.mem_sdiff.mp hb).1)
    (purse0 m) (fun c => semVal (barCell c) 0) (fun c => start (inK (has2 m)) (inV (has2 m)) c) (fun c => semVal (barCell c) 0)
    (opening (inK (has2 m)) (inV (has2 m))) (enter1 m) (leave1 m) (fun c => fupd_intro) (fun _ => 0)
    ⟨fun c w s => by rw [L_tc]; exact Finset.mem_singleton_self _, stage1, fun c t g i h => by
      obtain ⟨_ | n, ht⟩ := t
      · exact level0 c g i h
      · exact absurd h (Nat.lt_irrefl 0)⟩
    (fun _ => iprop(emp)) (fun _ _ => rfl) (left1 m)

set_option backward.isDefEq.respectTransparency.types false in
/-- The last call. -/
def call2 : Pipeline.RegionSeg (pcfgs (F := F)) adm (dats m) () defs₀ 𝒱₀ L lv 2 :=
  Pipeline.RegionSeg.ofHeld (pcfgs (F := F)) adm (dats m) () defs₀ 𝒱₀ L lv 2 (fun _ => 0) (fun _ => iprop(emp)) (fun _ => iprop(emp))
    launch2.toP rfl (fun c => (body_obligation2 (has3 m) c).loose) (fun _ _ => rfl) (fun _ => rfl)
    (fun c w => by unfold Dat.share; split <;> rfl)
    (fun c => by
      rw [show (dats m 2 c).Φ 0 = Pipeline.scopedRest spec2 c from rfl]
      iintro ⟨H, -⟩; iexact H)
    (fun c => by
      rw [show (dats m 2 c).Φ (Fin.last _) = Pipeline.scopedRest spec2 c from rfl]
      iintro H
      isplitl; · iexact H
      iempintro) (fun _ => 0)
    ⟨fun c w s => by rw [L_tc]; exact Finset.mem_singleton_self _, stage2, fun c g i h => absurd h (Nat.lt_irrefl 0)⟩
    (fun c => iprop(StableHlo.held (c.tc : Thread nD τ) off2 (has3 m c) ∗ semVal (barCell c) 0 ∗ prng c))
    (has3 m) (has4 m) (fun _ _ => rfl) (left2 m)

end Between

end Cert.KernelIdeal.Fused
-- ==== Proof.KernelIdeal.Frame.lean ====
/- The whole run: the program as its five segments, the launch, and what every device's arrays hold at the end. -/
module

public import proofs.«01_k».proof.Proof.KernelIdeal.Calls

@[expose] public section

set_option maxRecDepth 8192

noncomputable section

namespace Cert.KernelIdeal.Fused

open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Pipeline (Dat)

variable {F : FTy → Type} [FloatOps F] [Named F]

local notation "𝕄" => MT nD τ sig Unit (Elt F) ℕ UU ℕ

/-! ### The launch's tokens, parked on one device until all devices share them out -/

def parked (X : sProp 𝕄) (c : Dev nD) : sProp 𝕄 := if c = 0 then X else iprop(emp)

theorem parked_all (X : sProp 𝕄) : bigSep Finset.univ (parked X) = X := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

def pot : Dev nD → sProp 𝕄 := parked (BI.own (ER (launchOf barCells xferCells tokens)))

theorem minted_all : bigSep tokens (fun x => (dutyTok ER x.1 x.2.1 x.2.2 : sProp 𝕄)) ⊢ bigSep Finset.univ fun c : Dev nD => minted c :=
  Entails.of_eq (by
    unfold tokens
    rw [bigSep_map, bigSep_univ_prod]
    refine bigSep_congr fun c _ => ?_
    unfold minted
    rw [bigSep_univ_sum, show (Finset.univ : Finset Unit) = {()} from rfl, bigSep_singleton]
    rfl)

section Whole
variable (m : (ℓ : Loc nD τ sig) → Buf (Elt F) ℓ) (ρ : Dev nD → PrngReg)

/-- What rides along before the exchange, and after it. -/
def before (c : Dev nD) : sProp 𝕄 := iprop(purse0 m c ∗ prng c ∗ ∃ Wd, owes (c : Thread nD τ) (owed0 c) Wd)
def beyond (c : Dev nD) : sProp 𝕄 := iprop(semVal (barCell c) 0 ∗ prng c ∗ ∃ Wd, owes (c : Thread nD τ) (0 : CellTallies nD τ sig Unit) Wd)

abbrev whole (V : Valuation τ sig (Elt F)) (c : Dev nD) : sProp 𝕄 := StableHlo.held (c : Thread nD τ) (Pipeline.ucRefs τ sig) V

/-- The parts of a device's purse that come from the launch. -/
def parts (c : Dev nD) : sProp 𝕄 := iprop(atPos ER (barCell c) 0 ∅ 0 ∗ shutters c ∗ (payBar c ∗ payX c))
def cash (c : Dev nD) : sProp 𝕄 := iprop(creds c ∗ (prng c ∗ ∃ Wd, owes (c : Thread nD τ) (owed0 c) Wd))

theorem before_intro (K : Dev nD × Fin 17 → ℕ) (c : Dev nD) :
    iprop(records (inK (has2 m)) (inV (has2 m)) K ∗ (parts c ∗ cash c)) ⊢ before m c := by
  unfold before purse0 kept purse parts cash
  iintro ⟨#HR, ⟨HA, HS, HP, HX⟩, HC, HG, HO⟩
  isplitr [HG HO]
  · isplitr; · iexists K; iexact HR
    isplitr [HC]
    · isplitl [HA]; · iexact HA
      isplitl [HS]; · iexact HS
      isplitl [HP] <;> iassumption
    iexact HC
  isplitl [HG] <;> iassumption

theorem records_intro (κ : GSem nD τ sig → ℕ) :
    iprop((bigSep (barCells ∪ xferCells) fun g => cellInv ER (sched (inK (has2 m)) (inV (has2 m))) (κ g) g) ∗ bigSep barCells fun g => reached ER g 0)
      ⊢ records (inK (has2 m)) (inV (has2 m)) fun p => κ (kcell p) := by
  unfold records
  refine BI.sep_mono ((bigSep_subset cells_sub).trans ?_) ?_
  · unfold cells; rw [bigSep_map]; exact BI.Entails.refl _
  · rw [bigSep_map]; exact BI.Entails.refl _

theorem shared_out :
    iprop((bigSep Finset.univ fun c : Dev nD => iprop(unscopedSems0 c ∗ owes (c : Thread nD τ) (owed0 c) ∅ ∗ Pipeline.launchCred owed0 c ∗ prngReg c (ρ c) ∗ pot c)) ∗ levAts L lv)
      ⊢ (|={Set.univ}=> bigSep Finset.univ (before m) : sProp 𝕄) := by
  have hcore (c : Dev nD) : iprop(unscopedSems0 c ∗ owes (c : Thread nD τ) (owed0 c) ∅ ∗ Pipeline.launchCred owed0 c ∗ prngReg c (ρ c) ∗ pot c)
      ⊢ (iprop(cash c ∗ (semVal (barCell c) 0 ∗ pot c)) : sProp 𝕄) := by
    rw [unscopedSems0_eq]
    unfold cash
    iintro ⟨HB, HO, HC, HG, HP⟩
    ihave HC := (creds_intro (F := F) c) $$ HC
    isplitr [HB HP]
    · isplitl [HC]; · iexact HC
      isplitl [HG]; · iexists (ρ c); iexact HG
      iexists ∅; iexact HO
    isplitl [HB] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep xferCells (fun g => (openTok ER g : sProp 𝕄)) ⊢ bigSep Finset.univ (fun c : Dev nD => (shutters c : sProp 𝕄)) :=
    (Entails.of_eq (by rw [bigSep_map, bigSep_univ_prod]; rfl)).trans (bigSep_mono fun c _ => shutters_intro c)
  iintro ⟨H, -⟩
  ihave H' := (show (bigSep Finset.univ fun c : Dev nD => iprop(unscopedSems0 c ∗ owes (c : Thread nD τ) (owed0 c) ∅ ∗ Pipeline.launchCred owed0 c ∗ prngReg c (ρ c) ∗ pot c))
      ⊢ (iprop((bigSep Finset.univ fun c : Dev nD => cash c) ∗ (bigSep Finset.univ fun c : Dev nD => semVal (barCell c) 0) ∗ bigSep Finset.univ fun c : Dev nD => pot c) : sProp 𝕄) from by
    rw [← bigSep_sep', ← bigSep_sep']; exact bigSep_mono fun c _ => hcore c) $$ H
  icases H' with ⟨HC, Hv, HG⟩
  ihave Hu := (show bigSep Finset.univ (pot (F := F)) ⊢ BI.own (ER (launchOf barCells xferCells tokens)) from Entails.of_eq (parked_all _)) $$ HG
  imod (Rounds.fund_launch ER (sched (inK (has2 m)) (inV (has2 m))) cells_apart (fun g _ h => h) tokens) $$ [Hv Hu] with ⟨%κ, -, #Hinv, #Hr, Hat, Hopen, Htok⟩
  · isplitl [Hv]
    · iapply hv $$ Hv
    · iexact Hu
  imodintro
  iapply (with_records (R := records (inK (has2 m)) (inV (has2 m)) fun p => κ (kcell p)) (S := Finset.univ) (Φ := fun c : Dev nD => iprop(parts c ∗ cash c)) fun c _ => before_intro m _ c)
  isplitr
  · iapply (records_intro m κ)
    isplitr; · iexact Hinv
    iexact Hr
  iapply (zip (S := Finset.univ) (fun c : Dev nD => parts c) fun c : Dev nD => cash c)
  isplitr [HC]
  · unfold parts
    iapply (zip (S := Finset.univ) (fun c : Dev nD => atPos ER (barCell c) 0 ∅ 0) fun c : Dev nD => iprop(shutters c ∗ (payBar c ∗ payX c)))
    isplitl [Hat]; · iapply hat $$ Hat
    iapply (zip (S := Finset.univ) (fun c : Dev nD => shutters c) fun c : Dev nD => iprop(payBar c ∗ payX c))
    isplitl [Hopen]; · iapply hopen $$ Hopen
    iapply (tokens_dealt (F := F))
    iapply (minted_all (F := F)) $$ Htok
  · iexact HC

/-! ### The calls between whole states -/

theorem into0 (c : Dev nD) : iprop(whole (has1 m c) c ∗ before m c) ⊢ (call0 m).pre c := by
  show _ ⊢ iprop(StableHlo.held (c.tc : Thread nD τ) (Pipeline.arrRefs (τ := τ) spec0) (has1 m c) ∗ emp
    ∗ (StableHlo.held (c.tc : Thread nD τ) off0 (has1 m c) ∗ purse0 m c ∗ prng c) ∗ ∃ Wd, owes (c : Thread nD τ) (owed0 c) Wd)
  unfold whole before
  rw [StableHlo.held_sub_split (c.tc : Thread nD τ) sub0]
  iintro ⟨⟨HA, HB⟩, HP, HG, HO⟩
  isplitl [HA]; · iexact HA
  isplitr; · iempintro
  isplitr [HO]
  · isplitl [HB]; · iexact HB
    isplitl [HP] <;> iassumption
  iexact HO

theorem outof0 (c : Dev nD) : (call0 m).post c ⊢ iprop(whole (has2 m c) c ∗ before m c) := by
  show iprop(StableHlo.held (c.tc : Thread nD τ) (Pipeline.arrRefs (τ := τ) spec0) (has2 m c) ∗ emp
    ∗ (StableHlo.held (c.tc : Thread nD τ) off0 (has1 m c) ∗ purse0 m c ∗ prng c) ∗ ∃ Wd, owes (c : Thread nD τ) (owed0 c) Wd) ⊢ _
  unfold whole before
  rw [StableHlo.held_sub_split (c.tc : Thread nD τ) sub0, StableHlo.held_congr (c.tc : Thread nD τ) (kept0 m c)]
  iintro ⟨HA, -, ⟨HB, HP, HG⟩, HO⟩
  isplitl [HA HB]
  · isplitl [HA] <;> iassumption
  isplitl [HP]; · iexact HP
  isplitl [HG] <;> iassumption

theorem into1 (c : Dev nD) : iprop(whole (has2 m c) c ∗ before m c) ⊢ (call1 m).pre c := by
  show _ ⊢ iprop(StableHlo.held (c.tc : Thread nD τ) (Pipeline.arrRefs (τ := τ) spec1) (has2 m c) ∗ prng c
    ∗ (StableHlo.held (c.tc : Thread nD τ) off1 (has2 m c) ∗ emp) ∗ purse0 m c ∗ ∃ Wd, owes (c : Thread nD τ) (0 + owed0 c) Wd)
  unfold whole before
  rw [StableHlo.held_sub_split (c.tc : Thread nD τ) sub1, zero_add]
  iintro ⟨⟨HA, HB⟩, HP, HG, HO⟩
  isplitl [HA]; · iexact HA
  isplitl [HG]; · iexact HG
  isplitl [HB]
  · isplitl; · iexact HB
    iempintro
  isplitl [HP] <;> iassumption

theorem outof1 (c : Dev nD) : (call1 m).post c ⊢ iprop(whole (has3 m c) c ∗ beyond c) := by
  show iprop(StableHlo.held (c.tc : Thread nD τ) (Pipeline.arrRefs (τ := τ) spec1) (has3 m c) ∗ prng c
    ∗ (StableHlo.held (c.tc : Thread nD τ) off1 (has3 m c) ∗ emp) ∗ semVal (barCell c) 0 ∗ ∃ Wd, owes (c : Thread nD τ) (0 : CellTallies nD τ sig Unit) Wd) ⊢ _
  unfold whole beyond
  rw [StableHlo.held_sub_split (c.tc : Thread nD τ) sub1]
  iintro ⟨HA, HG, ⟨HB, -⟩, HZ, HO⟩
  isplitl [HA HB]
  · isplitl [HA] <;> iassumption
  isplitl [HZ]; · iexact HZ
  isplitl [HG] <;> iassumption

theorem into2 (c : Dev nD) : iprop(whole (has3 m c) c ∗ beyond c) ⊢ (call2 m).pre c := by
  show _ ⊢ iprop(StableHlo.held (c.tc : Thread nD τ) (Pipeline.arrRefs (τ := τ) spec2) (has3 m c) ∗ emp
    ∗ (StableHlo.held (c.tc : Thread nD τ) off2 (has3 m c) ∗ semVal (barCell c) 0 ∗ prng c) ∗ ∃ Wd, owes (c : Thread nD τ) (0 : CellTallies nD τ sig Unit) Wd)
  unfold whole beyond
  rw [StableHlo.held_sub_split (c.tc : Thread nD τ) sub2]
  iintro ⟨⟨HA, HB⟩, HP, HG, HO⟩
  isplitl [HA]; · iexact HA
  isplitr; · iempintro
  isplitr [HO]
  · isplitl [HB]; · iexact HB
    isplitl [HP] <;> iassumption
  iexact HO

theorem outof2 (c : Dev nD) : (call2 m).post c ⊢ iprop(whole (has4 m c) c ∗ beyond c) := by
  show iprop(StableHlo.held (c.tc : Thread nD τ) (Pipeline.arrRefs (τ := τ) spec2) (has4 m c) ∗ emp
    ∗ (StableHlo.held (c.tc : Thread nD τ) off2 (has3 m c) ∗ semVal (barCell c) 0 ∗ prng c) ∗ ∃ Wd, owes (c : Thread nD τ) (0 : CellTallies nD τ sig Unit) Wd) ⊢ _
  unfold whole beyond
  rw [StableHlo.held_sub_split (c.tc : Thread nD τ) sub2, StableHlo.held_congr (c.tc : Thread nD τ) (kept2 m c)]
  iintro ⟨HA, -, ⟨HB, HP, HG⟩, HO⟩
  isplitl [HA HB]
  · isplitl [HA] <;> iassumption
  isplitl [HP]; · iexact HP
  isplitl [HG] <;> iassumption

/-! ### The run -/

/-- The two reshapes around the calls. -/
def front : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (before m)
def back : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (has4 m) beyond

def fiveSegs : List (Pipeline.Seg (pcfgs (F := F)) adm (dats m) () defs₀ 𝒱₀ L lv) :=
  [.host (front m), .region (call0 m), .region (call1 m), .region (call2 m), .host (back m)]

theorem only_bar : ∀ sm : SemLoc sig, sm.isScoped .tc = false → sm = .reg barS := by decide

/-- A run's end: every unscoped array as the chain of calls says, and no counter standing. -/
def ends (r : MemSt nD τ sig (Elt F)) : Prop :=
  ∀ c : Dev nD, ∀ b ∈ Pipeline.ucRefs τ sig, r.mem (c, b) = has5 m c b

set_option backward.isDefEq.respectTransparency.types false in
set_option maxRecDepth 8000 in
/-- From any memory with zero counters, for any float values: every fair execution on the four devices ends, with every
    device's arrays as the chain of calls says and every counter at zero. -/
theorem run_main : θ_run defs (onTc (τ := τ) (main (F := F))) ⟨m, fun _ => 0, ρ⟩ (fun r => ends m r.2 ∧ r.2.sem = fun _ => 0) :=
  Pipeline.θ_run_regions_kit_sems (pcfgs (F := F)) adm (dats m) () cellOf_inj EP defs₀ 𝒱₀ L lv m ρ main (fiveSegs m)
    (fun c Q => by
      rewrite [main_chain c, Pipeline.Seg.run_eq_chain,
        show (fiveSegs m).map Pipeline.Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (by simp only [fiveSegs, Pipeline.Seg.pipes_host, Pipeline.Seg.pipes_region, Pipeline.Seg.pipes_nil]; decide)
    (O₀ := owed0) (hL := L_of_ne) (G := pot) (u₀ := u₀)
    (hu₀ := by
      unfold u₀ pot
      iintro Hu
      ihave H := (ownU_pair _ _) $$ Hu
      icases H with ⟨HP, HX⟩
      imodintro
      isplitl [HP]; · iexact HP
      rw [parked_all]; iexact HX)
    (T₀ := fun c => iprop(whole (V0 m c) c ∗ before m c))
    (Tₙ := fun c => iprop(whole (has5 m c) c ∗ (semVal (barCell c) 0 ∗ prng c)))
    (hch := by
      refine ⟨fun c => .rfl, fun c => into0 m c, fun c => (outof0 m c).trans (into1 m c), fun c => (outof1 m c).trans (into2 m c), fun c => outof2 m c, fun c => ?_⟩
      show iprop(whole (has5 m c) c ∗ beyond c) ⊢ _
      unfold beyond
      iintro ⟨HW, HZ, HG, HO⟩
      isplitr [HO]
      · isplitl [HW]; · iexact HW
        isplitl [HZ] <;> iassumption
      iexact HO)
    (hinit := by
      have hsplit : (bigSep Finset.univ fun c : Dev nD => iprop(unscopedBufs c (fun b => m ((c.tc : Thread nD τ).loc b)) ∗ unscopedSems0 c
            ∗ owes (c.tc : Thread nD τ) (owed0 c) ∅ ∗ Pipeline.launchCred owed0 c ∗ prngReg c (ρ c) ∗ pot c))
          ⊢ (iprop((bigSep Finset.univ fun c : Dev nD => whole (V0 m c) c)
              ∗ bigSep Finset.univ fun c : Dev nD => iprop(unscopedSems0 c ∗ owes (c : Thread nD τ) (owed0 c) ∅ ∗ Pipeline.launchCred owed0 c ∗ prngReg c (ρ c) ∗ pot c)) : sProp 𝕄) := by
        rw [← bigSep_sep']
        exact bigSep_mono fun c _ => by unfold whole; rw [← Pipeline.unscopedBufs_held (Ix := Unit) (Name := ℕ) (U := UU) (Lvl := ℕ) c (V0 m c)]; exact BI.Entails.refl _
      iintro ⟨H, HL⟩
      ihave H' := hsplit $$ H
      icases H' with ⟨Hh, Hr⟩
      imod (shared_out m ρ) $$ [Hr HL] with HE
      · isplitl [Hr] <;> iassumption
      imodintro
      rw [bigSep_sep']
      isplitl [Hh] <;> iassumption)
    (QY := fun c s => (∀ b ∈ Pipeline.ucRefs τ sig, s.mem (c, b) = has5 m c b) ∧ s.sem (barCell c) = 0)
    (hfin := fun c s' => by
      unfold whole StableHlo.held
      iintro ⟨⟨Hh, HZ, -⟩, HSI⟩
      icombine HSI HZ gives %hb
      ihave Hr := (pointsTo_read_all (Pipeline.ucRefs τ sig) (fun b => ((c : Thread nD τ).1, b)) (has5 m c) s') $$ [Hh HSI]
      · isplitl [Hh] <;> iassumption
      icases Hr with ⟨%h, HSI⟩
      imodintro
      isplitr
      · ipureintro
        exact ⟨h, by simpa using hb⟩
      · iexact HSI)
    (hQ := fun s h hs => ⟨fun c => (h c).1, sem_eq_zero hs fun c sm hsm => by
      obtain rfl := only_bar sm hsm
      exact (h c).2⟩)

end Whole

end Cert.KernelIdeal.Fused
-- ==== Proof.KernelIdeal.Outcome.lean ====
/- What the program leaves in memory: the arguments as they were, every counter at zero, and the result array the last
   call's, reshaped. -/
module

public import proofs.«01_k».proof.Proof.KernelIdeal.Frame

@[expose] public section

set_option maxRecDepth 8192

noncomputable section

namespace Cert.KernelIdeal.Fused

open Idealize.ShloMosaic Idealize.ShloMosaic.TcCoe Idealize.ShloMosaic.Tactic
open Idealize.SL.Sem
open Cert.KernelIdeal.Gen

variable {F : FTy → Type} [FloatOps F] [Named F]
variable (m : (ℓ : Loc nD τ sig) → Buf (Elt F) ℓ)

/-- An array that nothing writes keeps its contents to the end, -/
theorem has1_kept (c : Dev nD) (b : Ref sig .tc) (h : b ∉ hostOps0_W) : has1 m c (Proc.devRef .tc b) = m ((c : Thread nD τ).loc b) :=
  StableHlo.after_of_writes_sub hostOps0 _ hostOps0_writes h
theorem has5_kept (c : Dev nD) (b : Ref sig .tc) (h0 : b ∉ hostOps0_W) (h3 : b ∉ hostOps3_W)
    (n0 : Proc.devRef .tc b ≠ (Proc.devRef .tc main_v2_0 : DevRef τ sig)) (n1 : Proc.devRef .tc b ≠ (Proc.devRef .tc main_v2_1 : DevRef τ sig))
    (n2 : Proc.devRef .tc b ≠ (Proc.devRef .tc main_v2_2 : DevRef τ sig)) (n3 : Proc.devRef .tc b ≠ (Proc.devRef .tc main_v3 : DevRef τ sig))
    (n4 : Proc.devRef .tc b ≠ (Proc.devRef .tc main_v4 : DevRef τ sig)) : has5 m c (Proc.devRef .tc b) = m ((c : Thread nD τ).loc b) :=
  (StableHlo.after_of_writes_sub hostOps3 _ hostOps3_writes h3).trans
    ((has4_of m c _ n4).trans ((has3_of m c _ n3).trans ((has2_of m c _ n0 n1 n2).trans (has1_kept m c b h0))))

/-- The first host operation's result, -/
def xRows (c : Dev nD) : Vec F S2048x1024 .f32 := shapeCast S2048x1024 (m ((c : Thread nD τ).loc main_arg0)) shapeCasts_S1x2048x1024_S2048x1024
theorem has1_x (c : Dev nD) : has1 m c (Proc.devRef .tc main_v1) = xRows m c := by
  unfold has1 xRows; rfl
/-- and the last one's. -/
def yOut (c : Dev nD) : Vec F S1x2048x1024 .f32 := shapeCast S1x2048x1024 ((dat2 (has3 m) c).arrAt (2 : Fin 3) cfg2.N) shapeCasts_S2048x1024_S1x2048x1024
theorem has5_y (c : Dev nD) : has5 m c (Proc.devRef .tc main_v5) = yOut m c := by
  unfold has5 yOut; rw [← has4_y m c]; rfl

/-- Every run of the program ends with the arguments kept, the result at `yOut`, and no counter standing. -/
theorem run_out (ρ : Dev nD → PrngReg) :
    θ_run defs (onTc (τ := τ) (main (F := F))) ⟨m, fun _ => 0, ρ⟩ (fun r =>
      (∀ c : Dev nD, r.2.mem ((c : Thread nD τ).loc main_v5) = yOut m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0) :=
  (θ_run defs _ _).mono (fun _ h => ⟨fun c =>
    ⟨(h.1 c _ (Finset.mem_filter.mpr ⟨StableHlo.devRef_mem_tcRefs main_v5, by decide⟩)).trans (has5_y m c),
     (h.1 c _ (Finset.mem_filter.mpr ⟨StableHlo.devRef_mem_tcRefs main_arg0, by decide⟩)).trans (has5_kept m c main_arg0 (by decide) (by decide) (by decide) (by decide) (by decide) (by decide) (by decide)),
     (h.1 c _ (Finset.mem_filter.mpr ⟨StableHlo.devRef_mem_tcRefs main_arg1, by decide⟩)).trans (has5_kept m c main_arg1 (by decide) (by decide) (by decide) (by decide) (by decide) (by decide) (by decide)),
     (h.1 c _ (Finset.mem_filter.mpr ⟨StableHlo.devRef_mem_tcRefs main_arg2, by decide⟩)).trans (has5_kept m c main_arg2 (by decide) (by decide) (by decide) (by decide) (by decide) (by decide) (by decide)),
     (h.1 c _ (Finset.mem_filter.mpr ⟨StableHlo.devRef_mem_tcRefs main_arg3, by decide⟩)).trans (has5_kept m c main_arg3 (by decide) (by decide) (by decide) (by decide) (by decide) (by decide) (by decide)),
     (h.1 c _ (Finset.mem_filter.mpr ⟨StableHlo.devRef_mem_tcRefs main_arg4, by decide⟩)).trans (has5_kept m c main_arg4 (by decide) (by decide) (by decide) (by decide) (by decide) (by decide) (by decide))⟩, h.2⟩) (run_main m ρ)

end Cert.KernelIdeal.Fused
-- ==== Proof.Value.Softmax.lean ====
/- Weights and their sum over the extended reals: a softmax whose scores are finite does not depend on the number
   subtracted from them, and its quotient may be taken before or after the weighted sum, whatever the values are. -/
module

public import Idealize.ShloMosaic.PureOps.Ideal
public import Idealize.ShloMosaic.PureOps.Ideal.Laws

@[expose] public section

noncomputable section

namespace Cert.Softmax

open Idealize.ShloMosaic

/-- A finite sum of reals, as an extended real. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A nonnegative real factor goes into a sum of extended reals. -/
theorem mul_sum {ι : Type} (s : Finset ι) (x : ℝ) (hx : 0 ≤ x) (f : ι → EReal) : (x : EReal) * ∑ j ∈ s, f j = ∑ j ∈ s, (x : EReal) * f j := by
  classical
  induction s using Finset.induction_on with
  | empty => simp
  | insert a s ha ih =>
    rw [Finset.sum_insert ha, Finset.sum_insert ha, EReal.left_distrib_of_nonneg_of_ne_top (by exact_mod_cast hx) (EReal.coe_ne_top x), ih]

/-- A quotient by a positive real. -/
theorem div_pos (y : EReal) (x : ℝ) (hx : 0 < x) : Ideal.div y (x : EReal) = ((x⁻¹ : ℝ) : EReal) * y := by
  unfold Ideal.div
  rw [if_neg (by exact_mod_cast hx.ne'), ← EReal.coe_inv, mul_comm]

/-- The weighted sum over the sum of the weights is the sum of the normalised weights' products. -/
theorem quotient {n : ℕ} (hn : 0 < n) (s v : Fin n → EReal) (M : EReal) (hs : ∀ j, ∃ x : ℝ, s j = x) (hM : ∃ x : ℝ, M = x) :
    Ideal.div (∑ j, Ideal.exp (s j) * v j) (∑ j, Ideal.exp (s j))
      = ∑ j, Ideal.div (Ideal.exp (s j - M)) (∑ k, Ideal.exp (s k - M)) * v j := by
  choose σ hσ using hs
  obtain ⟨μ, rfl⟩ := hM
  have ne : (Finset.univ : Finset (Fin n)).Nonempty := ⟨⟨0, hn⟩, Finset.mem_univ _⟩
  have e1 : ∀ j, Ideal.exp (s j) = ((Real.exp (σ j) : ℝ) : EReal) := fun j => by rw [hσ]; rfl
  have e2 : ∀ j, Ideal.exp (s j - (μ : EReal)) = ((Real.exp (σ j - μ) : ℝ) : EReal) := fun j => by rw [hσ, ← EReal.coe_sub]; rfl
  simp only [e1, e2, ← coe_sum]
  have p1 : 0 < ∑ j, Real.exp (σ j) := Finset.sum_pos (fun j _ => Real.exp_pos _) ne
  have p2 : 0 < ∑ j, Real.exp (σ j - μ) := Finset.sum_pos (fun j _ => Real.exp_pos _) ne
  rw [div_pos _ _ p1, mul_sum _ _ (inv_pos.mpr p1).le]
  refine Finset.sum_congr rfl fun j _ => ?_
  rw [div_pos _ _ p2, ← mul_assoc, ← EReal.coe_mul, ← EReal.coe_mul]
  congr 2
  have e3 : ∑ k, Real.exp (σ k - μ) = (∑ k, Real.exp (σ k)) * Real.exp (-μ) := by
    rw [Finset.sum_mul]
    exact Finset.sum_congr rfl fun k _ => by rw [← Real.exp_add, sub_eq_add_neg]
  rw [e3, sub_eq_add_neg, Real.exp_add]
  have := (Real.exp_pos (-μ)).ne'
  field_simp

/-- A sum of products of finite numbers is finite. -/
theorem finite_dot {n : ℕ} (x y : Fin n → EReal) (hx : ∀ k, ∃ a : ℝ, x k = a) (hy : ∀ k, ∃ a : ℝ, y k = a) : ∃ a : ℝ, ∑ k, x k * y k = a := by
  choose f hf using hx
  choose g hg using hy
  exact ⟨∑ k, f k * g k, by simp only [hf, hg, coe_sum, EReal.coe_mul]⟩

/-- The greatest of finitely many finite numbers, counted from -∞, is finite. -/
theorem finite_max {n : ℕ} (hn : 0 < n) (s : Fin n → EReal) (hs : ∀ j, ∃ a : ℝ, s j = a) : ∃ a : ℝ, Finset.univ.fold max ⊥ s = a := by
  have ne : (Finset.univ : Finset (Fin n)).Nonempty := ⟨⟨0, hn⟩, Finset.mem_univ _⟩
  obtain ⟨j, _, hj⟩ := Finset.exists_mem_eq_sup Finset.univ ne s
  obtain ⟨a, ha⟩ := hs j
  exact ⟨a, by rw [← ha, ← hj]; rfl⟩

/-- An absolute value below +∞ is that of a finite number. -/
theorem finite_of_abs (x : EReal) (h : max x (-x) < ⊤) : ∃ a : ℝ, x = a := by
  induction x with
  | bot => simp at h
  | top => simp at h
  | coe a => exact ⟨a, rfl⟩

end Cert.Softmax

end
-- ==== Proof.Value.Turn.lean ====
/- The angle of a position and a column, and a head's row turned by it: what both programs compute, over the extended
   reals. -/
module

public import proofs.«01_k».proof.Proof.Value.Softmax
public import Idealize.ShloMosaic.PureOps.Ideal
public import Mathlib.Analysis.SpecialFunctions.Pow.Real

@[expose] public section

noncomputable section

namespace Cert.Turn

open Idealize.ShloMosaic

/-- The pair of columns `d` lies in turns by this much per position. -/
def freq (d : Fin 128) : ℝ := 1 / Real.rpow 10000 ((2 * (d.val / 2) : ℕ) / 128)
/-- The angle at position `i`. -/
def angle (i : ℕ) (d : Fin 128) : ℝ := (i : ℝ) * freq d

/-- The other column of the pair. -/
def mate (d : Fin 128) : Fin 128 := ⟨if d.val % 2 = 0 then d.val + 1 else d.val - 1, by split <;> omega⟩
/-- A row with each pair swapped, and the first of the two negated. -/
def flip (T : Fin 128 → EReal) (d : Fin 128) : EReal := if d.val % 2 = 0 then - T (mate d) else T (mate d)
/-- A row turned. -/
def turned (T : Fin 128 → EReal) (i : ℕ) (d : Fin 128) : EReal :=
  T d * Ideal.cos (angle i d : EReal) + flip T d * Ideal.sin (angle i d : EReal)

/-- The step between two pairs' logarithms is the power of ten thousand. -/
theorem freq_exp (d : Fin 128) : Real.exp (((d.val / 2 : ℕ) : ℝ) * ((-(Real.log 10000)) * 64⁻¹)) = freq d := by
  unfold freq
  rw [show Real.rpow 10000 ((2 * (d.val / 2) : ℕ) / 128) = (10000 : ℝ) ^ (((2 * (d.val / 2) : ℕ) : ℝ) / 128) from rfl,
    Real.rpow_def_of_pos (by norm_num), one_div, ← Real.exp_neg]
  congr 1
  push_cast
  ring

/-- Where the swapping matrix has its one and its minus one. -/
def plus (e d : Fin 128) : ℤ := if d.val = e.val + 1 ∧ e.val % 2 = 0 then 1 else 0
def minus (e d : Fin 128) : ℤ := if d.val + 1 = e.val ∧ e.val % 2 = 1 then 1 else 0

theorem plus_mate : ∀ d, plus (mate d) d = if d.val % 2 = 0 then 0 else 1 := by decide
theorem minus_mate : ∀ d, minus (mate d) d = if d.val % 2 = 0 then 1 else 0 := by decide

/-- A row times the swapping matrix is the row flipped. -/
theorem flip_sum (T : Fin 128 → EReal) (d : Fin 128) :
    ∑ e : Fin 128, T e * (((plus e d : ℝ) : EReal) - ((minus e d : ℝ) : EReal)) = flip T d := by
  rw [Finset.sum_eq_single (mate d)]
  · unfold flip
    rw [plus_mate, minus_mate]
    split <;> simp
  · intro e _ he
    have h1 : plus e d = 0 := by
      unfold plus; rw [if_neg]
      rintro ⟨a, b⟩
      refine he (Fin.ext ?_)
      unfold mate; show e.val = if d.val % 2 = 0 then d.val + 1 else d.val - 1
      rw [if_neg (by omega)]; omega
    have h2 : minus e d = 0 := by
      unfold minus; rw [if_neg]
      rintro ⟨a, b⟩
      refine he (Fin.ext ?_)
      unfold mate; show e.val = if d.val % 2 = 0 then d.val + 1 else d.val - 1
      rw [if_pos (by omega)]; omega
    rw [h1, h2]; simp
  · intro h; exact absurd (Finset.mem_univ _) h

/-- A finite row, turned, is finite. -/
theorem finite_turned (T : Fin 128 → EReal) (hT : ∀ d, ∃ a : ℝ, T d = a) (i : ℕ) (d : Fin 128) : ∃ a : ℝ, turned T i d = a := by
  choose f hf using hT
  unfold turned flip
  split
  · exact ⟨f d * Real.cos (angle i d) + -f (mate d) * Real.sin (angle i d), by
      simp only [hf, Ideal.cos_coe, Ideal.sin_coe]; push_cast; rfl⟩
  · exact ⟨f d * Real.cos (angle i d) + f (mate d) * Real.sin (angle i d), by
      simp only [hf, Ideal.cos_coe, Ideal.sin_coe]; push_cast; rfl⟩

end Cert.Turn
-- ==== Proof.Value.Heads.lean ====
/- The projections' block computations over the extended reals, read at one element. -/
module

public import proofs.«01_k».proof.Proof.KernelIdeal.Qkv
public import proofs.«01_k».proof.Proof.Value.Turn
public import Idealize.ShloMosaic.Lib.Pointwise
public import Idealize.ShloMosaic.PureOps.Ideal.Laws

@[expose] public section

set_option maxRecDepth 8192

noncomputable section

namespace Cert.KernelIdeal.Fused

open Idealize.ShloMosaic
open Cert.KernelIdeal.Gen
open Cert.Turn

/-! ### The two tables and the swapping matrix -/

theorem toInt_small (n : ℕ) (h : n < 2147483648) : (BitVec.ofNat 32 n).toInt = n := by
  rw [BitVec.toInt_eq_toNat_of_lt (by rw [BitVec.toNat_ofNat]; omega), BitVec.toNat_ofNat]; omega

/-- The printed step, as the extended real it stands for. -/
theorem step_eq : Named.named (F := Ideal) κ "rope_step" (φ := .f32) 0xBE135D8E#32 = (((-(Real.log 10000)) * 64⁻¹ : ℝ) : EReal) := rfl

theorem first_row : ∀ c : Dev nD, (Scalar.muli (Scalar.remsi (Scalar.divsi (Dev.word c) 1#32) 4#32) 2048#32).toInt = c.val * 2048 := by decide +kernel

theorem angle_at (c : Dev nD) (r : Fin 2048) (d : Fin 128) :
    k0_pay4 (F := Ideal) c (ix2 r d) = (angle (c.val * 2048 + r.val) d : EReal) := by
  pointwise [k0_pay4]
  have hr := r.isLt
  refine Eq.trans (b := ((((c.val * 2048 : ℤ) : ℝ) : EReal) + (((r.val : ℤ) : ℝ) : EReal)) * Ideal.exp (((((d.val / 2 : ℕ) : ℤ) : ℝ) : EReal) * (((-(Real.log 10000)) * 64⁻¹ : ℝ) : EReal))) ?_ ?_
  · refine congrArg₂ (· * ·) (congrArg₂ (· + ·) ?_ ?_) (congrArg Ideal.exp (congrArg₂ (· * ·) ?_ step_eq))
    · rw [first_row]
    · exact congrArg (fun z : ℤ => ((z : ℝ) : EReal)) (toInt_small r.val (by omega))
    · refine congrArg (fun z : ℤ => ((z : ℝ) : EReal)) ?_
      revert d; decide +kernel
  · rw [← EReal.coe_mul, Ideal.exp_coe, ← EReal.coe_add, ← EReal.coe_mul]
    refine congrArg (fun z : ℝ => (z : EReal)) ?_
    unfold angle
    rw [← freq_exp]
    push_cast
    rfl

theorem cos_at (c : Dev nD) (r : Fin 2048) (d : Fin 128) : cosT (F := Ideal) c (ix2 r d) = Ideal.cos (angle (c.val * 2048 + r.val) d : EReal) := by
  rw [← angle_at]; unfold cosT; pointwise [k0_pay6]
theorem sin_at (c : Dev nD) (r : Fin 2048) (d : Fin 128) : sinT (F := Ideal) c (ix2 r d) = Ideal.sin (angle (c.val * 2048 + r.val) d : EReal) := by
  rw [← angle_at]; unfold sinT; pointwise [k0_pay7, k0_pay5]

theorem swap_at (e d : Fin 128) : swapM (F := Ideal) (ix2 e d) = ((plus e d : ℝ) : EReal) - ((minus e d : ℝ) : EReal) := by
  unfold swapM
  pointwise [k0_pay12, k0_pay8, k0_pay9, k0_pay10, k0_pay11]
  refine congrArg₂ (· - ·) ?_ ?_
  · refine congrArg (fun z : ℤ => ((z : ℝ) : EReal)) ?_
    revert e d; unfold plus; decide +kernel
  · refine congrArg (fun z : ℤ => ((z : ℝ) : EReal)) ?_
    revert e d; unfold minus; decide +kernel

/-! ### The heads of a block -/

/-- A row of a product of a block's rows and columns. -/
def prod (X : Vec Ideal S2048x1024 .f32) (Y : Vec Ideal S1024x512 .f32) (r : Fin 2048) (n : Fin 512) : EReal := ∑ k : Fin 1024, X (ix2 r k) * Y (ix2 k n)

theorem prodQ_at (X : Vec Ideal S2048x1024 .f32) (Y : Vec Ideal S1024x512 .f32) (r : Fin 2048) (n : Fin 512) : k0_pay14 X Y (ix2 r n) = prod X Y r n := by
  unfold prod; pointwise [k0_pay14, k0_pay13]
theorem prodK_at (X : Vec Ideal S2048x1024 .f32) (Y : Vec Ideal S1024x512 .f32) (r : Fin 2048) (n : Fin 512) : k0_pay15 X Y (ix2 r n) = prod X Y r n := by
  unfold prod; pointwise [k0_pay15, k0_pay13]
theorem prodV_at (X : Vec Ideal S2048x1024 .f32) (Y : Vec Ideal S1024x512 .f32) (r : Fin 2048) (n : Fin 512) : k0_pay16 X Y (ix2 r n) = prod X Y r n := by
  unfold prod; pointwise [k0_pay16, k0_pay13]

/-- Column `d` of head `b` of a block. -/
def col (b : Fin 4) (d : Fin 128) : Fin 512 := ⟨128 * b.val + d.val, by omega⟩

/-- The turned row, as the body computes it. -/
def spun (C S : Vec Ideal S2048x128 .f32) (M : FVec Ideal S128x128 .bf16) (T : FVec Ideal S2048x512 .f32) (b : Fin 4) (r : Fin 2048) (d : Fin 128) : EReal :=
  T (ix2 r (col b d)) * C (ix2 r d) + (∑ e : Fin 128, T (ix2 r (col b e)) * M (ix2 e d)) * S (ix2 r d)

/-- The scale the queries carry. -/
abbrev scale : EReal := Ideal.ofBits .f32 0x3DB504F3#32

section Blocks
variable (C S : Vec Ideal S2048x128 .f32) (M : FVec Ideal S128x128 .bf16) (T : FVec Ideal S2048x512 .f32) (r : Fin 2048) (d : Fin 128)

theorem k_head0 : k0_pay19 C S M T (ix3 (0 : Fin 1) r d) = spun C S M T 0 r d := by
  unfold spun col; pointwise [k0_pay19]
theorem k_head1 : k0_pay23 (k0_pay22 C S M T) (ix3 (0 : Fin 1) r d) = spun C S M T 1 r d := by
  unfold spun col; pointwise [k0_pay23, k0_pay22]
theorem k_head2 : k0_pay26 C S M T (ix3 (0 : Fin 1) r d) = spun C S M T 2 r d := by
  unfold spun col; pointwise [k0_pay26]
theorem k_head3 : k0_pay2 C S M T (ix3 (0 : Fin 1) r d) = spun C S M T 3 r d := by
  unfold spun col; pointwise [k0_pay2]
theorem v_head0 : k0_pay20 (F := Ideal) T (ix3 (0 : Fin 1) r d) = T (ix2 r (col 0 d)) := by
  unfold col; pointwise [k0_pay20]
theorem v_head1 : k0_pay24 (F := Ideal) T (ix3 (0 : Fin 1) r d) = T (ix2 r (col 1 d)) := by
  unfold col; pointwise [k0_pay24]
theorem v_head2 : k0_pay27 (F := Ideal) T (ix3 (0 : Fin 1) r d) = T (ix2 r (col 2 d)) := by
  unfold col; pointwise [k0_pay27]
theorem v_head3 : k0_pay3 (F := Ideal) T (ix3 (0 : Fin 1) r d) = T (ix2 r (col 3 d)) := by
  unfold col; pointwise [k0_pay3]
theorem q_head1 : k0_pay21 C S M T (ix3 (0 : Fin 1) r d) = spun C S M T 1 r d * scale := by
  unfold spun col; pointwise [k0_pay21]
theorem q_head2 : k0_pay25 C S M T (ix3 (0 : Fin 1) r d) = spun C S M T 2 r d * scale := by
  unfold spun col; pointwise [k0_pay25]
theorem q_head3 : k0_pay1 (k0_pay28 C S M T) (ix3 (0 : Fin 1) r d) = spun C S M T 3 r d * scale := by
  unfold spun col; pointwise [k0_pay1, k0_pay28]
theorem q_head0 (X : Vec Ideal S2048x1024 .f32) (Y : Vec Ideal S1024x512 .f32) (p q : IVec S128x128 1) (v : BitVec 32) (w : IVec S128x128 32) (x : IVec S128x128 1) (y : BitVec 32) :
    k0_pay18 (k0_pay17 C S p q v w x y X Y) (ix3 (0 : Fin 1) r d) = spun C S (k0_pay12 (F := Ideal) p q v w x y) (k0_pay14 X Y) 0 r d * scale := by
  unfold spun col; pointwise [k0_pay18, k0_pay17]

end Blocks

/-- The body's turned row is the row turned by its position's angle. -/
theorem spun_eq (c : Dev nD) (T : FVec Ideal S2048x512 .f32) (b : Fin 4) (r : Fin 2048) (d : Fin 128) :
    spun (cosT c) (sinT c) swapM T b r d = turned (fun e => T (ix2 r (col b e))) (c.val * 2048 + r.val) d := by
  unfold spun turned
  rw [cos_at, sin_at, ← flip_sum]
  simp only [swap_at]

theorem qHeads_at (c : Dev nD) (X : Vec Ideal S2048x1024 .f32) (Y : Vec Ideal S1024x512 .f32) (b : Fin 4) (r : Fin 2048) (d : Fin 128) :
    qHeads X Y (cosT c) (sinT c) (ix3 b r d) = turned (fun e => prod X Y r (col b e)) (c.val * 2048 + r.val) d * scale := by
  have key : qHeads X Y (cosT c) (sinT c) (ix3 b r d) = spun (cosT c) (sinT c) swapM (k0_pay14 X Y) b r d * scale := by
    match b with
    | 0 => exact q_head0 (cosT c) (sinT c) r d X Y _ _ _ _ _ _
    | 1 => exact q_head1 (cosT c) (sinT c) swapM (k0_pay14 X Y) r d
    | 2 => exact q_head2 (cosT c) (sinT c) swapM (k0_pay14 X Y) r d
    | 3 => exact q_head3 (cosT c) (sinT c) swapM (k0_pay14 X Y) r d
  rw [key, spun_eq]
  simp only [prodQ_at]
theorem kHeads_at (c : Dev nD) (X : Vec Ideal S2048x1024 .f32) (Y : Vec Ideal S1024x512 .f32) (b : Fin 4) (r : Fin 2048) (d : Fin 128) :
    kHeads X Y (cosT c) (sinT c) (ix3 b r d) = turned (fun e => prod X Y r (col b e)) (c.val * 2048 + r.val) d := by
  have key : kHeads X Y (cosT c) (sinT c) (ix3 b r d) = spun (cosT c) (sinT c) swapM (k0_pay15 X Y) b r d := by
    match b with
    | 0 => exact k_head0 (cosT c) (sinT c) swapM (k0_pay15 X Y) r d
    | 1 => exact k_head1 (cosT c) (sinT c) swapM (k0_pay15 X Y) r d
    | 2 => exact k_head2 (cosT c) (sinT c) swapM (k0_pay15 X Y) r d
    | 3 => exact k_head3 (cosT c) (sinT c) swapM (k0_pay15 X Y) r d
  rw [key, spun_eq]
  simp only [prodK_at]
theorem vHeads_at (X : Vec Ideal S2048x1024 .f32) (Y : Vec Ideal S1024x512 .f32) (b : Fin 4) (r : Fin 2048) (d : Fin 128) :
    vHeads X Y (ix3 b r d) = prod X Y r (col b d) := by
  rw [← prodV_at]
  match b with
  | 0 => exact v_head0 (k0_pay16 X Y) r d
  | 1 => exact v_head1 (k0_pay16 X Y) r d
  | 2 => exact v_head2 (k0_pay16 X Y) r d
  | 3 => exact v_head3 (k0_pay16 X Y) r d

end Cert.KernelIdeal.Fused
-- ==== Proof.Value.Arrays.lean ====
/- What the arrays between the calls hold, element by element, over the extended reals. -/
module

public import proofs.«01_k».proof.Proof.KernelIdeal.Outcome
public import proofs.«01_k».proof.Proof.Value.Heads
public import Idealize.ShloMosaic.Lib.Pointwise
public import Idealize.ShloMosaic.Lib.Pipeline.ValueKit.Geometry
public import Idealize.ShloMosaic.PureOps.Ideal.Laws

@[expose] public section

set_option maxRecDepth 8192

noncomputable section

namespace Cert.KernelIdeal.Fused

open Idealize.ShloMosaic Idealize.ShloMosaic.TcCoe
open Cert.KernelIdeal Cert.KernelIdeal.Gen
open Idealize.ShloMosaic.Pipeline (Dat)
open Cert.Turn (turned)

variable (m : (ℓ : Loc nD τ sig) → Buf (Elt Ideal) ℓ)

/-! ### The first call's blocks -/

theorem ix0_0 : ∀ t : Fin cfg0.N, win0_0.index t = ![0, 0] := by decide +kernel
theorem ix0_1 : ∀ t : Fin cfg0.N, win0_1.index t = ![0, t.val] := by decide +kernel
theorem ix0_2 : ∀ t : Fin cfg0.N, win0_2.index t = ![0, t.val] := by decide +kernel
theorem ix0_3 : ∀ t : Fin cfg0.N, win0_3.index t = ![0, t.val] := by decide +kernel
theorem ix0_4 : ∀ t : Fin cfg0.N, win0_4.index t = ![t.val, 0, 0] := by decide +kernel
theorem ix0_5 : ∀ t : Fin cfg0.N, win0_5.index t = ![t.val, 0, 0] := by decide +kernel
theorem ix0_6 : ∀ t : Fin cfg0.N, win0_6.index t = ![t.val, 0, 0] := by decide +kernel
theorem ix2_0 : ∀ t : Fin cfg2.N, win2_0.index t = ![t.val, 0, 0] := by decide +kernel
theorem ix2_1 : ∀ t : Fin cfg2.N, win2_1.index t = ![t.val, 0] := by decide +kernel

/-- A device's input, and the weights. -/
abbrev argX (c : Dev nD) : Vec Ideal S1x2048x1024 .f32 := m ((c : Thread nD τ).loc main_arg0)
abbrev argQ (c : Dev nD) : Vec Ideal S1024x1024 .f32 := m ((c : Thread nD τ).loc main_arg1)
abbrev argK (c : Dev nD) : Vec Ideal S1024x1024 .f32 := m ((c : Thread nD τ).loc main_arg2)
abbrev argV (c : Dev nD) : Vec Ideal S1024x1024 .f32 := m ((c : Thread nD τ).loc main_arg3)
abbrev argO (c : Dev nD) : Vec Ideal S1024x1024 .f32 := m ((c : Thread nD τ).loc main_arg4)

theorem xRows_at (c : Dev nD) (r : Fin 2048) (k : Fin 1024) : xRows m c (ix2 r k) = argX m c (ix3 (0 : Fin 1) r k) := by
  unfold xRows
  refine shapeCast_apply (argX m c) shapeCasts_S1x2048x1024_S2048x1024 (ix2 r k) (ix3 (0 : Fin 1) r k) ?_
  rewrite [Shape.rowMajor_val_three, Shape.rowMajor_val_two]
  show (0 * 2048 + r.val) * 1024 + k.val = r.val * 1024 + k.val
  omega

theorem qX_at (c : Dev nD) (t : Fin cfg0.N) (r : Fin 2048) (k : Fin 1024) : qX (has1 m) c t (ix2 r k) = argX m c (ix3 (0 : Fin 1) r k) := by
  rw [← xRows_at, ← has1_x]
  unfold qX
  blk_simp []
  refine congrArg (has1 m c (Proc.devRef .tc main_v1)) ?_
  blk_ext [ix0_0]

/-- Column `n` of the four heads at point `t`. -/
def wideCol (t : Fin cfg0.N) (n : Fin 512) : Fin 1024 := ⟨512 * t.val + n.val, by have : t.val < 2 := t.isLt; omega⟩

theorem qY1_at (c : Dev nD) (t : Fin cfg0.N) (k : Fin 1024) (n : Fin 512) : qY1 (has1 m) c t (ix2 k n) = argQ m c (ix2 k (wideCol t n)) := by
  rw [argQ, ← has1_kept m c main_arg1 (by decide)]
  unfold qY1 wideCol
  blk_simp []
  refine congrArg (has1 m c (Proc.devRef .tc main_arg1)) ?_
  blk_ext [ix0_1]

theorem qY2_at (c : Dev nD) (t : Fin cfg0.N) (k : Fin 1024) (n : Fin 512) : qY2 (has1 m) c t (ix2 k n) = argK m c (ix2 k (wideCol t n)) := by
  rw [argK, ← has1_kept m c main_arg2 (by decide)]
  unfold qY2 wideCol
  blk_simp []
  refine congrArg (has1 m c (Proc.devRef .tc main_arg2)) ?_
  blk_ext [ix0_2]

theorem qY3_at (c : Dev nD) (t : Fin cfg0.N) (k : Fin 1024) (n : Fin 512) : qY3 (has1 m) c t (ix2 k n) = argV m c (ix2 k (wideCol t n)) := by
  rw [argV, ← has1_kept m c main_arg3 (by decide)]
  unfold qY3 wideCol
  blk_simp []
  refine congrArg (has1 m c (Proc.devRef .tc main_arg3)) ?_
  blk_ext [ix0_3]

/-! ### The projections' arrays -/

/-- Column `d` of head `h`, of all heads' columns side by side. -/
def wide (h : Fin 8) (d : Fin 128) : Fin 1024 := ⟨128 * h.val + d.val, by omega⟩
/-- A head's projection of a device's row. -/
def lin (c : Dev nD) (w : Vec Ideal S1024x1024 .f32) (h : Fin 8) (r : Fin 2048) (d : Fin 128) : EReal :=
  ∑ k : Fin 1024, argX m c (ix3 (0 : Fin 1) r k) * w (ix2 k (wide h d))
def rot (c : Dev nD) (w : Vec Ideal S1024x1024 .f32) (h : Fin 8) (r : Fin 2048) (d : Fin 128) : EReal :=
  turned (fun e => lin m c w h r e) (c.val * 2048 + r.val) d

/-- The grid point that writes head `h`, and the head's place in its block. -/
def ptOf (h : Fin 8) : Fin cfg0.N := ⟨h.val / 4, by show h.val / 4 < 2; omega⟩
def slotOf (h : Fin 8) : Fin 4 := ⟨h.val % 4, by omega⟩

theorem wideCol_col (h : Fin 8) (d : Fin 128) : wideCol (ptOf h) (col (slotOf h) d) = wide h d :=
  Fin.ext (by show 512 * (h.val / 4) + (128 * (h.val % 4) + d.val) = 128 * h.val + d.val; omega)

theorem prod1_at (c : Dev nD) (h : Fin 8) (r : Fin 2048) (d : Fin 128) :
    prod (qX (has1 m) c (ptOf h)) (qY1 (has1 m) c (ptOf h)) r (col (slotOf h) d) = lin m c (argQ m c) h r d :=
  Finset.sum_congr rfl fun k _ => by rw [qX_at, qY1_at, wideCol_col]
theorem prod2_at (c : Dev nD) (h : Fin 8) (r : Fin 2048) (d : Fin 128) :
    prod (qX (has1 m) c (ptOf h)) (qY2 (has1 m) c (ptOf h)) r (col (slotOf h) d) = lin m c (argK m c) h r d :=
  Finset.sum_congr rfl fun k _ => by rw [qX_at, qY2_at, wideCol_col]
theorem prod3_at (c : Dev nD) (h : Fin 8) (r : Fin 2048) (d : Fin 128) :
    prod (qX (has1 m) c (ptOf h)) (qY3 (has1 m) c (ptOf h)) r (col (slotOf h) d) = lin m c (argV m c) h r d :=
  Finset.sum_congr rfl fun k _ => by rw [qX_at, qY3_at, wideCol_col]

/-- A block written at point `t` is heads `4t` to `4t + 3` of the array. -/
def gather (w : Fin cfg0.N → Vec Ideal S4x2048x128 .bf16) : Vec Ideal S8x2048x128 .bf16 :=
  fun j => w (ptOf (j 0)) (ix3 (slotOf (j 0)) (j 1) (j 2))

theorem gather_emb (w : Fin cfg0.N → Vec Ideal S4x2048x128 .bf16) (t : Fin cfg0.N) (y : S4x2048x128.Idx) (j : S8x2048x128.Idx)
    (h0 : (j 0).val = 4 * t.val + (y 0).val) (h1 : (j 1).val = (y 1).val) (h2 : (j 2).val = (y 2).val) : gather w j = w t y := by
  have b : (y 0).val < 4 := (y 0).isLt
  have et : ptOf (j 0) = t := Fin.ext (by show (j 0).val / 4 = t.val; omega)
  have es : (ix3 (slotOf (j 0)) (j 1) (j 2) : S4x2048x128.Idx) = y := funext fun a => by
    match a with
    | ⟨0, _⟩ => exact Fin.ext (by show (j 0).val % 4 = (y 0).val; omega)
    | ⟨1, _⟩ => exact Fin.ext h1
    | ⟨2, _⟩ => exact Fin.ext h2
  unfold gather
  rw [et, es]

theorem arr_q (c : Dev nD) : (dat0 (has1 m) c).arrAt (4 : Fin 7) cfg0.N
    = gather fun t => qHeads (qX (has1 m) c t) (qY1 (has1 m) c t) (cosT c) (sinT c) :=
  (dat0 (has1 m) c).arrAt_eq_of_covers (4 : Fin 7) _ (by decide +kernel) fun t hf y => by
    blk_simp []
    refine (gather_emb _ t y _ ?_ ?_ ?_).symm
    · blk_simp [ix0_4]
      omega
    · blk_simp [ix0_4]
    · blk_simp [ix0_4]
theorem arr_k (c : Dev nD) : (dat0 (has1 m) c).arrAt (5 : Fin 7) cfg0.N
    = gather fun t => kHeads (qX (has1 m) c t) (qY2 (has1 m) c t) (cosT c) (sinT c) :=
  (dat0 (has1 m) c).arrAt_eq_of_covers (5 : Fin 7) _ (by decide +kernel) fun t hf y => by
    blk_simp []
    refine (gather_emb _ t y _ ?_ ?_ ?_).symm
    · blk_simp [ix0_5]
      omega
    · blk_simp [ix0_5]
    · blk_simp [ix0_5]
theorem arr_v (c : Dev nD) : (dat0 (has1 m) c).arrAt (6 : Fin 7) cfg0.N
    = gather fun t => vHeads (qX (has1 m) c t) (qY3 (has1 m) c t) :=
  (dat0 (has1 m) c).arrAt_eq_of_covers (6 : Fin 7) _ (by decide +kernel) fun t hf y => by
    blk_simp []
    refine (gather_emb _ t y _ ?_ ?_ ?_).symm
    · blk_simp [ix0_6]
      omega
    · blk_simp [ix0_6]
    · blk_simp [ix0_6]

theorem q_at (c : Dev nD) (h : Fin 8) (r : Fin 2048) (d : Fin 128) :
    (has2 m c (Proc.devRef .tc main_v2_0) : Vec Ideal S8x2048x128 .bf16) (ix3 h r d) = rot m c (argQ m c) h r d * scale := by
  rw [has2_q, arr_q]
  exact (qHeads_at c (qX (has1 m) c (ptOf h)) (qY1 (has1 m) c (ptOf h)) (slotOf h) r d).trans
    (congrArg (fun T : Fin 128 → EReal => turned T (c.val * 2048 + r.val) d * scale) (funext fun e => prod1_at m c h r e))
theorem k_at (c : Dev nD) (h : Fin 8) (r : Fin 2048) (d : Fin 128) :
    (has2 m c (Proc.devRef .tc main_v2_1) : Vec Ideal S8x2048x128 .bf16) (ix3 h r d) = rot m c (argK m c) h r d := by
  rw [has2_k, arr_k]
  exact (kHeads_at c (qX (has1 m) c (ptOf h)) (qY2 (has1 m) c (ptOf h)) (slotOf h) r d).trans
    (congrArg (fun T : Fin 128 → EReal => turned T (c.val * 2048 + r.val) d) (funext fun e => prod2_at m c h r e))
theorem v_at (c : Dev nD) (h : Fin 8) (r : Fin 2048) (d : Fin 128) :
    (has2 m c (Proc.devRef .tc main_v2_2) : Vec Ideal S8x2048x128 .bf16) (ix3 h r d) = lin m c (argV m c) h r d := by
  rw [has2_v, arr_v]
  exact (vHeads_at (qX (has1 m) c (ptOf h)) (qY3 (has1 m) c (ptOf h)) (slotOf h) r d).trans (prod3_at m c h r d)

/-! ### The last call's blocks -/

theorem pX_at (c : Dev nD) (t : Fin cfg2.N) (r : Fin 2048) (d : Fin 128) :
    pX (has3 m) c t (ix3 (0 : Fin 1) r d) = (has3 m c (Proc.devRef .tc main_v3) : Vec Ideal S8x2048x128 .f32) (ix3 (⟨t.val, t.isLt⟩ : Fin 8) r d) := by
  unfold pX
  blk_simp []
  refine congrArg (has3 m c (Proc.devRef .tc main_v3)) ?_
  blk_ext [ix2_0]

theorem pY_at (c : Dev nD) (t : Fin cfg2.N) (d : Fin 128) (n : Fin 1024) :
    pY (has3 m) c t (ix2 d n) = (has3 m c (Proc.devRef .tc main_arg4) : Vec Ideal S1024x1024 .f32) (ix2 (wide ⟨t.val, t.isLt⟩ d) n) := by
  unfold pY wide
  blk_simp []
  refine congrArg (has3 m c (Proc.devRef .tc main_arg4)) ?_
  blk_ext [ix2_1]

theorem has3_arg4 (c : Dev nD) : has3 m c (Proc.devRef .tc main_arg4) = argO m c :=
  (has3_of m c _ (by decide)).trans ((has2_of m c _ (by decide) (by decide) (by decide)).trans (has1_kept m c main_arg4 (by decide)))

theorem left_o (c : Dev nD) : (dat1 (has2 m) c).arrAt (3 : Fin 4) cfg1.N = outAt (has2 m) c := by
  refine (dat1 (has2 m) c).arrAt_eq_of_after_last (3 : Fin 4) t1_0 (by decide) _ fun j => ?_
  rfl
theorem inQ_eq (c : Dev nD) : inQ (has2 m) c = has2 m c (Proc.devRef .tc main_v2_0) :=
  Memref.read_access_unit_zero (Elt Ideal) main_v2_0 (funext fun a => by fin_cases a <;> decide) (fun a => by fin_cases a <;> decide) _
theorem inK_eq (c : Dev nD) : inK (has2 m) c = has2 m c (Proc.devRef .tc main_v2_1) :=
  Memref.read_access_unit_zero (Elt Ideal) main_v2_1 (funext fun a => by fin_cases a <;> decide) (fun a => by fin_cases a <;> decide) _
theorem inV_eq (c : Dev nD) : inV (has2 m) c = has2 m c (Proc.devRef .tc main_v2_2) :=
  Memref.read_access_unit_zero (Elt Ideal) main_v2_2 (funext fun a => by fin_cases a <;> decide) (fun a => by fin_cases a <;> decide) _

theorem left_y (c : Dev nD) : (dat2 (has3 m) c).arrAt (2 : Fin 3) cfg2.N = pAcc (has3 m) c 7 (by decide) := by
  refine (dat2 (has3 m) c).arrAt_eq_of_after_last (2 : Fin 3) (⟨7, by decide⟩ : Fin cfg2.N) (by decide) _ fun j => ?_
  rfl

/-- One head's share of the result, and all of them. -/
def share (c : Dev nD) (t : Fin 8) (r : Fin 2048) (n : Fin 1024) : EReal :=
  ∑ d : Fin 128, outAt (has2 m) c (ix3 t r d) * argO m c (ix2 (wide t d) n)

theorem pay_first (c : Dev nD) (t : Fin cfg2.N) (r : Fin 2048) (n : Fin 1024) :
    k2_pay1 (pX (has3 m) c t) (pY (has3 m) c t) (ix2 r n) = share m c ⟨t.val, t.isLt⟩ r n := by
  have e : k2_pay1 (pX (has3 m) c t) (pY (has3 m) c t) (ix2 r n) = ∑ d : Fin 128, pX (has3 m) c t (ix3 (0 : Fin 1) r d) * pY (has3 m) c t (ix2 d n) := by
    pointwise [k2_pay1]
  rw [e]
  refine Finset.sum_congr rfl fun d _ => ?_
  rw [pX_at, pY_at, has3_arg4, has3_o, left_o]

theorem pay_later (c : Dev nD) (t : Fin cfg2.N) (A : Vec Ideal S2048x1024 .f32) (r : Fin 2048) (n : Fin 1024) :
    k2_pay2 (pX (has3 m) c t) (pY (has3 m) c t) A (ix2 r n) = A (ix2 r n) + share m c ⟨t.val, t.isLt⟩ r n := by
  have e : k2_pay2 (pX (has3 m) c t) (pY (has3 m) c t) A (ix2 r n) = A (ix2 r n) + ∑ d : Fin 128, pX (has3 m) c t (ix3 (0 : Fin 1) r d) * pY (has3 m) c t (ix2 d n) := by
    pointwise [k2_pay2, k2_pay1]
  rw [e]
  refine congrArg₂ (· + ·) rfl (Finset.sum_congr rfl fun d _ => ?_)
  rw [pX_at, pY_at, has3_arg4, has3_o, left_o]

theorem acc_at (c : Dev nD) (r : Fin 2048) (n : Fin 1024) : pAcc (has3 m) c 7 (by decide) (ix2 r n) = ∑ t : Fin 8, share m c t r n := by
  rw [Fin.sum_univ_eight]
  unfold pAcc
  rw [pay_later]
  unfold pAcc
  rw [pay_later]
  unfold pAcc
  rw [pay_later]
  unfold pAcc
  rw [pay_later]
  unfold pAcc
  rw [pay_later]
  unfold pAcc
  rw [pay_later]
  unfold pAcc
  rw [pay_later]
  unfold pAcc
  rw [pay_first]
  rfl

theorem yOut_at (c : Dev nD) (r : Fin 2048) (n : Fin 1024) : yOut m c (ix3 (0 : Fin 1) r n) = ∑ t : Fin 8, share m c t r n := by
  unfold yOut
  rw [left_y, ← acc_at]
  refine shapeCast_apply _ shapeCasts_S2048x1024_S1x2048x1024 (ix3 (0 : Fin 1) r n) (ix2 r n) ?_
  rewrite [Shape.rowMajor_val_three, Shape.rowMajor_val_two]
  show r.val * 1024 + n.val = (0 * 2048 + r.val) * 1024 + n.val
  omega

end Cert.KernelIdeal.Fused
-- ==== Proof.Value.Reference.lean ====
/- The reference over the extended reals, read at one element. -/
module

public import proofs.«01_k».proof.Proof.Gen.ReferenceIdeal.Read
public import proofs.«01_k».proof.Proof.Value.Turn
public import Idealize.ShloMosaic.Lib.Pointwise

@[expose] public section

set_option maxRecDepth 8192

noncomputable section

namespace Cert.ReferenceIdeal.Plain

open Idealize.ShloMosaic
open Cert.ReferenceIdeal Cert.ReferenceIdeal.Gen Cert.ReferenceIdeal.Read
open Cert.Turn (freq angle mate turned)

/-- The input and a weight matrix over the extended reals. -/
abbrev In : Type := (⟨S1x8192x1024, .f32⟩ : BufTy).Contents (Elt Ideal)
abbrev Wt : Type := (⟨S1024x1024, .f32⟩ : BufTy).Contents (Elt Ideal)

/-- Column `d` of head `h`, of all heads' columns side by side. -/
def wide (h : Fin 8) (d : Fin 128) : Fin 1024 := ⟨128 * h.val + d.val, by omega⟩

/-- A head's projection of a row. -/
def lin (x : In) (w : Wt) (h : Fin 8) (i : Fin 8192) (d : Fin 128) : EReal := ∑ k : Fin 1024, x (ix3 (0 : Fin 1) i k) * w (ix2 k (wide h d))
/-- The same, turned by the row's position. -/
def rot (x : In) (w : Wt) (h : Fin 8) (i : Fin 8192) (d : Fin 128) : EReal := turned (fun e => lin x w h i e) i.val d

/-! ### The constants and the tables -/

theorem bits_128 : Ideal.ofBits .f32 0x43000000#32 = ((128 : ℝ) : EReal) := by
  simp [Ideal.ofBits, Ideal.ieee, -EReal.coe_mul]; norm_num
theorem bits_10000 : Ideal.ofBits .f32 0x461C4000#32 = ((10000 : ℝ) : EReal) := by
  simp [Ideal.ofBits, Ideal.ieee, -EReal.coe_mul]; norm_num
theorem bits_1 : Ideal.ofBits .f32 0x3F800000#32 = ((1 : ℝ) : EReal) := by
  simp [Ideal.ofBits, Ideal.ieee, -EReal.coe_mul]; norm_num

theorem toInt_small (n : ℕ) (h : n < 2147483648) : (BitVec.ofNat 32 n).toInt = n := by
  rw [BitVec.toInt_eq_toNat_of_lt (by rw [BitVec.toNat_ofNat]; omega), BitVec.toNat_ofNat]; omega

theorem even_word : ∀ n : Fin 64, (IntOp.addi (0#32) (IntOp.muli (2#32) (BitVec.ofNat 32 n.val))).toInt = ((2 * n.val : ℕ) : ℤ) := by decide +kernel

theorem freq_at (d : Fin 128) (n : Fin 64) (hn : n.val = d.val / 2) : val_main_v11 (F := Ideal) (ix1 n) = (freq d : EReal) := by
  have e1 : val_main_v7 (F := Ideal) (ix1 n) = (((2 * n.val : ℕ) / 128 : ℝ) : EReal) := by
    rw [val_main_v7_apply, val_main_v6_apply, val_main_cst_apply, val_main_v5_apply, val_main_v4_apply, val_main_v3_apply, val_main_c_0_apply, val_main_v2_apply,
      val_main_v1_apply, val_main_c_apply, val_main_v0_apply]
    show Ideal.div (((IntOp.addi (0#32) (IntOp.muli (2#32) (BitVec.ofNat 32 n.val))).toInt : ℝ) : EReal) (Ideal.ofBits .f32 0x43000000#32) = _
    rw [even_word, bits_128, Ideal.div_coe (by norm_num), ← EReal.coe_mul]
    congr 1
    push_cast; ring
  rw [val_main_v11_apply, val_main_v10_apply, val_main_cst_2_apply, val_main_v9_apply, val_main_v8_apply, val_main_cst_1_apply, e1]
  show Ideal.div (Ideal.ofBits .f32 0x3F800000#32) (Ideal.pow (Ideal.ofBits .f32 0x461C4000#32) _) = _
  have pos : (0 : ℝ) < Real.rpow 10000 (((2 * n.val : ℕ) : ℝ) / 128) := Real.rpow_pos_of_pos (by norm_num) _
  rw [bits_1, bits_10000, Ideal.pow_coe_coe, Ideal.div_coe pos.ne', ← EReal.coe_mul]
  unfold freq
  rw [hn, one_mul]

theorem angle_at (i : Fin 8192) (d : Fin 128) (n : Fin 64) (hn : n.val = d.val / 2) : val_main_v18 (F := Ideal) (ix2 i n) = (angle i.val d : EReal) := by
  have e14 : idx_main_v14 (idx_main_v17 (ix2 i n)) = ix1 n := funext fun a => by match a with | ⟨0, _⟩ => rfl
  rw [val_main_v18_apply, val_main_v17_apply, val_main_v14_apply, e14, freq_at d n hn, val_main_v16_apply, val_main_v15_apply, val_main_v13_apply, val_main_v12_apply]
  show (((BitVec.ofNat 32 i.val).toInt : ℝ) : EReal) * (freq d : EReal) = _
  rw [toInt_small i.val (by omega), ← EReal.coe_mul]
  rfl

theorem cos_at (i : Fin 8192) (h : Fin 8) (d : Fin 128) : val_main_v38 (F := Ideal) (ix4 (0 : Fin 1) i h d) = Ideal.cos (angle i.val d : EReal) := by
  have e : idx_main_v20 (idx_main_v21 (idx_main_v37 (idx_main_v38 (ix4 (0 : Fin 1) i h d)))) = ix2 i ⟨d.val / 2, by omega⟩ := funext fun a => by
    have := d.isLt
    match a with
    | ⟨0, _⟩ => exact Fin.ext (by show (i.val * 128 + d.val) / 128 = i.val; omega)
    | ⟨1, _⟩ => exact Fin.ext (by show (i.val * 128 + d.val) / 2 % 64 = d.val / 2; omega)
  rw [val_main_v38_apply, val_main_v37_apply, val_main_v21_apply, val_main_v20_apply, e, val_main_v19_apply, angle_at i d _ rfl]
  rfl
theorem sin_at (i : Fin 8192) (h : Fin 8) (d : Fin 128) : val_main_v41 (F := Ideal) (ix4 (0 : Fin 1) i h d) = Ideal.sin (angle i.val d : EReal) := by
  have e : idx_main_v23 (idx_main_v24 (idx_main_v40 (idx_main_v41 (ix4 (0 : Fin 1) i h d)))) = ix2 i ⟨d.val / 2, by omega⟩ := funext fun a => by
    have := d.isLt
    match a with
    | ⟨0, _⟩ => exact Fin.ext (by show (i.val * 128 + d.val) / 128 = i.val; omega)
    | ⟨1, _⟩ => exact Fin.ext (by show (i.val * 128 + d.val) / 2 % 64 = d.val / 2; omega)
  rw [val_main_v41_apply, val_main_v40_apply, val_main_v24_apply, val_main_v23_apply, e, val_main_v22_apply, angle_at i d _ rfl]
  rfl

/-! ### Projections and rotation -/

theorem lin_at (x : In) (w : Wt) (h : Fin 8) (i : Fin 8192) (d : Fin 128) : val_main_v26 (F := Ideal) x w (ix4 (0 : Fin 1) i h d) = lin x w h i d := by
  have hh := h.isLt; have hd := d.isLt; have hi := i.isLt
  rw [val_main_v26_apply, val_main_v25_apply]
  refine Finset.sum_congr rfl fun k _ => congrArg₂ (· * ·) (congrArg x ?_) (congrArg w ?_)
  · funext a
    match a with
    | ⟨0, _⟩ => rfl
    | ⟨1, _⟩ => exact Fin.ext (by show (((0 * 8192 + i.val) * 8 + h.val) * 128 + d.val) / 1024 % 8192 = i.val; omega)
    | ⟨2, _⟩ => rfl
  · funext a
    match a with
    | ⟨0, _⟩ => rfl
    | ⟨1, _⟩ => exact Fin.ext (by show (((0 * 8192 + i.val) * 8 + h.val) * 128 + d.val) % 1024 = 128 * h.val + d.val; omega)

/-- The pair `n` of a head's row, and which of the two. -/
theorem pairs_at (x : In) (w : Wt) (h : Fin 8) (i : Fin 8192) (n : Fin 64) (p : Fin 2) (d : Fin 128) (hd : d.val = 2 * n.val + p.val) :
    val_main_v27 (F := Ideal) x w (ix5 (0 : Fin 1) i h n p) = lin x w h i d := by
  have hh := h.isLt; have hi := i.isLt; have hn := n.isLt; have hp := p.isLt
  rw [val_main_v27_apply, ← lin_at]
  refine congrArg (val_main_v26 (F := Ideal) x w) (funext fun a => ?_)
  match a with
  | ⟨0, _⟩ => rfl
  | ⟨1, _⟩ => exact Fin.ext (by show ((((0 * 8192 + i.val) * 8 + h.val) * 64 + n.val) * 2 + p.val) / 1024 % 8192 = i.val; omega)
  | ⟨2, _⟩ => exact Fin.ext (by show ((((0 * 8192 + i.val) * 8 + h.val) * 64 + n.val) * 2 + p.val) / 128 % 8 = h.val; omega)
  | ⟨3, _⟩ => exact Fin.ext (by show ((((0 * 8192 + i.val) * 8 + h.val) * 64 + n.val) * 2 + p.val) % 128 = d.val; omega)

theorem odd_at (x : In) (w : Wt) (h : Fin 8) (i : Fin 8192) (n : Fin 64) (d : Fin 128) (hd : d.val = 2 * n.val + 1) :
    val_main_v29 (F := Ideal) x w (ix4 (0 : Fin 1) i h n) = lin x w h i d := by
  have hh := h.isLt; have hi := i.isLt; have hn := n.isLt
  have e : idx_main_v29 (ix4 (0 : Fin 1) i h n) = ix5 (0 : Fin 1) i h n (0 : Fin 1) := funext fun a => by
    match a with
    | ⟨0, _⟩ => rfl
    | ⟨1, _⟩ => exact Fin.ext (by show (((0 * 8192 + i.val) * 8 + h.val) * 64 + n.val) / 512 % 8192 = i.val; omega)
    | ⟨2, _⟩ => exact Fin.ext (by show (((0 * 8192 + i.val) * 8 + h.val) * 64 + n.val) / 64 % 8 = h.val; omega)
    | ⟨3, _⟩ => exact Fin.ext (by show (((0 * 8192 + i.val) * 8 + h.val) * 64 + n.val) / 1 % 64 = n.val; omega)
    | ⟨4, _⟩ => rfl
  have e2 : idx_main_v28 (ix5 (0 : Fin 1) i h n (0 : Fin 1)) = ix5 (0 : Fin 1) i h n (1 : Fin 2) := funext fun a => by
    match a with | ⟨0, _⟩ => rfl | ⟨1, _⟩ => rfl | ⟨2, _⟩ => rfl | ⟨3, _⟩ => rfl | ⟨4, _⟩ => rfl
  rw [val_main_v29_apply, e, val_main_v28_apply, e2, pairs_at x w h i n 1 d hd]

theorem even_at (x : In) (w : Wt) (h : Fin 8) (i : Fin 8192) (n : Fin 64) (d : Fin 128) (hd : d.val = 2 * n.val) :
    val_main_v32 (F := Ideal) x w (ix4 (0 : Fin 1) i h n) = lin x w h i d := by
  have hh := h.isLt; have hi := i.isLt; have hn := n.isLt
  have e : idx_main_v32 (ix4 (0 : Fin 1) i h n) = ix5 (0 : Fin 1) i h n (0 : Fin 1) := funext fun a => by
    match a with
    | ⟨0, _⟩ => rfl
    | ⟨1, _⟩ => exact Fin.ext (by show (((0 * 8192 + i.val) * 8 + h.val) * 64 + n.val) / 512 % 8192 = i.val; omega)
    | ⟨2, _⟩ => exact Fin.ext (by show (((0 * 8192 + i.val) * 8 + h.val) * 64 + n.val) / 64 % 8 = h.val; omega)
    | ⟨3, _⟩ => exact Fin.ext (by show (((0 * 8192 + i.val) * 8 + h.val) * 64 + n.val) / 1 % 64 = n.val; omega)
    | ⟨4, _⟩ => rfl
  have e2 : idx_main_v31 (ix5 (0 : Fin 1) i h n (0 : Fin 1)) = ix5 (0 : Fin 1) i h n (0 : Fin 2) := funext fun a => by
    match a with | ⟨0, _⟩ => rfl | ⟨1, _⟩ => rfl | ⟨2, _⟩ => rfl | ⟨3, _⟩ => rfl | ⟨4, _⟩ => rfl
  rw [val_main_v32_apply, e, val_main_v31_apply, e2, pairs_at x w h i n 0 d hd]

/-- The pair's two columns, laid side by side. -/
theorem pair_at (x : In) (w : Wt) (h : Fin 8) (i : Fin 8192) (n : Fin 64) (p : Fin 2) :
    val_main_v35 (F := Ideal) x w (ix5 (0 : Fin 1) i h n p)
      = if p.val = 0 then - val_main_v29 (F := Ideal) x w (ix4 (0 : Fin 1) i h n) else val_main_v32 (F := Ideal) x w (ix4 (0 : Fin 1) i h n) := by
  unfold val_main_v35
  pointwise []
  by_cases hp : p.val = 0
  · rw [if_pos hp, dif_pos (by omega), val_main_v33_apply]
    have e : ∀ q : Fin 1, idx_main_v33 (ix5 (0 : Fin 1) i h n q) = ix4 (0 : Fin 1) i h n := fun q => funext fun a => by
      match a with | ⟨0, _⟩ => rfl | ⟨1, _⟩ => rfl | ⟨2, _⟩ => rfl | ⟨3, _⟩ => rfl
    rw [e, val_main_v30_apply]
    rfl
  · rw [if_neg hp, dif_neg (by omega), val_main_v34_apply]
    have e : ∀ q : Fin 1, idx_main_v34 (ix5 (0 : Fin 1) i h n q) = ix4 (0 : Fin 1) i h n := fun q => funext fun a => by
      match a with | ⟨0, _⟩ => rfl | ⟨1, _⟩ => rfl | ⟨2, _⟩ => rfl | ⟨3, _⟩ => rfl
    rw [e]

theorem flip_at (x : In) (w : Wt) (h : Fin 8) (i : Fin 8192) (d : Fin 128) :
    val_main_v36 (F := Ideal) x w (ix4 (0 : Fin 1) i h d) = Cert.Turn.flip (fun e => lin x w h i e) d := by
  have hh := h.isLt; have hd := d.isLt; have hi := i.isLt
  have e : idx_main_v36 (ix4 (0 : Fin 1) i h d) = ix5 (0 : Fin 1) i h ⟨d.val / 2, by omega⟩ ⟨d.val % 2, by omega⟩ := funext fun a => by
    match a with
    | ⟨0, _⟩ => rfl
    | ⟨1, _⟩ => exact Fin.ext (by show (((0 * 8192 + i.val) * 8 + h.val) * 128 + d.val) / 1024 % 8192 = i.val; omega)
    | ⟨2, _⟩ => exact Fin.ext (by show (((0 * 8192 + i.val) * 8 + h.val) * 128 + d.val) / 128 % 8 = h.val; omega)
    | ⟨3, _⟩ => exact Fin.ext (by show (((0 * 8192 + i.val) * 8 + h.val) * 128 + d.val) / 2 % 64 = d.val / 2; omega)
    | ⟨4, _⟩ => exact Fin.ext (by show (((0 * 8192 + i.val) * 8 + h.val) * 128 + d.val) % 2 = d.val % 2; omega)
  rw [val_main_v36_apply, e, pair_at]
  unfold Cert.Turn.flip
  by_cases hp : d.val % 2 = 0
  · rw [if_pos hp, if_pos hp, odd_at x w h i _ (mate d) (by unfold mate; simp only [hp, if_true]; omega)]
  · rw [if_neg hp, if_neg hp, even_at x w h i _ (mate d) (by unfold mate; simp only [hp, if_false]; omega)]

/-- The queries (and, with the keys' matrix, the keys). -/
theorem rot_at (x : In) (w : Wt) (h : Fin 8) (i : Fin 8192) (d : Fin 128) : val_main_v43 (F := Ideal) x w (ix4 (0 : Fin 1) i h d) = rot x w h i d := by
  rw [val_main_v43_apply, val_main_v42_apply, val_main_v39_apply, lin_at, cos_at, sin_at, flip_at]
  rfl
theorem rot_at' (x : In) (w : Wt) (h : Fin 8) (i : Fin 8192) (d : Fin 128) : val_main_v62 (F := Ideal) x w (ix4 (0 : Fin 1) i h d) = rot x w h i d := rot_at x w h i d
theorem lin_at' (x : In) (w : Wt) (h : Fin 8) (i : Fin 8192) (d : Fin 128) : val_main_v64 (F := Ideal) x w (ix4 (0 : Fin 1) i h d) = lin x w h i d := lin_at x w h i d

/-! ### The attention -/

/-- The scores' factor. -/
def factor : EReal := Ideal.ofBits .f32 0x3DB504F3#32
/-- The score of row `i` against row `j` of head `h`. -/
def score (x : In) (wq wk : Wt) (h : Fin 8) (i j : Fin 8192) : EReal := (∑ k : Fin 128, rot x wq h i k * rot x wk h j k) * factor
/-- The greatest score of a row. -/
def top (x : In) (wq wk : Wt) (h : Fin 8) (i : Fin 8192) : EReal := Finset.univ.fold max ⊥ fun j => score x wq wk h i j

theorem scores_at (x : In) (wq wk : Wt) (h : Fin 8) (i j : Fin 8192) : val_main_v67 (F := Ideal) x wq wk (ix4 (0 : Fin 1) h i j) = score x wq wk h i j := by
  rw [val_main_v67_apply, val_main_v66_apply, val_main_cst_3_apply, val_main_v65_apply]
  refine congrArg₂ (· * ·) (Finset.sum_congr rfl fun k _ => ?_) rfl
  have el : lidx_main_v65 (ix4 (0 : Fin 1) h i j) k = ix4 (0 : Fin 1) i h k := funext fun a => by match a with | ⟨0, _⟩ => rfl | ⟨1, _⟩ => rfl | ⟨2, _⟩ => rfl | ⟨3, _⟩ => rfl
  have er : ridx_main_v65 (ix4 (0 : Fin 1) h i j) k = ix4 (0 : Fin 1) j h k := funext fun a => by match a with | ⟨0, _⟩ => rfl | ⟨1, _⟩ => rfl | ⟨2, _⟩ => rfl | ⟨3, _⟩ => rfl
  rw [el, er, rot_at, rot_at']

theorem top_at (x : In) (wq wk : Wt) (h : Fin 8) (i : Fin 8192) : val_main_v68 (F := Ideal) x wq wk (ix3 (0 : Fin 1) h i) = top x wq wk h i := by
  unfold val_main_v68
  pointwise [val_main_cst_4]
  simp only [scores_at]
  rfl

theorem weight_at (x : In) (wq wk : Wt) (h : Fin 8) (i j : Fin 8192) :
    val_main_v72 (F := Ideal) x wq wk (ix4 (0 : Fin 1) h i j) = Ideal.exp (score x wq wk h i j - top x wq wk h i) := by
  have e : idx_main_v69 (idx_main_v70 (ix4 (0 : Fin 1) h i j)) = ix3 (0 : Fin 1) h i := funext fun a => by match a with | ⟨0, _⟩ => rfl | ⟨1, _⟩ => rfl | ⟨2, _⟩ => rfl
  rw [val_main_v72_apply, val_main_v71_apply, val_main_v70_apply, val_main_v69_apply, e, top_at, scores_at]
  rfl

theorem total_at (x : In) (wq wk : Wt) (h : Fin 8) (i j : Fin 8192) :
    val_main_v75 (F := Ideal) x wq wk (ix4 (0 : Fin 1) h i j) = ∑ k, Ideal.exp (score x wq wk h i k - top x wq wk h i) := by
  have e : idx_main_v74 (idx_main_v75 (ix4 (0 : Fin 1) h i j)) = ix3 (0 : Fin 1) h i := funext fun a => by match a with | ⟨0, _⟩ => rfl | ⟨1, _⟩ => rfl | ⟨2, _⟩ => rfl
  have z : val_main_cst_5 (F := Ideal) (Shape.Idx.first h_S_) = (0 : EReal) := Ideal.ofBits_zero_f32
  rw [val_main_v75_apply, val_main_v74_apply, e, val_main_v73_apply, z, zero_add]
  refine Finset.sum_congr rfl fun k _ => ?_
  have ek : idx_main_v73 (ix3 (0 : Fin 1) h i) k = ix4 (0 : Fin 1) h i k := funext fun a => by match a with | ⟨0, _⟩ => rfl | ⟨1, _⟩ => rfl | ⟨2, _⟩ => rfl | ⟨3, _⟩ => rfl
  rw [ek, weight_at]

/-- A head's attention result: the value rows weighted by the scores' exponentials, over the weights' sum. -/
def ctx (x : In) (wq wk wv : Wt) (h : Fin 8) (i : Fin 8192) (d : Fin 128) : EReal :=
  Ideal.div (∑ j, Ideal.exp (score x wq wk h i j) * lin x wv h j d) (∑ j, Ideal.exp (score x wq wk h i j))

theorem score_finite (x : In) (wq wk : Wt) (hq : ∀ h i d, ∃ a : ℝ, lin x wq h i d = a) (hk : ∀ h i d, ∃ a : ℝ, lin x wk h i d = a)
    (h : Fin 8) (i j : Fin 8192) : ∃ a : ℝ, score x wq wk h i j = a := by
  obtain ⟨a, ha⟩ := Cert.Softmax.finite_dot (fun k => rot x wq h i k) (fun k => rot x wk h j k)
    (fun k => Cert.Turn.finite_turned _ (fun e => hq h i e) i.val k) (fun k => Cert.Turn.finite_turned _ (fun e => hk h j e) j.val k)
  obtain ⟨f, hf⟩ : ∃ f : ℝ, factor = f := ⟨_, by simp only [factor, Ideal.ofBits, Ideal.ieee]; rfl⟩
  exact ⟨a * f, by unfold score; rw [ha, hf, EReal.coe_mul]⟩

theorem ctx_at (x : In) (wq wk wv : Wt) (hq : ∀ h i d, ∃ a : ℝ, lin x wq h i d = a) (hk : ∀ h i d, ∃ a : ℝ, lin x wk h i d = a)
    (h : Fin 8) (i : Fin 8192) (d : Fin 128) : val_main_v77 (F := Ideal) x wq wk wv (ix4 (0 : Fin 1) h d i) = ctx x wq wk wv h i d := by
  have fs := score_finite x wq wk hq hk h i
  have q := Cert.Softmax.quotient (by decide) (fun j => score x wq wk h i j) (fun j => lin x wv h j d) (top x wq wk h i) fs (Cert.Softmax.finite_max (by decide) _ fs)
  unfold ctx
  rw [q, val_main_v77_apply]
  refine Finset.sum_congr rfl fun j _ => ?_
  have el : lidx_main_v77 (ix4 (0 : Fin 1) h d i) j = ix4 (0 : Fin 1) j h d := funext fun a => by match a with | ⟨0, _⟩ => rfl | ⟨1, _⟩ => rfl | ⟨2, _⟩ => rfl | ⟨3, _⟩ => rfl
  have er : ridx_main_v77 (ix4 (0 : Fin 1) h d i) j = ix4 (0 : Fin 1) h i j := funext fun a => by match a with | ⟨0, _⟩ => rfl | ⟨1, _⟩ => rfl | ⟨2, _⟩ => rfl | ⟨3, _⟩ => rfl
  rw [el, er, val_main_v76_apply, weight_at, total_at, lin_at']
  exact mul_comm _ _

/-- A column of all the heads' is a head and a column of it. -/
def headOf (k : Fin 1024) : Fin 8 := ⟨k.val / 128, by omega⟩
def colOf (k : Fin 1024) : Fin 128 := ⟨k.val % 128, by omega⟩

/-- The result at one element. -/
theorem result_at (x : In) (wq wk wv wo : Wt) (hq : ∀ h i d, ∃ a : ℝ, lin x wq h i d = a) (hk : ∀ h i d, ∃ a : ℝ, lin x wk h i d = a)
    (i : Fin 8192) (n : Fin 1024) : val_main_v80 (F := Ideal) x wq wk wv wo (ix3 (0 : Fin 1) i n)
      = ∑ k : Fin 1024, ctx x wq wk wv (headOf k) i (colOf k) * wo (ix2 k n) := by
  rw [val_main_v80_apply]
  refine Finset.sum_congr rfl fun k _ => ?_
  have hi := i.isLt; have hk' := k.isLt
  have el : lidx_main_v80 (ix3 (0 : Fin 1) i n) k = ix3 (0 : Fin 1) i k := funext fun a => by match a with | ⟨0, _⟩ => rfl | ⟨1, _⟩ => rfl | ⟨2, _⟩ => rfl
  have er : ridx_main_v80 (ix3 (0 : Fin 1) i n) k = ix2 k n := funext fun a => by match a with | ⟨0, _⟩ => rfl | ⟨1, _⟩ => rfl
  have e9 : idx_main_v79 (ix3 (0 : Fin 1) i k) = ix4 (0 : Fin 1) i (headOf k) (colOf k) := funext fun a => by
    match a with
    | ⟨0, _⟩ => rfl
    | ⟨1, _⟩ => exact Fin.ext (by show ((0 * 8192 + i.val) * 1024 + k.val) / 1024 % 8192 = i.val; omega)
    | ⟨2, _⟩ => exact Fin.ext (by show ((0 * 8192 + i.val) * 1024 + k.val) / 128 % 8 = k.val / 128; omega)
    | ⟨3, _⟩ => exact Fin.ext (by show ((0 * 8192 + i.val) * 1024 + k.val) % 128 = k.val % 128; omega)
  have e8 : idx_main_v78 (ix4 (0 : Fin 1) i (headOf k) (colOf k)) = ix4 (0 : Fin 1) (headOf k) (colOf k) i := funext fun a => by
    match a with | ⟨0, _⟩ => rfl | ⟨1, _⟩ => rfl | ⟨2, _⟩ => rfl | ⟨3, _⟩ => rfl
  rw [el, er, val_main_v79_apply, e9, val_main_v78_apply, e8, ctx_at x wq wk wv hq hk]

end Cert.ReferenceIdeal.Plain
-- ==== Proof.Value.Join.lean ====
/- The program's result, device by device, is the reference's: each device holds a quarter of the rows, and the four
   quarters it meets are all the rows. -/
module

public import proofs.«01_k».proof.Proof.Value.Reads
public import proofs.«01_k».proof.Proof.Value.Arrays
public import proofs.«01_k».proof.Proof.Value.Reference

@[expose] public section

set_option maxRecDepth 8192

noncomputable section

namespace Cert.Join

open Idealize.ShloMosaic Idealize.ShloMosaic.TcCoe
open Cert.KernelIdeal.Fused (at3 Arr prv nxt opp part mass has2 argX argQ argK argV argO inQ inK inV scale)
open Cert.ReferenceIdeal.Plain (In Wt factor headOf colOf)

/-- Row `r` of device `c`'s quarter, as a row of the whole. -/
def far (c : Fin 4) (r : Fin 2048) : Fin 8192 := ⟨c.val * 2048 + r.val, by omega⟩

/-- Each device meets each quarter once. -/
theorem met (c : Fin 4) (g : Fin 4 → EReal) : g 0 + g 1 + g 2 + g 3 = g c + g (prv c) + g (nxt c) + g (opp c) := by
  match c with
  | 0 => show g 0 + g 1 + g 2 + g 3 = g 0 + g 3 + g 1 + g 2; ac_rfl
  | 1 => show g 0 + g 1 + g 2 + g 3 = g 1 + g 0 + g 2 + g 3; ac_rfl
  | 2 => show g 0 + g 1 + g 2 + g 3 = g 2 + g 1 + g 3 + g 0; ac_rfl
  | 3 => show g 0 + g 1 + g 2 + g 3 = g 3 + g 2 + g 0 + g 1; ac_rfl

/-- A sum over all rows is the sum over the quarters in the order device `c` meets them. -/
theorem sum_quarters (c : Fin 4) (f : Fin 8192 → EReal) :
    ∑ j, f j = ∑ j, f (far c j) + ∑ j, f (far (prv c) j) + ∑ j, f (far (nxt c) j) + ∑ j, f (far (opp c) j) := by
  have e : ∀ x : Fin 4 × Fin 2048, (finProdFinEquiv x : Fin 8192) = far x.1 x.2 := fun x => Fin.ext (by
    show x.2.val + 2048 * x.1.val = x.1.val * 2048 + x.2.val; omega)
  have s : ∑ j, f j = ∑ a : Fin 4, ∑ j : Fin 2048, f (far a j) := by
    rw [← Fintype.sum_prod_type' (f := fun (a : Fin 4) (j : Fin 2048) => f (far a j)), ← Equiv.sum_comp (finProdFinEquiv (m := 4) (n := 2048)) f]
    exact Finset.sum_congr rfl fun x _ => by rw [e]
  rw [s, Fin.sum_univ_four]
  exact met c fun a => ∑ j : Fin 2048, f (far a j)

/-- A sum over all columns is the sum over the heads of the sums over a head's columns. -/
theorem sum_heads (f : Fin 8 → Fin 128 → EReal) : ∑ k : Fin 1024, f (headOf k) (colOf k) = ∑ h : Fin 8, ∑ d : Fin 128, f h d := by
  rw [← Fintype.sum_prod_type' (f := f), ← Equiv.sum_comp (finProdFinEquiv (m := 8) (n := 128))]
  refine Finset.sum_congr rfl fun p _ => ?_
  have eh : headOf (finProdFinEquiv p) = p.1 := Fin.ext (by show (p.2.val + 128 * p.1.val) / 128 = p.1.val; omega)
  have ec : colOf (finProdFinEquiv p) = p.2 := Fin.ext (by show (p.2.val + 128 * p.1.val) % 128 = p.2.val; omega)
  rw [eh, ec]

/-- What the two programs start from: the devices' rows are quarters of the whole, the weights the same. -/
structure Same (m : (ℓ : Loc Cert.KernelIdeal.nD Cert.KernelIdeal.τ Cert.KernelIdeal.sig) → Buf (Elt Ideal) ℓ) (x : In) (wq wk wv wo : Wt) : Prop where
  x : ∀ (c : Fin 4) (r : Fin 2048) (k : Fin 1024), argX m c (ix3 (0 : Fin 1) r k) = x (ix3 (0 : Fin 1) (far c r) k)
  q : ∀ c : Fin 4, argQ m c = wq
  k : ∀ c : Fin 4, argK m c = wk
  v : ∀ c : Fin 4, argV m c = wv
  o : ∀ c : Fin 4, argO m c = wo

section Same
variable {m : (ℓ : Loc Cert.KernelIdeal.nD Cert.KernelIdeal.τ Cert.KernelIdeal.sig) → Buf (Elt Ideal) ℓ} {x : In} {wq wk wv wo : Wt}

theorem lin_far (s : Same m x wq wk wv wo) (w : Wt) (c : Fin 4) (h : Fin 8) (r : Fin 2048) (d : Fin 128) :
    Cert.KernelIdeal.Fused.lin m c w h r d = Cert.ReferenceIdeal.Plain.lin x w h (far c r) d := by
  unfold Cert.KernelIdeal.Fused.lin Cert.ReferenceIdeal.Plain.lin
  exact Finset.sum_congr rfl fun k _ => by rw [s.x]; rfl

theorem rot_far (s : Same m x wq wk wv wo) (w : Wt) (c : Fin 4) (h : Fin 8) (r : Fin 2048) (d : Fin 128) :
    Cert.KernelIdeal.Fused.rot m c w h r d = Cert.ReferenceIdeal.Plain.rot x w h (far c r) d := by
  unfold Cert.KernelIdeal.Fused.rot Cert.ReferenceIdeal.Plain.rot
  exact congrArg (fun T : Fin 128 → EReal => Cert.Turn.turned T (c.val * 2048 + r.val) d) (funext fun e => lin_far s w c h r e)

theorem q_far (s : Same m x wq wk wv wo) (c : Fin 4) (h : Fin 8) (r : Fin 2048) (d : Fin 128) :
    inQ (has2 m) c (at3 h r d) = Cert.ReferenceIdeal.Plain.rot x wq h (far c r) d * factor := by
  rw [Cert.KernelIdeal.Fused.inQ_eq]
  refine (Cert.KernelIdeal.Fused.q_at m c h r d).trans ?_
  rw [s.q, rot_far s]
  rfl
theorem k_far (s : Same m x wq wk wv wo) (c : Fin 4) (h : Fin 8) (r : Fin 2048) (d : Fin 128) :
    inK (has2 m) c (at3 h r d) = Cert.ReferenceIdeal.Plain.rot x wk h (far c r) d := by
  rw [Cert.KernelIdeal.Fused.inK_eq]
  refine (Cert.KernelIdeal.Fused.k_at m c h r d).trans ?_
  rw [s.k, rot_far s]
theorem v_far (s : Same m x wq wk wv wo) (c : Fin 4) (h : Fin 8) (r : Fin 2048) (d : Fin 128) :
    inV (has2 m) c (at3 h r d) = Cert.ReferenceIdeal.Plain.lin x wv h (far c r) d := by
  rw [Cert.KernelIdeal.Fused.inV_eq]
  refine (Cert.KernelIdeal.Fused.v_at m c h r d).trans ?_
  rw [s.v, lin_far s]

variable (hq : ∀ h i d, ∃ a : ℝ, Cert.ReferenceIdeal.Plain.lin x wq h i d = a) (hk : ∀ h i d, ∃ a : ℝ, Cert.ReferenceIdeal.Plain.lin x wk h i d = a)
include hq hk

/-- The factor taken out of a score's sum: the queries and keys are finite. -/
theorem score_far (s : Same m x wq wk wv wo) (a b : Fin 4) (h : Fin 8) (r j : Fin 2048) :
    Cert.KernelIdeal.Fused.score (inQ (has2 m) a) (inK (has2 m) b) h r j = Cert.ReferenceIdeal.Plain.score x wq wk h (far a r) (far b j) := by
  unfold Cert.KernelIdeal.Fused.score Cert.ReferenceIdeal.Plain.score
  choose f hf using fun k : Fin 128 => Cert.Turn.finite_turned _ (fun e => hq h (far a r) e) (far a r).val k
  choose g hg using fun k : Fin 128 => Cert.Turn.finite_turned _ (fun e => hk h (far b j) e) (far b j).val k
  obtain ⟨t, ht⟩ : ∃ t : ℝ, factor = t := ⟨_, by simp only [factor, Ideal.ofBits, Ideal.ieee]; rfl⟩
  have ef : ∀ k, Cert.ReferenceIdeal.Plain.rot x wq h (far a r) k = f k := hf
  have eg : ∀ k, Cert.ReferenceIdeal.Plain.rot x wk h (far b j) k = g k := hg
  simp only [q_far s, k_far s, ef, eg, ht, ← EReal.coe_mul, ← Cert.Softmax.coe_sum]
  rw [Finset.sum_mul]
  refine congrArg _ (Finset.sum_congr rfl fun k _ => ?_)
  ring

theorem part_far (s : Same m x wq wk wv wo) (a b : Fin 4) (h : Fin 8) (r : Fin 2048) (d : Fin 128) :
    part (inQ (has2 m) a) (inK (has2 m) b) (inV (has2 m) b) h r d
      = ∑ j : Fin 2048, (fun i => Ideal.exp (Cert.ReferenceIdeal.Plain.score x wq wk h (far a r) i) * Cert.ReferenceIdeal.Plain.lin x wv h i d) (far b j) := by
  unfold part
  exact Finset.sum_congr rfl fun j _ => by rw [score_far hq hk s, v_far s]

theorem mass_far (s : Same m x wq wk wv wo) (a b : Fin 4) (h : Fin 8) (r : Fin 2048) :
    mass (inQ (has2 m) a) (inK (has2 m) b) h r = ∑ j : Fin 2048, (fun i => Ideal.exp (Cert.ReferenceIdeal.Plain.score x wq wk h (far a r) i)) (far b j) := by
  unfold mass
  exact Finset.sum_congr rfl fun j _ => by rw [score_far hq hk s]

/-- Device `c`'s attention result is the reference's, of its rows. -/
theorem ctx_far (s : Same m x wq wk wv wo) (c : Fin 4) (h : Fin 8) (r : Fin 2048) (d : Fin 128) :
    Cert.KernelIdeal.Fused.outAt (has2 m) c (at3 h r d) = Cert.ReferenceIdeal.Plain.ctx x wq wk wv h (far c r) d := by
  unfold Cert.KernelIdeal.Fused.outAt Cert.ReferenceIdeal.Plain.ctx
  rw [Cert.KernelIdeal.Fused.result_at]
  refine congrArg₂ Ideal.div ?_ ?_
  · refine Eq.trans ?_ (sum_quarters c _).symm
    exact congrArg₂ (· + ·) (congrArg₂ (· + ·) (congrArg₂ (· + ·) (part_far hq hk s c c h r d) (part_far hq hk s c (prv c) h r d))
      (part_far hq hk s c (nxt c) h r d)) (part_far hq hk s c (opp c) h r d)
  · refine Eq.trans ?_ (sum_quarters c _).symm
    exact congrArg₂ (· + ·) (congrArg₂ (· + ·) (congrArg₂ (· + ·) (mass_far hq hk s c c h r) (mass_far hq hk s c (prv c) h r))
      (mass_far hq hk s c (nxt c) h r)) (mass_far hq hk s c (opp c) h r)

/-- Device `c`'s result is the reference's, of its rows. -/
theorem result_far (s : Same m x wq wk wv wo) (c : Fin 4) (r : Fin 2048) (n : Fin 1024) :
    Cert.KernelIdeal.Fused.yOut m c (ix3 (0 : Fin 1) r n) = Cert.ReferenceIdeal.Read.val_main_v80 (F := Ideal) x wq wk wv wo (ix3 (0 : Fin 1) (far c r) n) := by
  rw [Cert.KernelIdeal.Fused.yOut_at, Cert.ReferenceIdeal.Plain.result_at x wq wk wv wo hq hk]
  have e : ∀ k : Fin 1024, k = Cert.KernelIdeal.Fused.wide (headOf k) (colOf k) := fun k => Fin.ext (by
    show k.val = 128 * (k.val / 128) + k.val % 128; omega)
  refine Eq.trans ?_ ((Finset.sum_congr rfl fun k _ => congrArg (fun k' : Fin 1024 => Cert.ReferenceIdeal.Plain.ctx x wq wk wv (headOf k) (far c r) (colOf k) * wo (ix2 k' n)) (e k)).trans
    (sum_heads fun h d => Cert.ReferenceIdeal.Plain.ctx x wq wk wv h (far c r) d * wo (ix2 (Cert.KernelIdeal.Fused.wide h d) n))).symm
  refine Finset.sum_congr rfl fun h _ => ?_
  unfold Cert.KernelIdeal.Fused.share
  rw [s.o]
  exact Finset.sum_congr rfl fun d _ => congrArg (· * wo (ix2 (Cert.KernelIdeal.Fused.wide h d) n)) (ctx_far hq hk s c h r d)

end Same

/-- The same as one array equation. -/
theorem result_block {m : (ℓ : Loc Cert.KernelIdeal.nD Cert.KernelIdeal.τ Cert.KernelIdeal.sig) → Buf (Elt Ideal) ℓ} {x : In} {wq wk wv wo : Wt}
    (hq : ∀ h i d, ∃ a : ℝ, Cert.ReferenceIdeal.Plain.lin x wq h i d = a) (hk : ∀ h i d, ∃ a : ℝ, Cert.ReferenceIdeal.Plain.lin x wk h i d = a)
    (s : Same m x wq wk wv wo) (c : Fin 4) :
    Cert.KernelIdeal.Fused.yOut m c = Layout.block ⟨3, ![1, 2048, 1024]⟩ ⟨3, ![1, 8192, 1024]⟩ 1 4 c (Cert.ReferenceIdeal.Read.val_main_v80 (F := Ideal) x wq wk wv wo) := by
  suffices key : ∀ (r : Fin 2048) (n : Fin 1024), Cert.KernelIdeal.Fused.yOut m c (ix3 (0 : Fin 1) r n)
      = (Layout.block ⟨3, ![1, 2048, 1024]⟩ ⟨3, ![1, 8192, 1024]⟩ 1 4 c (Cert.ReferenceIdeal.Read.val_main_v80 (F := Ideal) x wq wk wv wo)) (ix3 (0 : Fin 1) r n) from
    funext fun i => by
      have e : i = (ix3 (0 : Fin 1) (i 1) (i 2) : Cert.KernelIdeal.S1x2048x1024.Idx) := funext fun a => by
        match a with
        | ⟨0, _⟩ => exact Fin.ext (by have : (i 0).val < 1 := (i 0).isLt; show (i 0).val = 0; omega)
        | ⟨1, _⟩ => rfl
        | ⟨2, _⟩ => rfl
      rw [e]; exact key _ _
  intro r n
  rw [result_far hq hk s, Layout.block_apply]
  congr 1
  funext a; match a with | ⟨0, _⟩ => rfl | ⟨1, _⟩ => rfl | ⟨2, _⟩ => rfl

end Cert.Join
-- ==== Proof.Value.Finite.lean ====
/- The precondition read: every input and every weight of the queries and the keys is a finite number. -/
module

public import proofs.«01_k».proof.Pre_finite_KernelIdeal
public import proofs.«01_k».proof.Pre_finite_ReferenceIdeal
public import proofs.«01_k».proof.Proof.Value.Softmax
public import Idealize.ShloMosaic.Lib.ReduceAll
public import Idealize.ShloMosaic.Lib.Pointwise

@[expose] public section

noncomputable section

namespace Cert.Pre_finite_KernelIdeal

open Idealize.ShloMosaic

theorem facts : Facts where
  bcast_S_S1x2048x1024 := by decide
  reducesTo_S1x2048x1024_S_d0_1_2 := by decide
  h_S_ := by decide
  bcast_S_S1024x1024 := by decide
  reducesTo_S1024x1024_S_d0_1 := by decide

/-- The bound the precondition compares with is +∞. -/
theorem bound : Ideal.ofBits .f32 0x7F800000#32 = ⊤ := by simp [Ideal.ofBits, Ideal.ieee]

instance : Subsingleton S_.Idx := ⟨fun _ _ => funext fun a => a.elim0⟩

theorem one_of_and {a b : BitVec 1} (h : a &&& b = 1#1) : a = 1#1 ∧ b = 1#1 := by
  revert a b; decide

theorem finite_of_cmp (x : EReal) (h : Ideal.cmp .olt (max x (-x)) ⊤ = 1#1) : ∃ a : ℝ, x = a := by
  refine Cert.Softmax.finite_of_abs x ?_
  by_contra hn
  simp [Ideal.cmp, hn] at h

theorem finite_of_pre [Facts] (x : FVec Ideal S1x2048x1024 .f32) (wq wk wv wo : FVec Ideal S1024x1024 .f32) (h : fn (F := Ideal) x wq wk wv wo = fun _ => 1#1) :
    (∀ i, ∃ a : ℝ, x i = (a : EReal)) ∧ (∀ i, ∃ a : ℝ, wq i = (a : EReal)) ∧ ∀ i, ∃ a : ℝ, wk i = (a : EReal) := by
  have h0 := congrFun h (fun a => a.elim0)
  obtain ⟨h12, h3⟩ := one_of_and h0
  obtain ⟨h1, h2⟩ := one_of_and h12
  refine ⟨fun i => finite_of_cmp _ ?_, fun i => finite_of_cmp _ ?_, fun i => finite_of_cmp _ ?_⟩
  · have := Host.reduce_andi_all _ _ _ _ _ h1 i
    rw [← bound]; exact this
  · have := Host.reduce_andi_all _ _ _ _ _ h2 i
    rw [← bound]; exact this
  · have := Host.reduce_andi_all _ _ _ _ _ h3 i
    rw [← bound]; exact this

end Cert.Pre_finite_KernelIdeal

namespace Cert.Pre_finite_ReferenceIdeal

open Idealize.ShloMosaic

theorem facts : Facts where
  bcast_S_S1x8192x1024 := by decide
  reducesTo_S1x8192x1024_S_d0_1_2 := by decide
  h_S_ := by decide
  bcast_S_S1024x1024 := by decide
  reducesTo_S1024x1024_S_d0_1 := by decide

end Cert.Pre_finite_ReferenceIdeal
-- ==== Proof.Value.Claim.lean ====
/- The value claim: the program and the reference, run from the same arrays, end with the same result. -/
module

public import proofs.«01_k».proof.Defs
public import proofs.«01_k».proof.Proof.Value.Join
public import proofs.«01_k».proof.Proof.Value.Finite

@[expose] public section

set_option maxRecDepth 8192

noncomputable section

namespace Cert.Join

open Idealize.ShloMosaic Idealize.ShloMosaic.TcCoe Idealize.SL.Sem
open Cert.ReferenceIdeal.Plain (In Wt)

/-- A row of the whole lies in one device's quarter. -/
theorem near (i : Fin 8192) : ∃ (c : Fin 4) (r : Fin 2048), i = far c r :=
  ⟨⟨i.val / 2048, by omega⟩, ⟨i.val % 2048, by omega⟩, Fin.ext (by show i.val = i.val / 2048 * 2048 + i.val % 2048; omega)⟩

/-- Projections of finite arrays are finite. -/
theorem lin_finite (x : In) (w : Wt) (hx : ∀ i k, ∃ a : ℝ, x (ix3 (0 : Fin 1) i k) = (a : EReal)) (hw : ∀ i, ∃ a : ℝ, w i = (a : EReal))
    (h : Fin 8) (i : Fin 8192) (d : Fin 128) : ∃ a : ℝ, Cert.ReferenceIdeal.Plain.lin x w h i d = a :=
  Cert.Softmax.finite_dot _ _ (fun k => hx i k) (fun _ => hw _)

/-- An array of the reference's one device. -/
abbrev whole (m' : (ℓ : Loc Cert.ReferenceIdeal.nD Cert.ReferenceIdeal.τ Cert.ReferenceIdeal.sig) → Buf (Elt Ideal) ℓ) (b : Ref Cert.ReferenceIdeal.sig .tc) : b.ty.Contents (Elt Ideal) :=
  m' (((0 : Dev Cert.ReferenceIdeal.nD).tc : Thread Cert.ReferenceIdeal.nD Cert.ReferenceIdeal.τ).loc b)

theorem algebraic [hP : Cert.Pre_finite_KernelIdeal.Facts] :
    Cert.algebraic_KernelIdeal_ReferenceIdeal_pre_finite_KernelIdeal (hKernelIdeal := Cert.KernelIdeal.Gen.facts) (hReferenceIdeal := Cert.ReferenceIdeal.Gen.facts) := by
  intro m g m' g' pre same
  have s : Same m (whole m' Cert.ReferenceIdeal.main_arg0) (whole m' Cert.ReferenceIdeal.main_arg1) (whole m' Cert.ReferenceIdeal.main_arg2)
      (whole m' Cert.ReferenceIdeal.main_arg3) (whole m' Cert.ReferenceIdeal.main_arg4) :=
    { x := fun c r k => by
        refine (congrFun (same c).1 _).trans ?_
        rw [Layout.block_apply]
        congr 1
        funext a; match a with | ⟨0, _⟩ => rfl | ⟨1, _⟩ => rfl | ⟨2, _⟩ => rfl
      q := fun c => (same c).2.1
      k := fun c => (same c).2.2.1
      v := fun c => (same c).2.2.2.1
      o := fun c => (same c).2.2.2.2 }
  have hx : ∀ i k, ∃ a : ℝ, whole m' Cert.ReferenceIdeal.main_arg0 (ix3 (0 : Fin 1) i k) = (a : EReal) := fun i k => by
    obtain ⟨c, r, rfl⟩ := near i
    rw [← s.x c r k]
    exact (Cert.Pre_finite_KernelIdeal.finite_of_pre _ _ _ _ _ (pre c)).1 _
  have hwq : ∀ i, ∃ a : ℝ, whole m' Cert.ReferenceIdeal.main_arg1 i = (a : EReal) := fun i => by
    rw [← s.q 0]
    exact (Cert.Pre_finite_KernelIdeal.finite_of_pre _ _ _ _ _ (pre 0)).2.1 _
  have hwk : ∀ i, ∃ a : ℝ, whole m' Cert.ReferenceIdeal.main_arg2 i = (a : EReal) := fun i => by
    rw [← s.k 0]
    exact (Cert.Pre_finite_KernelIdeal.finite_of_pre _ _ _ _ _ (pre 0)).2.2 _
  refine ⟨Cert.ReferenceIdeal.Read.val_main_v80 (F := Ideal) (whole m' Cert.ReferenceIdeal.main_arg0) (whole m' Cert.ReferenceIdeal.main_arg1)
    (whole m' Cert.ReferenceIdeal.main_arg2) (whole m' Cert.ReferenceIdeal.main_arg3) (whole m' Cert.ReferenceIdeal.main_arg4), ?_, ?_⟩
  · refine (θ_run _ _ _).mono (fun r h c => ?_) (Cert.KernelIdeal.Fused.run_out (F := Ideal) m g)
    obtain ⟨ho, hk⟩ := h.1 c
    exact ⟨ho.trans (result_block (lin_finite _ _ hx hwq) (lin_finite _ _ hx hwk) s c), hk⟩
  · refine (θ_run _ _ _).mono (fun r h => ?_) (Cert.ReferenceIdeal.Value.run (F := Ideal) m' g')
    obtain ⟨ho, hk⟩ := h 0
    exact ⟨ho.trans (Cert.ReferenceIdeal.Read.val_main_v80_eq _ _), hk⟩

end Cert.Join
-- ==== Proof.lean ====
/- The whole program, as printed and idealized, proved against the reference: every run of each ends with its arguments
   kept and no counter standing, the one named constant is within its rounding, and the idealized program's result on
   each device is its block of the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Outcome
public import proofs.«01_k».proof.Proof.Value.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The program as printed, over words. -/
theorem frame_kernel : Cert.quiescent_Kernel (hKernel := Cert.Kernel.Gen.facts) := by
  intro m g _
  exact (θ_run _ _ _).mono (fun _ h => ⟨fun c => (h.1 c).2, h.2⟩) (Cert.Kernel.Fused.run_out (F := Bits) m g)

/-- The program over the extended reals. -/
theorem frame_ideal : Cert.quiescent_KernelIdeal (hKernelIdeal := Cert.KernelIdeal.Gen.facts) := by
  intro m g _
  exact (θ_run _ _ _).mono (fun _ h => ⟨fun c => (h.1 c).2, h.2⟩) (Cert.KernelIdeal.Fused.run_out (F := Ideal) m g)

/-- The reference, which has no semaphore. -/
theorem frame_reference : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run (F := Ideal) m g)

/-- The one constant named, the tables' step, is within its rounding. -/
theorem preserves : Cert.preserves_Kernel_KernelIdeal :=
  IdealRules.named_const.statement Cert.KernelIdeal.κ "rope_step" .f32 0xBE135D8E#32 (((-(Real.log 10000)) * 64⁻¹ : ℝ) : EReal) rfl

theorem claim : Cert.Claim :=
  ⟨Cert.Kernel.Gen.facts, Cert.KernelIdeal.Gen.facts, Cert.ReferenceIdeal.Gen.facts, Cert.Pre_finite_KernelIdeal.facts, Cert.Pre_finite_ReferenceIdeal.facts,
    frame_kernel, frame_ideal, fun m g _ => frame_ideal m g trivial, frame_reference, fun m g _ => frame_reference m g trivial, preserves,
    Cert.Join.algebraic (hP := Cert.Pre_finite_KernelIdeal.facts)⟩

end Cert.Proof

end
